-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![1, 1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x32x128 : S_.BroadcastsInDim S1x4096x32x128 (![] : Fin 0 → Fin S1x4096x32x128.rank)

variable [Facts]

def fn {F : FTy → Type} [FloatOps F] (main_arg0 : FVec F S1x256x1024 .f32) (main_arg1 : FVec F S1024x1024 .f32) (main_arg2 : FVec F S1024x1024 .f32) (main_arg3 : FVec F S1x4096x32x128 .f32) (main_arg4 : FVec F S1x4096x32x128 .f32) : IVec S1x256x1024 1 × IVec S1024x1024 1 × IVec S1x4096x32x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x32x128 .f32 := Host.absf main_arg3
  let main_cst_1 : FVec F S_ .f32 := constant S_ .f32 0x7F800000#32
  let main_v7 : FVec F S1x4096x32x128 .f32 := broadcastInDim S1x4096x32x128 ![] bcast_S_S1x4096x32x128 main_cst_1
  let main_v8 : IVec S1x4096x32x128 1 := cmpf .olt main_v6 main_v7
  (main_v2, main_v5, main_v8)
-- ==== Pre_finite_scores_ReferenceIdeal.lean ====
abbrev S1x1024x1024 : Shape := ⟨3, ![1, 1024, 1024]⟩
abbrev S1024x4096 : Shape := ⟨2, ![1024, 4096]⟩
abbrev S4096x1024 : Shape := ⟨2, ![4096, 1024]⟩
abbrev S1x4096x32x128 : Shape := ⟨4, ![1, 4096, 32, 128]⟩
abbrev S_ : Shape := ⟨0, ![]⟩

class Facts : Prop where
  bcast_S_S1x1024x1024 : S_.BroadcastsInDim S1x1024x1024 (![] : Fin 0 → Fin S1x1024x1024.rank)
  bcast_S_S1024x4096 : S_.BroadcastsInDim S1024x4096 (![] : Fin 0 → Fin S1024x4096.rank)
  bcast_S_S1x4096x32x128 : S_.BroadcastsInDim S1x4096x32x128 (![] : Fin 0 → Fin S1x4096x32x128.rank)

variable [Facts]

def fn {F : FTy → Type} [FloatOps F] (main_arg0 : FVec F S1x1024x1024 .f32) (main_arg1 : FVec F S1024x4096 .f32) (main_arg2 : FVec F S4096x1024 .f32) (main_arg3 : FVec F S1x4096x32x128 .f32) (main_arg4 : FVec F S1x4096x32x128 .f32) : IVec S1x1024x1024 1 × IVec S1024x4096 1 × IVec S1x4096x32x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1x4096x32x128 .f32 := Host.absf main_arg3
  let main_cst_1 : FVec F S_ .f32 := constant S_ .f32 0x7F800000#32
  let main_v7 : FVec F S1x4096x32x128 .f32 := broadcastInDim S1x4096x32x128 ![] bcast_S_S1x4096x32x128 main_cst_1
  let main_v8 : IVec S1x4096x32x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S768x1024 : Shape := ⟨2, ![768, 1024]⟩
abbrev S256x1024 : Shape := ⟨2, ![256, 1024]⟩
abbrev S2x512x8x128 : Shape := ⟨4, ![2, 512, 8, 128]⟩
abbrev S2x512x8x256 : Shape := ⟨4, ![2, 512, 8, 256]⟩
abbrev S256x8 : Shape := ⟨2, ![256, 8]⟩
abbrev S3x256x1024 : Shape := ⟨3, ![3, 256, 1024]⟩
abbrev S3 : Shape := ⟨1, ![3]⟩
abbrev S2 : Shape := ⟨1, ![2]⟩
abbrev S2x512x8x1 : Shape := ⟨4, ![2, 512, 8, 1]⟩
abbrev S_ : Shape := ⟨0, ![]⟩
abbrev S1 : Shape := ⟨1, ![1]⟩
abbrev S1x512x8x128 : Shape := ⟨4, ![1, 512, 8, 128]⟩
abbrev S512x8x128 : Shape := ⟨3, ![512, 8, 128]⟩
abbrev S256x128 : Shape := ⟨2, ![256, 128]⟩
abbrev S1x512x1x128 : Shape := ⟨4, ![1, 512, 1, 128]⟩
abbrev S512x128 : Shape := ⟨2, ![512, 128]⟩
abbrev S256x512 : Shape := ⟨2, ![256, 512]⟩
abbrev S1x512x1x256 : Shape := ⟨4, ![1, 512, 1, 256]⟩
abbrev S512x256 : Shape := ⟨2, ![512, 256]⟩
abbrev S256x256 : Shape := ⟨2, ![256, 256]⟩
abbrev S256x1 : Shape := ⟨2, ![256, 1]⟩

abbrev nBuf : Space → Nat
  | .hbm => 6
  | .vmem => 13
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1x4096x32x128, .f32⟩
  | .hbm, ⟨4, _⟩ => ⟨S1x4096x32x128, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S768x1024, .f32⟩
  | .local _ .vmem, ⟨5, _⟩ => ⟨S256x1024, .f32⟩
  | .local _ .vmem, ⟨6, _⟩ => ⟨S2x512x8x128, .f32⟩
  | .local _ .vmem, ⟨7, _⟩ => ⟨S2x512x8x256, .f32⟩
  | .local _ .vmem, ⟨8, _⟩ => ⟨S256x8, .f32⟩
  | .local _ .vmem, ⟨9, _⟩ => ⟨S256x1024, .f32⟩
  | .local _ .vmem, ⟨10, _⟩ => ⟨S256x1024, .f32⟩
  | .local _ .vmem, ⟨11, _⟩ => ⟨S3x256x1024, .f32⟩
  | .local _ .vmem, ⟨12, _⟩ => ⟨S3x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v13 : BitVec 32 := Scalar.addi v2 c1_i32_7
  let c4_i32_8 : BitVec 32 := 4#32
  let c0_i32 : BitVec 32 := 0#32
  let v14 : BitVec 1 := Scalar.cmpi .eq c4_i32_8 c0_i32
  let c1_i32_9 : BitVec 32 := 1#32
  let v15 : BitVec 32 := Scalar.select v14 c1_i32_9 c4_i32_8
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_14 : BitVec 32 := 1#32
  let v24 : BitVec 32 := Scalar.muli v23 c1_i32_14
  let v25 : BitVec 32 := Scalar.addi c0_i32_15 v24
  v25.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_16 : BitVec 32 := 4#32
  let c0_i32_17 : BitVec 32 := 0#32
  let v27 : BitVec 1 := Scalar.cmpi .eq c4_i32_16 c0_i32_17
  let c1_i32_18 : BitVec 32 := 1#32
  let v28 : BitVec 32 := Scalar.select v27 c1_i32_18 c4_i32_16
  let v29 : BitVec 32 := Scalar.remsi v26 v28
  let c0_i32_20 : BitVec 32 := 0#32
  let v31 : BitVec 1 := Scalar.cmpi .slt v29 c0_i32_20
  let c0_i32_21 : BitVec 32 := 0#32
  let v32 : BitVec 1 := Scalar.cmpi .slt v28 c0_i32_21
  let v33 : BitVec 1 := Scalar.xori v31 v32
  let c0_i32_19 : BitVec 32 := 0#32
  let v30 : BitVec 1 := Scalar.cmpi .ne v29 c0_i32_19
  let v34 : BitVec 1 := Scalar.andi v33 v30
  let v35 : BitVec 32 := Scalar.addi v29 v28
  let v36 : BitVec 32 := Scalar.select v34 v35 v29
  let c1_i32_23 : BitVec 32 := 1#32
  let v37 : BitVec 32 := Scalar.muli v36 c1_i32_23
  let v38 : BitVec 32 := Scalar.addi c0_i32_24 v37
  v38.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v39 : BitVec 32 := Scalar.addi v2 c3_i32
  let c4_i32_25 : BitVec 32 := 4#32
  let c0_i32_26 : BitVec 32 := 0#32
  let v40 : BitVec 1 := Scalar.cmpi .eq c4_i32_25 c0_i32_26
  let c1_i32_27 : BitVec 32 := 1#32
  let v41 : BitVec 32 := Scalar.select v40 c1_i32_27 c4_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c1_i32_32 : BitVec 32 := 1#32
  let v50 : BitVec 32 := Scalar.muli v49 c1_i32_32
  let v51 : BitVec 32 := Scalar.addi c0_i32_33 v50
  v51.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v52 : BitVec 32 := Scalar.addi v2 c1_i32_35
  let c4_i32_36 : BitVec 32 := 4#32
  let c0_i32_37 : BitVec 32 := 0#32
  let v53 : BitVec 1 := Scalar.cmpi .eq c4_i32_36 c0_i32_37
  let c1_i32_38 : BitVec 32 := 1#32
  let v54 : BitVec 32 := Scalar.select v53 c1_i32_38 c4_i32_36
  let v55 : BitVec 32 := Scalar.remsi v52 v54
  let c0_i32_40 : BitVec 32 := 0#32
  let v57 : BitVec 1 := Scalar.cmpi .slt v55 c0_i32_40
  let c0_i32_41 : BitVec 32 := 0#32
  let v58 : BitVec 1 := Scalar.cmpi .slt v54 c0_i32_41
  let v59 : BitVec 1 := Scalar.xori v57 v58
  let c0_i32_39 : BitVec 32 := 0#32
  let v56 : BitVec 1 := Scalar.cmpi .ne v55 c0_i32_39
  let v60 : BitVec 1 := Scalar.andi v59 v56
  let v61 : BitVec 32 := Scalar.addi v55 v54
  let v62 : BitVec 32 := Scalar.select v60 v61 v55
  let c1_i32_45 : BitVec 32 := 1#32
  let v63 : BitVec 32 := Scalar.muli v62 c1_i32_45
  let v64 : BitVec 32 := Scalar.addi c0_i32_46 v63
  v64.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_50 : BitVec 32 := 2#32
  let v72 : BitVec 32 := Scalar.addi v2 c2_i32_50
  let c4_i32_51 : BitVec 32 := 4#32
  let c0_i32_52 : BitVec 32 := 0#32
  let v73 : BitVec 1 := Scalar.cmpi .eq c4_i32_51 c0_i32_52
  let c1_i32_53 : BitVec 32 := 1#32
  let v74 : BitVec 32 := Scalar.select v73 c1_i32_53 c4_i32_51
  let v75 : BitVec 32 := Scalar.remsi v72 v74
  let c0_i32_55 : BitVec 32 := 0#32
  let v77 : BitVec 1 := Scalar.cmpi .slt v75 c0_i32_55
  let c0_i32_56 : BitVec 32 := 0#32
  let v78 : BitVec 1 := Scalar.cmpi .slt v74 c0_i32_56
  let v79 : BitVec 1 := Scalar.xori v77 v78
  let c0_i32_54 : BitVec 32 := 0#32
  let v76 : BitVec 1 := Scalar.cmpi .ne v75 c0_i32_54
  let v80 : BitVec 1 := Scalar.andi v79 v76
  let v81 : BitVec 32 := Scalar.addi v75 v74
  let v82 : BitVec 32 := Scalar.select v80 v81 v75
  let c1_i32_60 : BitVec 32 := 1#32
  let v83 : BitVec 32 := Scalar.muli v82 c1_i32_60
  let v84 : BitVec 32 := Scalar.addi c0_i32_61 v83
  v84.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_65 : BitVec 32 := 3#32
  let v92 : BitVec 32 := Scalar.addi v2 c3_i32_65
  let c4_i32_66 : BitVec 32 := 4#32
  let c0_i32_67 : BitVec 32 := 0#32
  let v93 : BitVec 1 := Scalar.cmpi .eq c4_i32_66 c0_i32_67
  let c1_i32_68 : BitVec 32 := 1#32
  let v94 : BitVec 32 := Scalar.select v93 c1_i32_68 c4_i32_66
  let v95 : BitVec 32 := Scalar.remsi v92 v94
  let c0_i32_70 : BitVec 32 := 0#32
  let v97 : BitVec 1 := Scalar.cmpi .slt v95 c0_i32_70
  let c0_i32_71 : BitVec 32 := 0#32
  let v98 : BitVec 1 := Scalar.cmpi .slt v94 c0_i32_71
  let v99 : BitVec 1 := Scalar.xori v97 v98
  let c0_i32_69 : BitVec 32 := 0#32
  let v96 : BitVec 1 := Scalar.cmpi .ne v95 c0_i32_69
  let v100 : BitVec 1 := Scalar.andi v99 v96
  let v101 : BitVec 32 := Scalar.addi v95 v94
  let v102 : BitVec 32 := Scalar.select v100 v101 v95
  let c1_i32_75 : BitVec 32 := 1#32
  let v103 : BitVec 32 := Scalar.muli v102 c1_i32_75
  let v104 : BitVec 32 := Scalar.addi c0_i32_76 v103
  v104.toNat
def k0_off1 (d0 : Dev nD) : Fin 4 → Nat :=
  let c0_i32_81 : BitVec 32 := 0#32
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v3 : BitVec 32 := Scalar.muli v2 c8_i32
  let c0_i32_88 : BitVec 32 := 0#32
  ![0, 0, v3.toNat, 0]
@[reducible] def k0_t1_loop : Scf.Loop 32 :=
  let c0_i32_112 : BitVec 32 := 0#32
  let c8_i32_113 : BitVec 32 := 8#32
  let v142 : BitVec 32 := Scalar.addi c0_i32_112 c8_i32_113
  let c1_i32_114 : BitVec 32 := 1#32
  ⟨c0_i32_112, v142, c1_i32_114⟩
def k0_cond1 (k0_t1 : Fin k0_t1_loop.trips) : BitVec 1 :=
  let c0_i32_112 : BitVec 32 := 0#32
  let c1_i32_114 : BitVec 32 := 1#32
  let arg21 : BitVec 32 := Scf.iv c0_i32_112 c1_i32_114 k0_t1
  let c7_i32 : BitVec 32 := 7#32
  let v675 : BitVec 1 := Scalar.cmpi .slt arg21 c7_i32
  let v676 : BitVec 32 := Scalar.extui v675
  let c0_i32_625 : BitVec 32 := 0#32
  let v677 : BitVec 1 := Scalar.cmpi .ne v676 c0_i32_625
  v677

def k0_off2 (k0_t1 : Fin k0_t1_loop.trips) : Fin 1 → Nat :=
  let c0_i32_112 : BitVec 32 := 0#32
  let c1_i32_114 : BitVec 32 := 1#32
  let arg21 : BitVec 32 := Scf.iv c0_i32_112 c1_i32_114 k0_t1
  let c1_i32_623 : BitVec 32 := 1#32
  let v673 : BitVec 32 := Scalar.addi arg21 c1_i32_623
  let c2_i32_624 : BitVec 32 := 2#32
  let v674 : BitVec 32 := Scalar.remsi v673 c2_i32_624
  ![v674.toNat]
def k0_off3 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c1_i32_623 : BitVec 32 := 1#32
  let v673 : BitVec 32 := Scalar.addi arg21 c1_i32_623
  let c2_i32_624 : BitVec 32 := 2#32
  let v674 : BitVec 32 := Scalar.remsi v673 c2_i32_624
  let c0_i32_785 : BitVec 32 := 0#32
  let c0_i32_786 : BitVec 32 := 0#32
  let c0_i32_787 : BitVec 32 := 0#32
  ![v674.toNat, 0, 0, 0]
def k0_off4 (d0 : Dev nD) (k0_t1 : Fin k0_t1_loop.trips) : Fin 4 → Nat :=
  let c0_i32_784 : BitVec 32 := 0#32
  let c0_i32_112 : BitVec 32 := 0#32
  let c1_i32_114 : BitVec 32 := 1#32
  let arg21 : BitVec 32 := Scf.iv c0_i32_112 c1_i32_114 k0_t1
  let c1_i32_782 : BitVec 32 := 1#32
  let v868 : BitVec 32 := Scalar.addi arg21 c1_i32_782
  let c512_i32_783 : BitVec 32 := 512#32
  let v869 : BitVec 32 := Scalar.muli v868 c512_i32_783
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v3 : BitVec 32 := Scalar.muli v2 c8_i32
  let c0_i32_788 : BitVec 32 := 0#32
  ![0, v869.toNat, v3.toNat, 0]
def k0_off5 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c1_i32_623 : BitVec 32 := 1#32
  let v673 : BitVec 32 := Scalar.addi arg21 c1_i32_623
  let c2_i32_624 : BitVec 32 := 2#32
  let v674 : BitVec 32 := Scalar.remsi v673 c2_i32_624
  let c0_i32_792 : BitVec 32 := 0#32
  let c0_i32_793 : BitVec 32 := 0#32
  let c0_i32_794 : BitVec 32 := 0#32
  ![v674.toNat, 0, 0, 0]
def k0_off6 (k0_t1 : Fin k0_t1_loop.trips) : Fin 1 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  ![v672.toNat]
def k0_off7 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let c0_i32_628 : BitVec 32 := 0#32
  let c0_i32_629 : BitVec 32 := 0#32
  let c0_i32_630 : BitVec 32 := 0#32
  ![v672.toNat, 0, 0, 0]
def k0_off8 (d0 : Dev nD) (k0_t1 : Fin k0_t1_loop.trips) : Fin 4 → Nat :=
  let c0_i32_627 : BitVec 32 := 0#32
  let c0_i32_112 : BitVec 32 := 0#32
  let c1_i32_114 : BitVec 32 := 1#32
  let arg21 : BitVec 32 := Scf.iv c0_i32_112 c1_i32_114 k0_t1
  let c512_i32_626 : BitVec 32 := 512#32
  let v678 : BitVec 32 := Scalar.muli arg21 c512_i32_626
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v3 : BitVec 32 := Scalar.muli v2 c8_i32
  let c0_i32_631 : BitVec 32 := 0#32
  ![0, v678.toNat, v3.toNat, 0]
def k0_off9 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let c0_i32_634 : BitVec 32 := 0#32
  let c0_i32_635 : BitVec 32 := 0#32
  let c0_i32_636 : BitVec 32 := 0#32
  ![v672.toNat, 0, 0, 0]
def k0_off10 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v693 : Index := Scalar.indexCast v672
  let c0_640 : Index := 0#32
  let c0_641 : Index := 0#32
  let c0_642 : Index := 0#32
  ![v693.toNat, 0, 0, 0]
def k0_off11 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v698 : Index := Scalar.indexCast v672
  let c0_644 : Index := 0#32
  let c0_645 : Index := 0#32
  let c0_646 : Index := 0#32
  ![v698.toNat, 0, 0, 0]
def k0_off12 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v715 : Index := Scalar.indexCast v672
  let c0_658 : Index := 0#32
  let c1_659 : Index := 1#32
  let c0_660 : Index := 0#32
  ![v715.toNat, 0, 1, 0]
def k0_off13 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v720 : Index := Scalar.indexCast v672
  let c0_662 : Index := 0#32
  let c1_663 : Index := 1#32
  let c0_664 : Index := 0#32
  ![v720.toNat, 0, 1, 0]
def k0_off14 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v737 : Index := Scalar.indexCast v672
  let c0_676 : Index := 0#32
  let c2_677 : Index := 2#32
  let c0_678 : Index := 0#32
  ![v737.toNat, 0, 2, 0]
def k0_off15 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v742 : Index := Scalar.indexCast v672
  let c0_680 : Index := 0#32
  let c2_681 : Index := 2#32
  let c0_682 : Index := 0#32
  ![v742.toNat, 0, 2, 0]
def k0_off16 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v759 : Index := Scalar.indexCast v672
  let c0_694 : Index := 0#32
  let c3_695 : Index := 3#32
  let c0_696 : Index := 0#32
  ![v759.toNat, 0, 3, 0]
def k0_off17 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v764 : Index := Scalar.indexCast v672
  let c0_698 : Index := 0#32
  let c3_699 : Index := 3#32
  let c0_700 : Index := 0#32
  ![v764.toNat, 0, 3, 0]
def k0_off18 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v781 : Index := Scalar.indexCast v672
  let c0_712 : Index := 0#32
  let c4_713 : Index := 4#32
  let c0_714 : Index := 0#32
  ![v781.toNat, 0, 4, 0]
def k0_off19 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v786 : Index := Scalar.indexCast v672
  let c0_716 : Index := 0#32
  let c4_717 : Index := 4#32
  let c0_718 : Index := 0#32
  ![v786.toNat, 0, 4, 0]
def k0_off20 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v803 : Index := Scalar.indexCast v672
  let c0_730 : Index := 0#32
  let c5_731 : Index := 5#32
  let c0_732 : Index := 0#32
  ![v803.toNat, 0, 5, 0]
def k0_off21 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v808 : Index := Scalar.indexCast v672
  let c0_734 : Index := 0#32
  let c5_735 : Index := 5#32
  let c0_736 : Index := 0#32
  ![v808.toNat, 0, 5, 0]
def k0_off22 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v825 : Index := Scalar.indexCast v672
  let c0_748 : Index := 0#32
  let c6_749 : Index := 6#32
  let c0_750 : Index := 0#32
  ![v825.toNat, 0, 6, 0]
def k0_off23 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v830 : Index := Scalar.indexCast v672
  let c0_752 : Index := 0#32
  let c6_753 : Index := 6#32
  let c0_754 : Index := 0#32
  ![v830.toNat, 0, 6, 0]
def k0_off24 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v847 : Index := Scalar.indexCast v672
  let c0_766 : Index := 0#32
  let c7_767 : Index := 7#32
  let c0_768 : Index := 0#32
  ![v847.toNat, 0, 7, 0]
def k0_off25 (k0_t1 : Fin k0_t1_loop.trips) : Fin 4 → Nat :=
  let c0_i32_112 : BitVec 32 := 0#32
  let c1_i32_114 : BitVec 32 := 1#32
  let arg21 : BitVec 32 := Scf.iv c0_i32_112 c1_i32_114 k0_t1
  let c2_i32_622 : BitVec 32 := 2#32
  let v672 : BitVec 32 := Scalar.remsi arg21 c2_i32_622
  let v852 : Index := Scalar.indexCast v672
  let c0_770 : Index := 0#32
  let c7_771 : Index := 7#32
  let c0_772 : Index := 0#32
  ![v852.toNat, 0, 7, 0]
@[reducible] def k0_t2_loop : Scf.Loop 32 :=
  let c0_i32_197 : BitVec 32 := 0#32
  let c8_i32_198 : BitVec 32 := 8#32
  let v242 : BitVec 32 := Scalar.addi c0_i32_197 c8_i32_198
  let c1_i32_199 : BitVec 32 := 1#32
  ⟨c0_i32_197, v242, c1_i32_199⟩
def k0_cond2 (k0_t2 : Fin k0_t2_loop.trips) : BitVec 1 :=
  let c0_i32_197 : BitVec 32 := 0#32
  let c1_i32_199 : BitVec 32 := 1#32
  let arg21 : BitVec 32 := Scf.iv c0_i32_197 c1_i32_199 k0_t2
  let c7_i32 : BitVec 32 := 7#32
  let v675 : BitVec 1 := Scalar.cmpi .slt arg21 c7_i32
  let v676 : BitVec 32 := Scalar.extui v675
  let c0_i32_625 : BitVec 32 := 0#32
  let v677 : BitVec 1 := Scalar.cmpi .ne v676 c0_i32_625
  v677

def k0_off26 (k0_t2 : Fin k0_t2_loop.trips) : Fin 1 → Nat :=
  let c0_i32_197 : BitVec 32 := 0#32
  let c1_i32_199 : BitVec 32 := 1#32
  let arg21 : BitVec 32 := Scf.iv c0_i32_197 c1_i32_199 k0_t2
  let c1_i32_623 : BitVec 32 := 1#32
  let v673 : BitVec 32 := Scalar.addi arg21 c1_i32_623
  let c2_i32_624 : BitVec 32 := 2#32
  let v674 : BitVec 32 := Scalar.remsi v673 c2_i32_624
  ![v674.toNat]
def k0_off27 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c1_i32_623 : BitVec 32 := 1#32
  let v673 : BitVec 32 := Scalar.addi arg21 c1_i32_623
  let c2_i32_624 : BitVec 32 := 2#32
  let v674 : BitVec 32 := Scalar.remsi v673 c2_i32_624
  let c0_i32_785 : BitVec 32 := 0#32
  let c0_i32_786 : BitVec 32 := 0#32
  let c0_i32_787 : BitVec 32 := 0#32
  ![v674.toNat, 0, 0, 0]
def k0_off28 (d0 : Dev nD) (k0_t2 : Fin k0_t2_loop.trips) : Fin 4 → Nat :=
  let c0_i32_784 : BitVec 32 := 0#32
  let c0_i32_197 : BitVec 32 := 0#32
  let c1_i32_199 : BitVec 32 := 1#32
  let arg21 : BitVec 32 := Scf.iv c0_i32_197 c1_i32_199 k0_t2
  let c1_i32_782 : BitVec 32 := 1#32
  let v868 : BitVec 32 := Scalar.addi arg21 c1_i32_782
  let c512_i32_783 : BitVec 32 := 512#32
  let v869 : BitVec 32 := Scalar.muli v868 c512_i32_783
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v3 : BitVec 32 := Scalar.muli v2 c8_i32
  let c0_i32_788 : BitVec 32 := 0#32
  ![0, v869.toNat, v3.toNat, 0]
def k0_off29 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c1_i32_623 : BitVec 32 := 1#32
  let v673 : BitVec 32 := Scalar.addi arg21 c1_i32_623
  let c2_i32_624 : BitVec 32 := 2#32
  let v674 : BitVec 32 := Scalar.remsi v673 c2_i32_624
  let c0_i32_792 : BitVec 32 := 0#32
  let c0_i32_793 : BitVec 32 := 0#32
  let c0_i32_794 : BitVec 32 := 0#32
  ![v674.toNat, 0, 0, 0]
def k0_off30 (k0_t2 : Fin k0_t2_loop.trips) : Fin 1 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  ![v672.toNat]
def k0_off31 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let c0_i32_628 : BitVec 32 := 0#32
  let c0_i32_629 : BitVec 32 := 0#32
  let c0_i32_630 : BitVec 32 := 0#32
  ![v672.toNat, 0, 0, 0]
def k0_off32 (d0 : Dev nD) (k0_t2 : Fin k0_t2_loop.trips) : Fin 4 → Nat :=
  let c0_i32_627 : BitVec 32 := 0#32
  let c0_i32_197 : BitVec 32 := 0#32
  let c1_i32_199 : BitVec 32 := 1#32
  let arg21 : BitVec 32 := Scf.iv c0_i32_197 c1_i32_199 k0_t2
  let c512_i32_626 : BitVec 32 := 512#32
  let v678 : BitVec 32 := Scalar.muli arg21 c512_i32_626
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v3 : BitVec 32 := Scalar.muli v2 c8_i32
  let c0_i32_631 : BitVec 32 := 0#32
  ![0, v678.toNat, v3.toNat, 0]
def k0_off33 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let c0_i32_634 : BitVec 32 := 0#32
  let c0_i32_635 : BitVec 32 := 0#32
  let c0_i32_636 : BitVec 32 := 0#32
  ![v672.toNat, 0, 0, 0]
def k0_off34 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v693 : Index := Scalar.indexCast v672
  let c0_640 : Index := 0#32
  let c0_641 : Index := 0#32
  let c0_642 : Index := 0#32
  ![v693.toNat, 0, 0, 0]
def k0_off35 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v698 : Index := Scalar.indexCast v672
  let c0_644 : Index := 0#32
  let c0_645 : Index := 0#32
  let c0_646 : Index := 0#32
  ![v698.toNat, 0, 0, 0]
def k0_off36 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v715 : Index := Scalar.indexCast v672
  let c0_658 : Index := 0#32
  let c1_659 : Index := 1#32
  let c0_660 : Index := 0#32
  ![v715.toNat, 0, 1, 0]
def k0_off37 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v720 : Index := Scalar.indexCast v672
  let c0_662 : Index := 0#32
  let c1_663 : Index := 1#32
  let c0_664 : Index := 0#32
  ![v720.toNat, 0, 1, 0]
def k0_off38 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v737 : Index := Scalar.indexCast v672
  let c0_676 : Index := 0#32
  let c2_677 : Index := 2#32
  let c0_678 : Index := 0#32
  ![v737.toNat, 0, 2, 0]
def k0_off39 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v742 : Index := Scalar.indexCast v672
  let c0_680 : Index := 0#32
  let c2_681 : Index := 2#32
  let c0_682 : Index := 0#32
  ![v742.toNat, 0, 2, 0]
def k0_off40 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v759 : Index := Scalar.indexCast v672
  let c0_694 : Index := 0#32
  let c3_695 : Index := 3#32
  let c0_696 : Index := 0#32
  ![v759.toNat, 0, 3, 0]
def k0_off41 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v764 : Index := Scalar.indexCast v672
  let c0_698 : Index := 0#32
  let c3_699 : Index := 3#32
  let c0_700 : Index := 0#32
  ![v764.toNat, 0, 3, 0]
def k0_off42 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v781 : Index := Scalar.indexCast v672
  let c0_712 : Index := 0#32
  let c4_713 : Index := 4#32
  let c0_714 : Index := 0#32
  ![v781.toNat, 0, 4, 0]
def k0_off43 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v786 : Index := Scalar.indexCast v672
  let c0_716 : Index := 0#32
  let c4_717 : Index := 4#32
  let c0_718 : Index := 0#32
  ![v786.toNat, 0, 4, 0]
def k0_off44 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v803 : Index := Scalar.indexCast v672
  let c0_730 : Index := 0#32
  let c5_731 : Index := 5#32
  let c0_732 : Index := 0#32
  ![v803.toNat, 0, 5, 0]
def k0_off45 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v808 : Index := Scalar.indexCast v672
  let c0_734 : Index := 0#32
  let c5_735 : Index := 5#32
  let c0_736 : Index := 0#32
  ![v808.toNat, 0, 5, 0]
def k0_off46 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v825 : Index := Scalar.indexCast v672
  let c0_748 : Index := 0#32
  let c6_749 : Index := 6#32
  let c0_750 : Index := 0#32
  ![v825.toNat, 0, 6, 0]
def k0_off47 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v830 : Index := Scalar.indexCast v672
  let c0_752 : Index := 0#32
  let c6_753 : Index := 6#32
  let c0_754 : Index := 0#32
  ![v830.toNat, 0, 6, 0]
def k0_off48 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v847 : Index := Scalar.indexCast v672
  let c0_766 : Index := 0#32
  let c7_767 : Index := 7#32
  let c0_768 : Index := 0#32
  ![v847.toNat, 0, 7, 0]
def k0_off49 (k0_t2 : Fin k0_t2_loop.trips) : Fin 4 → Nat :=
  let c0_i32_197 : BitVec 32 := 0#32
  let c1_i32_199 : BitVec 32 := 1#32
  let arg21 : BitVec 32 := Scf.iv c0_i32_197 c1_i32_199 k0_t2
  let c2_i32_622 : BitVec 32 := 2#32
  let v672 : BitVec 32 := Scalar.remsi arg21 c2_i32_622
  let v852 : Index := Scalar.indexCast v672
  let c0_770 : Index := 0#32
  let c7_771 : Index := 7#32
  let c0_772 : Index := 0#32
  ![v852.toNat, 0, 7, 0]
def k0_dev7 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_257 : BitVec 32 := 1#32
  let v306 : BitVec 32 := Scalar.addi v2 c1_i32_257
  let c4_i32_258 : BitVec 32 := 4#32
  let c0_i32_259 : BitVec 32 := 0#32
  let v307 : BitVec 1 := Scalar.cmpi .eq c4_i32_258 c0_i32_259
  let c1_i32_260 : BitVec 32 := 1#32
  let v308 : BitVec 32 := Scalar.select v307 c1_i32_260 c4_i32_258
  let v309 : BitVec 32 := Scalar.remsi v306 v308
  let c0_i32_262 : BitVec 32 := 0#32
  let v311 : BitVec 1 := Scalar.cmpi .slt v309 c0_i32_262
  let c0_i32_263 : BitVec 32 := 0#32
  let v312 : BitVec 1 := Scalar.cmpi .slt v308 c0_i32_263
  let v313 : BitVec 1 := Scalar.xori v311 v312
  let c0_i32_261 : BitVec 32 := 0#32
  let v310 : BitVec 1 := Scalar.cmpi .ne v309 c0_i32_261
  let v314 : BitVec 1 := Scalar.andi v313 v310
  let v315 : BitVec 32 := Scalar.addi v309 v308
  let v316 : BitVec 32 := Scalar.select v314 v315 v309
  let c1_i32_268 : BitVec 32 := 1#32
  let v317 : BitVec 32 := Scalar.muli v316 c1_i32_268
  let v318 : BitVec 32 := Scalar.addi c0_i32_269 v317
  v318.toNat
@[reducible] def k0_t3_loop : Scf.Loop 32 :=
  let c0_i32_313 : BitVec 32 := 0#32
  let c8_i32_314 : BitVec 32 := 8#32
  let v363 : BitVec 32 := Scalar.addi c0_i32_313 c8_i32_314
  let c1_i32_315 : BitVec 32 := 1#32
  ⟨c0_i32_313, v363, c1_i32_315⟩
def k0_cond3 (k0_t3 : Fin k0_t3_loop.trips) : BitVec 1 :=
  let c0_i32_313 : BitVec 32 := 0#32
  let c1_i32_315 : BitVec 32 := 1#32
  let arg21 : BitVec 32 := Scf.iv c0_i32_313 c1_i32_315 k0_t3
  let c7_i32 : BitVec 32 := 7#32
  let v675 : BitVec 1 := Scalar.cmpi .slt arg21 c7_i32
  let v676 : BitVec 32 := Scalar.extui v675
  let c0_i32_625 : BitVec 32 := 0#32
  let v677 : BitVec 1 := Scalar.cmpi .ne v676 c0_i32_625
  v677

def k0_off50 (k0_t3 : Fin k0_t3_loop.trips) : Fin 1 → Nat :=
  let c0_i32_313 : BitVec 32 := 0#32
  let c1_i32_315 : BitVec 32 := 1#32
  let arg21 : BitVec 32 := Scf.iv c0_i32_313 c1_i32_315 k0_t3
  let c1_i32_623 : BitVec 32 := 1#32
  let v673 : BitVec 32 := Scalar.addi arg21 c1_i32_623
  let c2_i32_624 : BitVec 32 := 2#32
  let v674 : BitVec 32 := Scalar.remsi v673 c2_i32_624
  ![v674.toNat]
def k0_off51 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c1_i32_623 : BitVec 32 := 1#32
  let v673 : BitVec 32 := Scalar.addi arg21 c1_i32_623
  let c2_i32_624 : BitVec 32 := 2#32
  let v674 : BitVec 32 := Scalar.remsi v673 c2_i32_624
  let c0_i32_785 : BitVec 32 := 0#32
  let c0_i32_786 : BitVec 32 := 0#32
  let c0_i32_787 : BitVec 32 := 0#32
  ![v674.toNat, 0, 0, 0]
def k0_off52 (d0 : Dev nD) (k0_t3 : Fin k0_t3_loop.trips) : Fin 4 → Nat :=
  let c0_i32_784 : BitVec 32 := 0#32
  let c0_i32_313 : BitVec 32 := 0#32
  let c1_i32_315 : BitVec 32 := 1#32
  let arg21 : BitVec 32 := Scf.iv c0_i32_313 c1_i32_315 k0_t3
  let c1_i32_782 : BitVec 32 := 1#32
  let v868 : BitVec 32 := Scalar.addi arg21 c1_i32_782
  let c512_i32_783 : BitVec 32 := 512#32
  let v869 : BitVec 32 := Scalar.muli v868 c512_i32_783
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v3 : BitVec 32 := Scalar.muli v2 c8_i32
  let c0_i32_788 : BitVec 32 := 0#32
  ![0, v869.toNat, v3.toNat, 0]
def k0_off53 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c1_i32_623 : BitVec 32 := 1#32
  let v673 : BitVec 32 := Scalar.addi arg21 c1_i32_623
  let c2_i32_624 : BitVec 32 := 2#32
  let v674 : BitVec 32 := Scalar.remsi v673 c2_i32_624
  let c0_i32_792 : BitVec 32 := 0#32
  let c0_i32_793 : BitVec 32 := 0#32
  let c0_i32_794 : BitVec 32 := 0#32
  ![v674.toNat, 0, 0, 0]
def k0_off54 (k0_t3 : Fin k0_t3_loop.trips) : Fin 1 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  ![v672.toNat]
def k0_off55 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let c0_i32_628 : BitVec 32 := 0#32
  let c0_i32_629 : BitVec 32 := 0#32
  let c0_i32_630 : BitVec 32 := 0#32
  ![v672.toNat, 0, 0, 0]
def k0_off56 (d0 : Dev nD) (k0_t3 : Fin k0_t3_loop.trips) : Fin 4 → Nat :=
  let c0_i32_627 : BitVec 32 := 0#32
  let c0_i32_313 : BitVec 32 := 0#32
  let c1_i32_315 : BitVec 32 := 1#32
  let arg21 : BitVec 32 := Scf.iv c0_i32_313 c1_i32_315 k0_t3
  let c512_i32_626 : BitVec 32 := 512#32
  let v678 : BitVec 32 := Scalar.muli arg21 c512_i32_626
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v3 : BitVec 32 := Scalar.muli v2 c8_i32
  let c0_i32_631 : BitVec 32 := 0#32
  ![0, v678.toNat, v3.toNat, 0]
def k0_off57 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let c0_i32_634 : BitVec 32 := 0#32
  let c0_i32_635 : BitVec 32 := 0#32
  let c0_i32_636 : BitVec 32 := 0#32
  ![v672.toNat, 0, 0, 0]
def k0_off58 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v693 : Index := Scalar.indexCast v672
  let c0_640 : Index := 0#32
  let c0_641 : Index := 0#32
  let c0_642 : Index := 0#32
  ![v693.toNat, 0, 0, 0]
def k0_off59 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v698 : Index := Scalar.indexCast v672
  let c0_644 : Index := 0#32
  let c0_645 : Index := 0#32
  let c0_646 : Index := 0#32
  ![v698.toNat, 0, 0, 0]
def k0_off60 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v715 : Index := Scalar.indexCast v672
  let c0_658 : Index := 0#32
  let c1_659 : Index := 1#32
  let c0_660 : Index := 0#32
  ![v715.toNat, 0, 1, 0]
def k0_off61 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v720 : Index := Scalar.indexCast v672
  let c0_662 : Index := 0#32
  let c1_663 : Index := 1#32
  let c0_664 : Index := 0#32
  ![v720.toNat, 0, 1, 0]
def k0_off62 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v737 : Index := Scalar.indexCast v672
  let c0_676 : Index := 0#32
  let c2_677 : Index := 2#32
  let c0_678 : Index := 0#32
  ![v737.toNat, 0, 2, 0]
def k0_off63 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v742 : Index := Scalar.indexCast v672
  let c0_680 : Index := 0#32
  let c2_681 : Index := 2#32
  let c0_682 : Index := 0#32
  ![v742.toNat, 0, 2, 0]
def k0_off64 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v759 : Index := Scalar.indexCast v672
  let c0_694 : Index := 0#32
  let c3_695 : Index := 3#32
  let c0_696 : Index := 0#32
  ![v759.toNat, 0, 3, 0]
def k0_off65 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v764 : Index := Scalar.indexCast v672
  let c0_698 : Index := 0#32
  let c3_699 : Index := 3#32
  let c0_700 : Index := 0#32
  ![v764.toNat, 0, 3, 0]
def k0_off66 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v781 : Index := Scalar.indexCast v672
  let c0_712 : Index := 0#32
  let c4_713 : Index := 4#32
  let c0_714 : Index := 0#32
  ![v781.toNat, 0, 4, 0]
def k0_off67 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v786 : Index := Scalar.indexCast v672
  let c0_716 : Index := 0#32
  let c4_717 : Index := 4#32
  let c0_718 : Index := 0#32
  ![v786.toNat, 0, 4, 0]
def k0_off68 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v803 : Index := Scalar.indexCast v672
  let c0_730 : Index := 0#32
  let c5_731 : Index := 5#32
  let c0_732 : Index := 0#32
  ![v803.toNat, 0, 5, 0]
def k0_off69 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v808 : Index := Scalar.indexCast v672
  let c0_734 : Index := 0#32
  let c5_735 : Index := 5#32
  let c0_736 : Index := 0#32
  ![v808.toNat, 0, 5, 0]
def k0_off70 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v825 : Index := Scalar.indexCast v672
  let c0_748 : Index := 0#32
  let c6_749 : Index := 6#32
  let c0_750 : Index := 0#32
  ![v825.toNat, 0, 6, 0]
def k0_off71 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v830 : Index := Scalar.indexCast v672
  let c0_752 : Index := 0#32
  let c6_753 : Index := 6#32
  let c0_754 : Index := 0#32
  ![v830.toNat, 0, 6, 0]
def k0_off72 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v847 : Index := Scalar.indexCast v672
  let c0_766 : Index := 0#32
  let c7_767 : Index := 7#32
  let c0_768 : Index := 0#32
  ![v847.toNat, 0, 7, 0]
def k0_off73 (k0_t3 : Fin k0_t3_loop.trips) : Fin 4 → Nat :=
  let c0_i32_313 : BitVec 32 := 0#32
  let c1_i32_315 : BitVec 32 := 1#32
  let arg21 : BitVec 32 := Scf.iv c0_i32_313 c1_i32_315 k0_t3
  let c2_i32_622 : BitVec 32 := 2#32
  let v672 : BitVec 32 := Scalar.remsi arg21 c2_i32_622
  let v852 : Index := Scalar.indexCast v672
  let c0_770 : Index := 0#32
  let c7_771 : Index := 7#32
  let c0_772 : Index := 0#32
  ![v852.toNat, 0, 7, 0]
def k0_dev8 (d0 : Dev nD) : Nat :=
  let c0_i32_385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_373 : BitVec 32 := 2#32
  let v427 : BitVec 32 := Scalar.addi v2 c2_i32_373
  let c4_i32_374 : BitVec 32 := 4#32
  let c0_i32_375 : BitVec 32 := 0#32
  let v428 : BitVec 1 := Scalar.cmpi .eq c4_i32_374 c0_i32_375
  let c1_i32_376 : BitVec 32 := 1#32
  let v429 : BitVec 32 := Scalar.select v428 c1_i32_376 c4_i32_374
  let v430 : BitVec 32 := Scalar.remsi v427 v429
  let c0_i32_378 : BitVec 32 := 0#32
  let v432 : BitVec 1 := Scalar.cmpi .slt v430 c0_i32_378
  let c0_i32_379 : BitVec 32 := 0#32
  let v433 : BitVec 1 := Scalar.cmpi .slt v429 c0_i32_379
  let v434 : BitVec 1 := Scalar.xori v432 v433
  let c0_i32_377 : BitVec 32 := 0#32
  let v431 : BitVec 1 := Scalar.cmpi .ne v430 c0_i32_377
  let v435 : BitVec 1 := Scalar.andi v434 v431
  let v436 : BitVec 32 := Scalar.addi v430 v429
  let v437 : BitVec 32 := Scalar.select v435 v436 v430
  let c1_i32_384 : BitVec 32 := 1#32
  let v438 : BitVec 32 := Scalar.muli v437 c1_i32_384
  let v439 : BitVec 32 := Scalar.addi c0_i32_385 v438
  v439.toNat
@[reducible] def k0_t4_loop : Scf.Loop 32 :=
  let c0_i32_429 : BitVec 32 := 0#32
  let c8_i32_430 : BitVec 32 := 8#32
  let v484 : BitVec 32 := Scalar.addi c0_i32_429 c8_i32_430
  let c1_i32_431 : BitVec 32 := 1#32
  ⟨c0_i32_429, v484, c1_i32_431⟩
def k0_cond4 (k0_t4 : Fin k0_t4_loop.trips) : BitVec 1 :=
  let c0_i32_429 : BitVec 32 := 0#32
  let c1_i32_431 : BitVec 32 := 1#32
  let arg21 : BitVec 32 := Scf.iv c0_i32_429 c1_i32_431 k0_t4
  let c7_i32 : BitVec 32 := 7#32
  let v675 : BitVec 1 := Scalar.cmpi .slt arg21 c7_i32
  let v676 : BitVec 32 := Scalar.extui v675
  let c0_i32_625 : BitVec 32 := 0#32
  let v677 : BitVec 1 := Scalar.cmpi .ne v676 c0_i32_625
  v677

def k0_off74 (k0_t4 : Fin k0_t4_loop.trips) : Fin 1 → Nat :=
  let c0_i32_429 : BitVec 32 := 0#32
  let c1_i32_431 : BitVec 32 := 1#32
  let arg21 : BitVec 32 := Scf.iv c0_i32_429 c1_i32_431 k0_t4
  let c1_i32_623 : BitVec 32 := 1#32
  let v673 : BitVec 32 := Scalar.addi arg21 c1_i32_623
  let c2_i32_624 : BitVec 32 := 2#32
  let v674 : BitVec 32 := Scalar.remsi v673 c2_i32_624
  ![v674.toNat]
def k0_off75 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c1_i32_623 : BitVec 32 := 1#32
  let v673 : BitVec 32 := Scalar.addi arg21 c1_i32_623
  let c2_i32_624 : BitVec 32 := 2#32
  let v674 : BitVec 32 := Scalar.remsi v673 c2_i32_624
  let c0_i32_785 : BitVec 32 := 0#32
  let c0_i32_786 : BitVec 32 := 0#32
  let c0_i32_787 : BitVec 32 := 0#32
  ![v674.toNat, 0, 0, 0]
def k0_off76 (d0 : Dev nD) (k0_t4 : Fin k0_t4_loop.trips) : Fin 4 → Nat :=
  let c0_i32_784 : BitVec 32 := 0#32
  let c0_i32_429 : BitVec 32 := 0#32
  let c1_i32_431 : BitVec 32 := 1#32
  let arg21 : BitVec 32 := Scf.iv c0_i32_429 c1_i32_431 k0_t4
  let c1_i32_782 : BitVec 32 := 1#32
  let v868 : BitVec 32 := Scalar.addi arg21 c1_i32_782
  let c512_i32_783 : BitVec 32 := 512#32
  let v869 : BitVec 32 := Scalar.muli v868 c512_i32_783
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v3 : BitVec 32 := Scalar.muli v2 c8_i32
  let c0_i32_788 : BitVec 32 := 0#32
  ![0, v869.toNat, v3.toNat, 0]
def k0_off77 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c1_i32_623 : BitVec 32 := 1#32
  let v673 : BitVec 32 := Scalar.addi arg21 c1_i32_623
  let c2_i32_624 : BitVec 32 := 2#32
  let v674 : BitVec 32 := Scalar.remsi v673 c2_i32_624
  let c0_i32_792 : BitVec 32 := 0#32
  let c0_i32_793 : BitVec 32 := 0#32
  let c0_i32_794 : BitVec 32 := 0#32
  ![v674.toNat, 0, 0, 0]
def k0_off78 (k0_t4 : Fin k0_t4_loop.trips) : Fin 1 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  ![v672.toNat]
def k0_off79 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let c0_i32_628 : BitVec 32 := 0#32
  let c0_i32_629 : BitVec 32 := 0#32
  let c0_i32_630 : BitVec 32 := 0#32
  ![v672.toNat, 0, 0, 0]
def k0_off80 (d0 : Dev nD) (k0_t4 : Fin k0_t4_loop.trips) : Fin 4 → Nat :=
  let c0_i32_627 : BitVec 32 := 0#32
  let c0_i32_429 : BitVec 32 := 0#32
  let c1_i32_431 : BitVec 32 := 1#32
  let arg21 : BitVec 32 := Scf.iv c0_i32_429 c1_i32_431 k0_t4
  let c512_i32_626 : BitVec 32 := 512#32
  let v678 : BitVec 32 := Scalar.muli arg21 c512_i32_626
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v3 : BitVec 32 := Scalar.muli v2 c8_i32
  let c0_i32_631 : BitVec 32 := 0#32
  ![0, v678.toNat, v3.toNat, 0]
def k0_off81 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let c0_i32_634 : BitVec 32 := 0#32
  let c0_i32_635 : BitVec 32 := 0#32
  let c0_i32_636 : BitVec 32 := 0#32
  ![v672.toNat, 0, 0, 0]
def k0_off82 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v693 : Index := Scalar.indexCast v672
  let c0_640 : Index := 0#32
  let c0_641 : Index := 0#32
  let c0_642 : Index := 0#32
  ![v693.toNat, 0, 0, 0]
def k0_off83 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v698 : Index := Scalar.indexCast v672
  let c0_644 : Index := 0#32
  let c0_645 : Index := 0#32
  let c0_646 : Index := 0#32
  ![v698.toNat, 0, 0, 0]
def k0_off84 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v715 : Index := Scalar.indexCast v672
  let c0_658 : Index := 0#32
  let c1_659 : Index := 1#32
  let c0_660 : Index := 0#32
  ![v715.toNat, 0, 1, 0]
def k0_off85 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v720 : Index := Scalar.indexCast v672
  let c0_662 : Index := 0#32
  let c1_663 : Index := 1#32
  let c0_664 : Index := 0#32
  ![v720.toNat, 0, 1, 0]
def k0_off86 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v737 : Index := Scalar.indexCast v672
  let c0_676 : Index := 0#32
  let c2_677 : Index := 2#32
  let c0_678 : Index := 0#32
  ![v737.toNat, 0, 2, 0]
def k0_off87 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v742 : Index := Scalar.indexCast v672
  let c0_680 : Index := 0#32
  let c2_681 : Index := 2#32
  let c0_682 : Index := 0#32
  ![v742.toNat, 0, 2, 0]
def k0_off88 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v759 : Index := Scalar.indexCast v672
  let c0_694 : Index := 0#32
  let c3_695 : Index := 3#32
  let c0_696 : Index := 0#32
  ![v759.toNat, 0, 3, 0]
def k0_off89 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v764 : Index := Scalar.indexCast v672
  let c0_698 : Index := 0#32
  let c3_699 : Index := 3#32
  let c0_700 : Index := 0#32
  ![v764.toNat, 0, 3, 0]
def k0_off90 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v781 : Index := Scalar.indexCast v672
  let c0_712 : Index := 0#32
  let c4_713 : Index := 4#32
  let c0_714 : Index := 0#32
  ![v781.toNat, 0, 4, 0]
def k0_off91 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v786 : Index := Scalar.indexCast v672
  let c0_716 : Index := 0#32
  let c4_717 : Index := 4#32
  let c0_718 : Index := 0#32
  ![v786.toNat, 0, 4, 0]
def k0_off92 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v803 : Index := Scalar.indexCast v672
  let c0_730 : Index := 0#32
  let c5_731 : Index := 5#32
  let c0_732 : Index := 0#32
  ![v803.toNat, 0, 5, 0]
def k0_off93 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v808 : Index := Scalar.indexCast v672
  let c0_734 : Index := 0#32
  let c5_735 : Index := 5#32
  let c0_736 : Index := 0#32
  ![v808.toNat, 0, 5, 0]
def k0_off94 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v825 : Index := Scalar.indexCast v672
  let c0_748 : Index := 0#32
  let c6_749 : Index := 6#32
  let c0_750 : Index := 0#32
  ![v825.toNat, 0, 6, 0]
def k0_off95 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v830 : Index := Scalar.indexCast v672
  let c0_752 : Index := 0#32
  let c6_753 : Index := 6#32
  let c0_754 : Index := 0#32
  ![v830.toNat, 0, 6, 0]
def k0_off96 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v847 : Index := Scalar.indexCast v672
  let c0_766 : Index := 0#32
  let c7_767 : Index := 7#32
  let c0_768 : Index := 0#32
  ![v847.toNat, 0, 7, 0]
def k0_off97 (k0_t4 : Fin k0_t4_loop.trips) : Fin 4 → Nat :=
  let c0_i32_429 : BitVec 32 := 0#32
  let c1_i32_431 : BitVec 32 := 1#32
  let arg21 : BitVec 32 := Scf.iv c0_i32_429 c1_i32_431 k0_t4
  let c2_i32_622 : BitVec 32 := 2#32
  let v672 : BitVec 32 := Scalar.remsi arg21 c2_i32_622
  let v852 : Index := Scalar.indexCast v672
  let c0_770 : Index := 0#32
  let c7_771 : Index := 7#32
  let c0_772 : Index := 0#32
  ![v852.toNat, 0, 7, 0]
def k0_dev9 (d0 : Dev nD) : Nat :=
  let c0_i32_501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_489 : BitVec 32 := 3#32
  let v548 : BitVec 32 := Scalar.addi v2 c3_i32_489
  let c4_i32_490 : BitVec 32 := 4#32
  let c0_i32_491 : BitVec 32 := 0#32
  let v549 : BitVec 1 := Scalar.cmpi .eq c4_i32_490 c0_i32_491
  let c1_i32_492 : BitVec 32 := 1#32
  let v550 : BitVec 32 := Scalar.select v549 c1_i32_492 c4_i32_490
  let v551 : BitVec 32 := Scalar.remsi v548 v550
  let c0_i32_494 : BitVec 32 := 0#32
  let v553 : BitVec 1 := Scalar.cmpi .slt v551 c0_i32_494
  let c0_i32_495 : BitVec 32 := 0#32
  let v554 : BitVec 1 := Scalar.cmpi .slt v550 c0_i32_495
  let v555 : BitVec 1 := Scalar.xori v553 v554
  let c0_i32_493 : BitVec 32 := 0#32
  let v552 : BitVec 1 := Scalar.cmpi .ne v551 c0_i32_493
  let v556 : BitVec 1 := Scalar.andi v555 v552
  let v557 : BitVec 32 := Scalar.addi v551 v550
  let v558 : BitVec 32 := Scalar.select v556 v557 v551
  let c1_i32_500 : BitVec 32 := 1#32
  let v559 : BitVec 32 := Scalar.muli v558 c1_i32_500
  let v560 : BitVec 32 := Scalar.addi c0_i32_501 v559
  v560.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x4096 : Shape := ⟨2, ![1024, 4096]⟩
abbrev S4096x1024 : Shape := ⟨2, ![4096, 1024]⟩
abbrev S1x4096x32x128 : Shape := ⟨4, ![1, 4096, 32, 128]⟩
abbrev S1x1024x4096 : Shape := ⟨3, ![1, 1024, 4096]⟩
abbrev S1x1024x32x128 : Shape := ⟨4, ![1, 1024, 32, 128]⟩
abbrev S_ : Shape := ⟨0, ![]⟩
abbrev S1x32x1024x1 : Shape := ⟨4, ![1, 32, 1024, 1]⟩
abbrev S1x32x1024x1024 : Shape := ⟨4, ![1, 32, 1024, 1024]⟩
abbrev S1x32x1024 : Shape := ⟨3, ![1, 32, 1024]⟩
abbrev S1x1024x32x1 : Shape := ⟨4, ![1, 1024, 32, 1]⟩
abbrev S1x32x128x1024 : Shape := ⟨4, ![1, 32, 128, 1024]⟩

abbrev nBuf : Space → Nat
  | .hbm => 122
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S4096x1024, .f32⟩
  | .hbm, ⟨3, _⟩ => ⟨S1x4096x32x128, .f32⟩
  | .hbm, ⟨4, _⟩ => ⟨S1x4096x32x128, .f32⟩
  | .hbm, ⟨5, _⟩ => ⟨S1x1024x4096, .f32⟩
  | .hbm, ⟨6, _⟩ => ⟨S1x1024x32x128, .f32⟩
  | .hbm, ⟨7, _⟩ => ⟨S_, .f32⟩
  | .hbm, ⟨8, _⟩ => ⟨S1x1024x32x128, .f32⟩
  | .hbm, ⟨9, _⟩ => ⟨S_, .f32⟩
  | .hbm, ⟨10, _⟩ => ⟨S1x32x1024x1, .f32⟩
  | .hbm, ⟨11, _⟩ => ⟨S_, .f32⟩
  | .hbm, ⟨12, _⟩ => ⟨S1x32x1024x1, .f32⟩
  | .hbm, ⟨13, _⟩ => ⟨S1x1024x32x128, .f32⟩
  | .hbm, ⟨14, _⟩ => ⟨S1x1024x32x128, .f32⟩
  | .hbm, ⟨15, _⟩ => ⟨S1x32x1024x1024, .f32⟩
  | .hbm, ⟨16, _⟩ => ⟨S_, .f32⟩
  | .hbm, ⟨17, _⟩ => ⟨S1x32x1024x1024, .f32⟩
  | .hbm, ⟨18, _⟩ => ⟨S1x32x1024x1024, .f32⟩
  | .hbm, ⟨19, _⟩ => ⟨S_, .f32⟩
  | .hbm, ⟨20, _⟩ => ⟨S1x32x1024, .f32⟩
  | .hbm, ⟨21, _⟩ => ⟨S1x32x1024x1, .f32⟩
  | .hbm, ⟨22, _⟩ => ⟨S1x32x1024x1, .f32⟩
  | .hbm, ⟨23, _⟩ => ⟨S1x32x1024x1, .f32⟩
  | .hbm, ⟨24, _⟩ => ⟨S1x32x1024x1, .f32⟩
  | .hbm, ⟨25, _⟩ => ⟨S1x32x1024x1024, .f32⟩
  | .hbm, ⟨26, _⟩ => ⟨S1x32x1024x1024, .f32⟩
  | .hbm, ⟨27, _⟩ => ⟨S1x32x1024x1024, .f32⟩
  | .hbm, ⟨28, _⟩ => ⟨S1x32x1024x1, .f32⟩
  | .hbm, ⟨29, _⟩ => ⟨S_, .f32⟩
  | .hbm, ⟨30, _⟩ => ⟨S1x32x1024, .f32⟩
  | .hbm, ⟨31, _⟩ => ⟨S1x32x1024x1, .f32⟩
  | .hbm, ⟨32, _⟩ => ⟨S1x32x1024x1, .f32⟩
  | .hbm, ⟨33, _⟩ => ⟨S1x1024x32x1, .f32⟩
  | .hbm, ⟨34, _⟩ => ⟨S1x1024x32x128, .f32⟩
  | .hbm, ⟨35, _⟩ => ⟨S1x1024x32x128, .f32⟩
  | .hbm, ⟨36, _⟩ => ⟨S1x32x128x1024, .f32⟩
  | .hbm, ⟨37, _⟩ => ⟨S1x1024x32x128, .f32⟩
  | .hbm, ⟨38, _⟩ => ⟨S1x1024x32x128, .f32⟩
  | .hbm, ⟨39, _⟩ => ⟨S1x1024x32x128, .f32⟩
  | .hbm, ⟨40, _⟩ => ⟨S1x1024x32x128, .f32⟩
  | .hbm, ⟨41, _⟩ => ⟨S1x32x1024x1024, .f32⟩
  | .hbm, ⟨42, _⟩ => ⟨S_, .f32⟩
  | .hbm, ⟨43, _⟩ => ⟨S1x32x1024x1024, .f32⟩
  | .hbm, ⟨44, _⟩ => ⟨S1x32x1024x1024, .f32⟩
  | .hbm, ⟨45, _⟩ => ⟨S_, .f32⟩
  | .hbm, ⟨46, _⟩ => ⟨S1x32x1024, .f32⟩
  | .hbm, ⟨47, _⟩ => ⟨S1x32x1024x1, .f32⟩
  | .hbm, ⟨48, _⟩ => ⟨S1x32x1024x1, .f32⟩
  | .hbm, ⟨49, _⟩ => ⟨S1x32x1024x1, .f32⟩
  | .hbm, ⟨50, _⟩ => ⟨S1x32x1024x1, .f32⟩
  | .hbm, ⟨51, _⟩ => ⟨S1x32x1024x1024, .f32⟩
  | .hbm, ⟨52, _⟩ => ⟨S1x32x1024x1024, .f32⟩
  | .hbm, ⟨53, _⟩ => ⟨S1x32x1024x1024, .f32⟩
  | .hbm, ⟨54, _⟩ => ⟨S1x32x1024x1, .f32⟩
  | .hbm, ⟨55, _⟩ => ⟨S_, .f32⟩
  | .hbm, ⟨56, _⟩ => ⟨S1x32x1024, .f32⟩
  | .hbm, ⟨57, _⟩ => ⟨S1x32x1024x1, .f32⟩
  | .hbm, ⟨58, _⟩ => ⟨S1x32x1024x1, .f32⟩
  | .hbm, ⟨59, _⟩ => ⟨S1x1024x32x1, .f32⟩
  | .hbm, ⟨60, _⟩ => ⟨S1x1024x32x128, .f32⟩
  | .hbm, ⟨61, _⟩ => ⟨S1x1024x32x128, .f32⟩
  | .hbm, ⟨62, _⟩ => ⟨S1x32x128x1024, .f32⟩
  | .hbm, ⟨63, _⟩ => ⟨S1x1024x32x128, .f32⟩
  | .hbm, ⟨64, _⟩ => ⟨S1x1024x32x128, .f32⟩
  | .hbm, ⟨65, _⟩ => ⟨S1x1024x32x128, .f32⟩
  | .hbm, ⟨66, _⟩ => ⟨S1x1024x32x128, .f32⟩
  | .hbm, ⟨67, _⟩ => ⟨S1x32x1024x1024, .f32⟩
  | .hbm, ⟨68, _⟩ => ⟨S_, .f32⟩
  | .hbm, ⟨69, _⟩ => ⟨S1x32x1024x1024, .f32⟩
  | .hbm, ⟨70, _⟩ => ⟨S1x32x1024x1024, .f32⟩
  | .hbm, ⟨71, _⟩ => ⟨S_, .f32⟩
  | .hbm, ⟨72, _⟩ => ⟨S1x32x1024, .f32⟩
  | .hbm, ⟨73, _⟩ => ⟨S1x32x1024x1, .f32⟩
  | .hbm, ⟨74, _⟩ => ⟨S1x32x1024x1, .f32⟩
  | .hbm, ⟨75, _⟩ => ⟨S1x32x1024x1, .f32⟩
  | .hbm, ⟨76, _⟩ => ⟨S1x32x1024x1, .f32⟩
  | .hbm, ⟨77, _⟩ => ⟨S1x32x1024x1024, .f32⟩
  | .hbm, ⟨78, _⟩ => ⟨S1x32x1024x1024, .f32⟩
  | .hbm, ⟨79, _⟩ => ⟨S1x32x1024x1024, .f32⟩
  | .hbm, ⟨80, _⟩ => ⟨S1x32x1024x1, .f32⟩
  | .hbm, ⟨81, _⟩ => ⟨S_, .f32⟩
  | .hbm, ⟨82, _⟩ => ⟨S1x32x1024, .f32⟩
  | .hbm, ⟨83, _⟩ => ⟨S1x32x1024x1, .f32⟩
  | .hbm, ⟨84, _⟩ => ⟨S1x32x1024x1, .f32⟩
  | .hbm, ⟨85, _⟩ => ⟨S1x1024x32x1, .f32⟩
  | .hbm, ⟨86, _⟩ => ⟨S1x1024x32x128, .f32⟩
  | .hbm, ⟨87, _⟩ => ⟨S1x1024x32x128, .f32⟩
  | .hbm, ⟨88, _⟩ => ⟨S1x32x128x1024, .f32⟩
  | .hbm, ⟨89, _⟩ => ⟨S1x1024x32x128, .f32⟩
  | .hbm, ⟨90, _⟩ => ⟨S1x1024x32x128, .f32⟩
  | .hbm, ⟨91, _⟩ => ⟨S1x1024x32x128, .f32⟩
  | .hbm, ⟨92, _⟩ => ⟨S1x1024x32x128, .f32⟩
  | .hbm, ⟨93, _⟩ => ⟨S1x32x1024x1024, .f32⟩
  | .hbm, ⟨94, _⟩ => ⟨S_, .f32⟩
  | .hbm, ⟨95, _⟩ => ⟨S1x32x1024x1024, .f32⟩
  | .hbm, ⟨96, _⟩ => ⟨S1x32x1024x1024, .f32⟩
  | .hbm, ⟨97, _⟩ => ⟨S_, .f32⟩
  | .hbm, ⟨98, _⟩ => ⟨S1x32x1024, .f32⟩
  | .hbm, ⟨99, _⟩ => ⟨S1x32x1024x1, .f32⟩
  | .hbm, ⟨100, _⟩ => ⟨S1x32x1024x1, .f32⟩
  | .hbm, ⟨101, _⟩ => ⟨S1x32x1024x1, .f32⟩
  | .hbm, ⟨102, _⟩ => ⟨S1x32x1024x1, .f32⟩
  | .hbm, ⟨103, _⟩ => ⟨S1x32x1024x1024, .f32⟩
  | .hbm, ⟨104, _⟩ => ⟨S1x32x1024x1024, .f32⟩
  | .hbm, ⟨105, _⟩ => ⟨S1x32x1024x1024, .f32⟩
  | .hbm, ⟨106, _⟩ => ⟨S1x32x1024x1, .f32⟩
  | .hbm, ⟨107, _⟩ => ⟨S_, .f32⟩
  | .hbm, ⟨108, _⟩ => ⟨S1x32x1024, .f32⟩
  | .hbm, ⟨109, _⟩ => ⟨S1x32x1024x1, .f32⟩
  | .hbm, ⟨110, _⟩ => ⟨S1x32x1024x1, .f32⟩
  | .hbm, ⟨111, _⟩ => ⟨S1x1024x32x1, .f32⟩
  | .hbm, ⟨112, _⟩ => ⟨S1x1024x32x128, .f32⟩
  | .hbm, ⟨113, _⟩ => ⟨S1x1024x32x128, .f32⟩
  | .hbm, ⟨114, _⟩ => ⟨S1x32x128x1024, .f32⟩
  | .hbm, ⟨115, _⟩ => ⟨S1x1024x32x128, .f32⟩
  | .hbm, ⟨116, _⟩ => ⟨S1x1024x32x128, .f32⟩
  | .hbm, ⟨117, _⟩ => ⟨S1x1024x32x1, .f32⟩
  | .hbm, ⟨118, _⟩ => ⟨S1x1024x32x128, .f32⟩
  | .hbm, ⟨119, _⟩ => ⟨S1x1024x32x128, .f32⟩
  | .hbm, ⟨120, _⟩ => ⟨S1x1024x4096, .f32⟩
  | .hbm, ⟨121, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Proof.Base.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra

Three components: the pipeline library's rounds (unnamed duties), the rounds of this kernel's own barrier and
remote copies (duties named by `Fin 3`), and the counters of the local copies. -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER (F := F)).LandsIn (upEmb : UEmb _ (MT nD τ sig Unit (Elt F) ℕ UU ℕ)) := by
  unfold ER embR; infer_instance
abbrev EC : UEmb Counters (MT nD τ sig Unit (Elt F) ℕ UU ℕ) := countersEmb
instance EC_lands : (EC (F := F)).LandsIn (upEmb : UEmb _ (MT nD τ sig Unit (Elt F) ℕ UU ℕ)) := by infer_instance

/-! ## The buffers -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev khM : Memref sig .tc .hbm S1x4096x32x128 .f32 := Memref.whole main_arg3
abbrev vhM : Memref sig .tc .hbm S1x4096x32x128 .f32 := Memref.whole main_arg4
abbrev oM : Memref sig .tc .vmem S1x256x1024 .f32 := Memref.whole cc0_stg3_0
abbrev xrM : Memref sig .tc .vmem S768x1024 .f32 := Memref.whole cc0_scratch0
abbrev qM : Memref sig .tc .vmem S256x1024 .f32 := Memref.whole cc0_scratch1
abbrev kM : Memref sig .tc .vmem S2x512x8x128 .f32 := Memref.whole cc0_scratch2
abbrev vM : Memref sig .tc .vmem S2x512x8x256 .f32 := Memref.whole cc0_scratch3
abbrev lM : Memref sig .tc .vmem S256x8 .f32 := Memref.whole cc0_scratch4
abbrev aM : Memref sig .tc .vmem S256x1024 .f32 := Memref.whole cc0_scratch5
abbrev p0M : Memref sig .tc .vmem S256x1024 .f32 := Memref.whole cc0_scratch6
abbrev roM : Memref sig .tc .vmem S3x256x1024 .f32 := Memref.whole cc0_scratch7
abbrev rcM : Memref sig .tc .vmem S3x256x1024 .f32 := Memref.whole cc0_scratch8

end Cert.KProof
-- ==== Proof.Slots.lean ====
module

public import proofs.«01_k».proof.Proof.Base

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## The elements of the double buffers and of the arrays they are filled from -/

abbrev Kix := S1x4096x32x128.Idx
/-- The index of row `r`, head `h`, lane `l` of a cached array. -/
def kix (r h l : ℕ) : Kix := fun a => ⟨(![0, r % 4096, h % 32, l % 128] : Fin 4 → ℕ) a, by
  have h1 := Nat.mod_lt r (y := 4096) (by decide)
  have h2 := Nat.mod_lt h (y := 32) (by decide)
  have h3 := Nat.mod_lt l (y := 128) (by decide)
  match a with
  | ⟨0, _⟩ => exact Nat.one_pos
  | ⟨1, _⟩ => exact h1
  | ⟨2, _⟩ => exact h2
  | ⟨3, _⟩ => exact h3⟩

/-- Slot `s` of the key buffer. -/
def kslot (s : Fin 2) : Finset S2x512x8x128.Idx := Finset.univ.filter fun i => (i 0).val = s.val
/-- The lanes of slot `s` of the value buffer that a copy fills, -/
def vdat (s : Fin 2) : Finset S2x512x8x256.Idx := Finset.univ.filter fun i => (i 0).val = s.val ∧ (i 3).val < 128
/-- and those that stay at the ones and zeros the kernel writes once. -/
def vpad (s : Fin 2) : Finset S2x512x8x256.Idx := Finset.univ.filter fun i => (i 0).val = s.val ∧ ¬ (i 3).val < 128
/-- Device `c`'s heads in chunk `j` of a cached array. -/
def chunk (c : Dev nD) (j : ℕ) : Finset Kix :=
  Finset.univ.filter fun i => (512 * j ≤ (i 1).val ∧ (i 1).val < 512 * j + 512) ∧ (8 * c.val ≤ (i 2).val ∧ (i 2).val < 8 * c.val + 8)

/-- What chunk `j` of the keys holds, whichever slot it is read from. -/
def kc (c : Dev nD) (j : ℕ) (K : Kix → Elt F .f32) : S2x512x8x128.Idx → Elt F .f32 :=
  fun i => K (kix (512 * j + (i 1).val) (8 * c.val + (i 2).val) (i 3).val)
/-- What chunk `j` of the values holds, with its column of ones beside it. -/
def vc (c : Dev nD) (j : ℕ) (V : Kix → Elt F .f32) : S2x512x8x256.Idx → Elt F .f32 :=
  fun i => if (i 3).val < 128 then V (kix (512 * j + (i 1).val) (8 * c.val + (i 2).val) (i 3).val)
    else if (i 3).val = 128 then Scalar.ofBits .f32 0x3F800000#32 else Scalar.ofBits .f32 0x00000000#32

/-- The semaphore of slot `s` of the key buffer, and of the value buffer. -/
def kS (s : Fin 2) : DmaSem sig := ⟨16 + s.val, by have := s.isLt; show 16 + s.val < 20; omega⟩
def vS (s : Fin 2) : DmaSem sig := ⟨18 + s.val, by have := s.isLt; show 18 + s.val < 20; omega⟩

theorem kS_eq' : ∀ (s : Fin 2) (inb : ∀ a, (![s.val] : Fin 1 → ℕ) a + S1.size a ≤ S2.size a),
    ((cc0_scratch13.slice (Rect.unit (s := S2) ![s.val] S1.size inb)).squeeze S_ squeezes_S1_S_).sem = kS s := by decide
theorem kS_eq (s : Fin 2) {o : Fin 1 → ℕ} (ho : o = ![s.val]) (inb) (sq) :
    ((cc0_scratch13.slice (Rect.unit (s := S2) o S1.size inb)).squeeze S_ sq).sem = kS s := by
  subst ho; exact kS_eq' s inb
theorem vS_eq' : ∀ (s : Fin 2) (inb : ∀ a, (![s.val] : Fin 1 → ℕ) a + S1.size a ≤ S2.size a),
    ((cc0_scratch14.slice (Rect.unit (s := S2) ![s.val] S1.size inb)).squeeze S_ squeezes_S1_S_).sem = vS s := by decide
theorem vS_eq (s : Fin 2) {o : Fin 1 → ℕ} (ho : o = ![s.val]) (inb) (sq) :
    ((cc0_scratch14.slice (Rect.unit (s := S2) o S1.size inb)).squeeze S_ sq).sem = vS s := by
  subst ho; exact vS_eq' s inb

abbrev kDst (o : Fin 4 → ℕ) (inb : ∀ a, o a + S1x512x8x128.size a ≤ S2x512x8x128.size a) (h : ∀ a, (Rect.unit (s := S2x512x8x128) o S1x512x8x128.size inb).stride a = 1) (sq : S1x512x8x128.Squeezes S512x8x128) : Memref sig .tc .vmem S512x8x128 .f32 :=
  (kM.slice (Rect.unit (s := S2x512x8x128) o S1x512x8x128.size inb) h).squeeze S512x8x128 sq
abbrev vDst (o : Fin 4 → ℕ) (inb : ∀ a, o a + S1x512x8x128.size a ≤ S2x512x8x256.size a) (h : ∀ a, (Rect.unit (s := S2x512x8x256) o S1x512x8x128.size inb).stride a = 1) (sq : S1x512x8x128.Squeezes S512x8x128) : Memref sig .tc .vmem S512x8x128 .f32 :=
  (vM.slice (Rect.unit (s := S2x512x8x256) o S1x512x8x128.size inb) h).squeeze S512x8x128 sq
abbrev hSrc (b : Memref sig .tc .hbm S1x4096x32x128 .f32) (o : Fin 4 → ℕ) (inb : ∀ a, o a + S1x512x8x128.size a ≤ S1x4096x32x128.size a) (h : ∀ a, (Rect.unit (s := S1x4096x32x128) o S1x512x8x128.size inb).stride a = 1) (sq : S1x512x8x128.Squeezes S512x8x128) : Memref sig .tc .hbm S512x8x128 .f32 :=
  (b.slice (Rect.unit (s := S1x4096x32x128) o S1x512x8x128.size inb) h).squeeze S512x8x128 sq

theorem forall_fin4 {p : Fin 4 → Prop} : (∀ a, p a) ↔ p 0 ∧ p 1 ∧ p 2 ∧ p 3 := by
  constructor
  · intro h; exact ⟨h 0, h 1, h 2, h 3⟩
  · rintro ⟨h0, h1, h2, h3⟩ a; fin_cases a <;> assumption

theorem kDst_set (s : Fin 2) {o : Fin 4 → ℕ} (ho : o = ![s.val, 0, 0, 0]) (inb h sq) : (kDst o inb h sq).view.set = kslot s := by
  subst ho
  show ((kM.view.slice _).reshape _ _).set = _
  rw [View.set_reshape]
  show ((View.whole cc0_scratch2).slice _).set = _
  rw [View.set_slice_whole]
  ext i
  have h1 : (i 1).val < 512 := (i 1).isLt
  have h2 : (i 2).val < 8 := (i 2).isLt
  have h3 : (i 3).val < 128 := (i 3).isLt
  have hm := Rect.mem_set_unit (s := S2x512x8x128) (off := ![s.val, 0, 0, 0]) (size := S1x512x8x128.size) (inb := inb) (i := i)
  refine hm.trans ?_
  rw [forall_fin4]
  simp only [kslot, Finset.mem_filter, Finset.mem_univ, true_and]
  show (s.val ≤ (i 0).val ∧ (i 0).val < s.val + 1) ∧ (0 ≤ (i 1).val ∧ (i 1).val < 0 + 512) ∧ (0 ≤ (i 2).val ∧ (i 2).val < 0 + 8) ∧ (0 ≤ (i 3).val ∧ (i 3).val < 0 + 128) ↔ _
  omega

theorem vDst_set (s : Fin 2) {o : Fin 4 → ℕ} (ho : o = ![s.val, 0, 0, 0]) (inb h sq) : (vDst o inb h sq).view.set = vdat s := by
  subst ho
  show ((vM.view.slice _).reshape _ _).set = _
  rw [View.set_reshape]
  show ((View.whole cc0_scratch3).slice _).set = _
  rw [View.set_slice_whole]
  ext i
  have h1 : (i 1).val < 512 := (i 1).isLt
  have h2 : (i 2).val < 8 := (i 2).isLt
  have hm := Rect.mem_set_unit (s := S2x512x8x256) (off := ![s.val, 0, 0, 0]) (size := S1x512x8x128.size) (inb := inb) (i := i)
  refine hm.trans ?_
  rw [forall_fin4]
  simp only [vdat, Finset.mem_filter, Finset.mem_univ, true_and]
  show (s.val ≤ (i 0).val ∧ (i 0).val < s.val + 1) ∧ (0 ≤ (i 1).val ∧ (i 1).val < 0 + 512) ∧ (0 ≤ (i 2).val ∧ (i 2).val < 0 + 8) ∧ (0 ≤ (i 3).val ∧ (i 3).val < 0 + 128) ↔ _
  omega

theorem chunk_set (r : Finset Kix) (c : Dev nD) (j : ℕ) {o : Fin 4 → ℕ} (ho : o = ![0, 512 * j, 8 * c.val, 0]) (inb)
    (hr : r = (Rect.unit (s := S1x4096x32x128) o S1x512x8x128.size inb).set) : r = chunk c j := by
  subst ho; subst hr
  ext i
  have h0 : (i 0).val < 1 := (i 0).isLt
  have h3 : (i 3).val < 128 := (i 3).isLt
  refine (Rect.mem_set_unit (s := S1x4096x32x128) (off := ![0, 512 * j, 8 * c.val, 0]) (size := S1x512x8x128.size) (inb := inb) (i := i)).trans ?_
  rw [forall_fin4]
  simp only [chunk, Finset.mem_filter, Finset.mem_univ, true_and]
  show (0 ≤ (i 0).val ∧ (i 0).val < 0 + 1) ∧ (512 * j ≤ (i 1).val ∧ (i 1).val < 512 * j + 512) ∧ (8 * c.val ≤ (i 2).val ∧ (i 2).val < 8 * c.val + 8) ∧ (0 ≤ (i 3).val ∧ (i 3).val < 0 + 128) ↔ _
  omega

theorem kSrc_set (c : Dev nD) (j : ℕ) {o : Fin 4 → ℕ} (ho : o = ![0, 512 * j, 8 * c.val, 0]) (inb h sq) : (hSrc khM o inb h sq).view.set = chunk c j := by
  refine chunk_set _ c j ho inb ?_
  show ((khM.view.slice _).reshape _ _).set = _
  rw [View.set_reshape]
  exact View.set_slice_whole main_arg3 _
theorem vSrc_set (c : Dev nD) (j : ℕ) {o : Fin 4 → ℕ} (ho : o = ![0, 512 * j, 8 * c.val, 0]) (inb h sq) : (hSrc vhM o inb h sq).view.set = chunk c j := by
  refine chunk_set _ c j ho inb ?_
  show ((vhM.view.slice _).reshape _ _).set = _
  rw [View.set_reshape]
  exact View.set_slice_whole main_arg4 _

/-- What lands in a slot of the key buffer is the chunk's contents. -/
theorem k_lands (c : Dev nD) (s : Fin 2) (j : ℕ) (hj : j < 8) {od os : Fin 4 → ℕ} (hd : od = ![s.val, 0, 0, 0]) (hs : os = ![0, 512 * j, 8 * c.val, 0])
    (inbd hhd sqd inbs hhs sqs) (fd : S2x512x8x128.Idx → Elt F .f32) (K : Kix → Elt F .f32) :
    ∀ i ∈ kslot s, (kDst od inbd hhd sqd).view.write (Elt F) fd ((hSrc khM os inbs hhs sqs).view.read (Elt F) K) Finset.univ i = kc c j K i := by
  intro i hi
  rw [← kDst_set s hd inbd hhd sqd] at hi
  obtain ⟨x, -, rfl⟩ := Finset.mem_map.mp hi
  rw [View.write_emb_of_mem _ _ (Finset.mem_univ x)]
  subst hd; subst hs
  have hc := c.isLt
  have hc' : c.val < 4 := hc
  set y := Shape.reshapeEquiv (s' := S512x8x128) (s := S1x512x8x128) sqd.numel_eq x with hy
  have h1 : (y 1).val < 512 := (y 1).isLt
  have h2 : (y 2).val < 8 := (y 2).isLt
  have h3 : (y 3).val < 128 := (y 3).isLt
  have h0 : (y 0).val < 1 := (y 0).isLt
  show K ((Rect.unit (s := S1x4096x32x128) ![0, 512 * j, 8 * c.val, 0] S1x512x8x128.size inbs).emb y)
    = kc c j K ((Rect.unit (s := S2x512x8x128) ![s.val, 0, 0, 0] S1x512x8x128.size inbd).emb y)
  unfold kc
  congr 1
  funext a
  apply Fin.ext
  match a with
  | ⟨0, _⟩ => show 0 + 1 * (y 0).val = 0; omega
  | ⟨1, _⟩ => show 512 * j + 1 * (y 1).val = (512 * j + (0 + 1 * (y 1).val)) % 4096; omega
  | ⟨2, _⟩ => show 8 * c.val + 1 * (y 2).val = (8 * c.val + (0 + 1 * (y 2).val)) % 32; omega
  | ⟨3, _⟩ => show 0 + 1 * (y 3).val = (0 + 1 * (y 3).val) % 128; omega

theorem v_lands (c : Dev nD) (s : Fin 2) (j : ℕ) (hj : j < 8) {od os : Fin 4 → ℕ} (hd : od = ![s.val, 0, 0, 0]) (hs : os = ![0, 512 * j, 8 * c.val, 0])
    (inbd hhd sqd inbs hhs sqs) (fd : S2x512x8x256.Idx → Elt F .f32) (V : Kix → Elt F .f32) :
    ∀ i ∈ vdat s, (vDst od inbd hhd sqd).view.write (Elt F) fd ((hSrc vhM os inbs hhs sqs).view.read (Elt F) V) Finset.univ i = vc c j V i := by
  intro i hi
  rw [← vDst_set s hd inbd hhd sqd] at hi
  obtain ⟨x, -, rfl⟩ := Finset.mem_map.mp hi
  rw [View.write_emb_of_mem _ _ (Finset.mem_univ x)]
  subst hd; subst hs
  have hc := c.isLt
  have hc' : c.val < 4 := hc
  set y := Shape.reshapeEquiv (s' := S512x8x128) (s := S1x512x8x128) sqd.numel_eq x with hy
  have h1 : (y 1).val < 512 := (y 1).isLt
  have h2 : (y 2).val < 8 := (y 2).isLt
  have h3 : (y 3).val < 128 := (y 3).isLt
  have h0 : (y 0).val < 1 := (y 0).isLt
  show V ((Rect.unit (s := S1x4096x32x128) ![0, 512 * j, 8 * c.val, 0] S1x512x8x128.size inbs).emb y)
    = vc c j V ((Rect.unit (s := S2x512x8x256) ![s.val, 0, 0, 0] S1x512x8x128.size inbd).emb y)
  unfold vc
  have h3' : ((Rect.unit (s := S2x512x8x256) ![s.val, 0, 0, 0] S1x512x8x128.size inbd).emb y 3).val < 128 := by
    show 0 + 1 * (y 3).val < 128; omega
  rw [if_pos h3']
  congr 1
  funext a
  apply Fin.ext
  match a with
  | ⟨0, _⟩ => show 0 + 1 * (y 0).val = 0; omega
  | ⟨1, _⟩ => show 512 * j + 1 * (y 1).val = (512 * j + (0 + 1 * (y 1).val)) % 4096; omega
  | ⟨2, _⟩ => show 8 * c.val + 1 * (y 2).val = (8 * c.val + (0 + 1 * (y 2).val)) % 32; omega
  | ⟨3, _⟩ => show 0 + 1 * (y 3).val = (0 + 1 * (y 3).val) % 128; omega

/-! ## A slot idle, being filled, and filled -/

abbrev kL (c : Dev nD) : Loc nD τ sig := (c : Thread nD τ).loc cc0_scratch2
abbrev vL (c : Dev nD) : Loc nD τ sig := (c : Thread nD τ).loc cc0_scratch3
abbrev khL (c : Dev nD) : Loc nD τ sig := (c : Thread nD τ).loc main_arg3
abbrev vhL (c : Dev nD) : Loc nD τ sig := (c : Thread nD τ).loc main_arg4

/-- What one copy into the key buffer, and into the value buffer, credits its semaphore. -/
abbrev kN : ℕ := (cc0_scratch2 : Ref sig .tc).dmaCredit S512x8x128 .f32
abbrev vN : ℕ := (cc0_scratch3 : Ref sig .tc).dmaCredit S512x8x128 .f32
theorem kN_pos : 0 < kN := sig.dmaCredit_pos _ _ _ _ _ (by decide)
theorem vN_pos : 0 < vN := sig.dmaCredit_pos _ _ _ _ _ (by decide)

def kIdle (c : Dev nD) (s : Fin 2) (q : PosShare TreeShare) (K : Kix → Elt F .f32) : sProp 𝕄 :=
  iprop((∃ f : S2x512x8x128.Idx → Elt F .f32, kL c ↦[kslot s]{fullShare} f) ∗ (khL c ↦{q} K) ∗ semVal ((c : Thread nD τ), .dma (kS s)) 0)
def kBusy (c : Dev nD) (s : Fin 2) (j : ℕ) (q : PosShare TreeShare) (K : Kix → Elt F .f32) : sProp 𝕄 :=
  iprop(Transfers.Flight EC (c : Thread nD τ) (.dma (kS s)) () kN iprop((kL c ↦[kslot s]{fullShare} kc c j K) ∗ (khL c ↦[chunk c j]{q} K))
    ∗ (khL c ↦[Finset.univ \ chunk c j]{q} K))
def kDone (c : Dev nD) (s : Fin 2) (j : ℕ) (q : PosShare TreeShare) (K : Kix → Elt F .f32) : sProp 𝕄 :=
  iprop((kL c ↦[kslot s]{fullShare} kc c j K) ∗ (khL c ↦{q} K) ∗ semVal ((c : Thread nD τ), .dma (kS s)) 0)

def vIdle (c : Dev nD) (s : Fin 2) (q : PosShare TreeShare) (V : Kix → Elt F .f32) : sProp 𝕄 :=
  iprop((∃ f : S2x512x8x256.Idx → Elt F .f32, vL c ↦[vdat s]{fullShare} f) ∗ (vhL c ↦{q} V) ∗ semVal ((c : Thread nD τ), .dma (vS s)) 0)
def vBusy (c : Dev nD) (s : Fin 2) (j : ℕ) (q : PosShare TreeShare) (V : Kix → Elt F .f32) : sProp 𝕄 :=
  iprop(Transfers.Flight EC (c : Thread nD τ) (.dma (vS s)) () vN iprop((vL c ↦[vdat s]{fullShare} vc c j V) ∗ (vhL c ↦[chunk c j]{q} V))
    ∗ (vhL c ↦[Finset.univ \ chunk c j]{q} V))
def vDone (c : Dev nD) (s : Fin 2) (j : ℕ) (q : PosShare TreeShare) (V : Kix → Elt F .f32) : sProp 𝕄 :=
  iprop((vL c ↦[vdat s]{fullShare} vc c j V) ∗ (vhL c ↦{q} V) ∗ semVal ((c : Thread nD τ), .dma (vS s)) 0)

section Slots
variable (c : Dev nD) (s : Fin 2) (j : ℕ) (q : PosShare TreeShare) (K V : Kix → Elt F .f32)

theorem wp_kStart {α : Type} {Q : α → sProp 𝕄} {k : PUnit → Prog (TpuEff nD τ sig (Elt F) Λ₀ .tc) α} (hj : j < 8) {od os : Fin 4 → ℕ} (hd : od = ![s.val, 0, 0, 0]) (hs : os = ![0, 512 * j, 8 * c.val, 0])
    {inbd hhd sqd inbs hhs sqs} {sem : DmaSem sig} (hsm : sem = kS s) {hsrc hdst hsem} :
    kIdle c s q K ⊢ iprop((kBusy c s j q K -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (hSrc khM os inbs hhs sqs) (.here (kDst od inbd hhd sqd)) (.dma sem) hsrc hdst hsem) k) Q) := by
  subst hsm
  unfold kIdle kBusy
  iintro ⟨⟨%f, Hd⟩, Hs, Hv⟩ Hk
  ihave Hs := (pointsTo_split_subset (ℓ := khL c) (q := q) (f := K) (Finset.subset_univ (chunk c j))).1 $$ Hs
  icases Hs with ⟨Hs, Hr⟩
  iapply (Transfers.wp_dmaLocal EC 𝒱₀ (c : Thread nD τ) none (src := hSrc khM os inbs hhs sqs) (dst := kDst od inbd hhd sqd) (via := .same)
    (Sd := kslot s) (fs := K) (fd := f) (q := q) () kN rfl kN_pos (by rw [kDst_set s hd])) $$ [Hd Hs Hv]
  · isplitl [Hs]
    · rw [kSrc_set c j hs]; iexact Hs
    isplitl [Hd] <;> iassumption
  iintro HF
  iapply Hk
  isplitl [HF]
  · iapply (Transfers.Flight_mono EC (c : Thread nD τ) (D' := iprop((kL c ↦[kslot s]{fullShare} kc c j K) ∗ (khL c ↦[chunk c j]{q} K)))) $$ HF
    rw [kSrc_set c j hs]
    iintro ⟨H1, H2⟩
    isplitl [H1]
    · iapply (Entails.of_eq (pointsTo_congr (k_lands c s j hj hd hs inbd hhd sqd inbs hhs sqs f K))) $$ H1
    · iexact H2
  · iexact Hr

theorem wp_kWait {α : Type} {Q : α → sProp 𝕄} {k : PUnit → Prog (TpuEff nD τ sig (Elt F) Λ₀ .tc) α} {od os : Fin 4 → ℕ}
    {inbd hhd sqd inbs hhs sqs} {sem : DmaSem sig} (hsm : sem = kS s) {hsrc hdst}
    (O : CellTallies nD τ sig Unit) (W : Waits sig Unit) :
    iprop(kBusy c s j q K ∗ owes (c : Thread nD τ) O W ∗ MayWait (c : Thread nD τ) (.dma (kS s)) () O)
      ⊢ iprop((iprop(kDone c s j q K ∗ owes (c : Thread nD τ) O (insert (SemLoc.dma (kS s), ()) W))
          -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 sem (hSrc khM os inbs hhs sqs) (kDst od inbd hhd sqd) hsrc hdst) k) Q) := by
  subst hsm
  unfold kBusy kDone
  iintro ⟨⟨HF, Hr⟩, HO, Hm⟩ Hk
  iapply (Transfers.wp_waitLocalO EC 𝒱₀ (c : Thread nD τ) none (dstw := kDst od inbd hhd sqd) () (N := kN) rfl (O := O) (W := W)) $$ [HF HO Hm]
  · isplitl [HF]; · iexact HF
    isplitl [HO] <;> iassumption
  iintro ⟨⟨Hd, Hs⟩, Hv, HO⟩
  iapply Hk
  isplitr [HO]
  · isplitl [Hd]; · iexact Hd
    isplitl [Hs Hr]
    · iapply (pointsTo_split_subset (ℓ := khL c) (q := q) (f := K) (Finset.subset_univ (chunk c j))).2
      isplitl [Hs] <;> iassumption
    · iexact Hv
  · iexact HO

theorem kDone_idle : kDone c s j q K ⊢ kIdle c s q K := by
  unfold kDone kIdle
  iintro ⟨Hd, Hr⟩
  isplitl [Hd]
  · iexists _; iexact Hd
  · iexact Hr

theorem wp_vStart {α : Type} {Q : α → sProp 𝕄} {k : PUnit → Prog (TpuEff nD τ sig (Elt F) Λ₀ .tc) α} (hj : j < 8) {od os : Fin 4 → ℕ} (hd : od = ![s.val, 0, 0, 0]) (hs : os = ![0, 512 * j, 8 * c.val, 0])
    {inbd hhd sqd inbs hhs sqs} {sem : DmaSem sig} (hsm : sem = vS s) {hsrc hdst hsem} :
    vIdle c s q V ⊢ iprop((vBusy c s j q V -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (hSrc vhM os inbs hhs sqs) (.here (vDst od inbd hhd sqd)) (.dma sem) hsrc hdst hsem) k) Q) := by
  subst hsm
  unfold vIdle vBusy
  iintro ⟨⟨%f, Hd⟩, Hs, Hv⟩ Hk
  ihave Hs := (pointsTo_split_subset (ℓ := vhL c) (q := q) (f := V) (Finset.subset_univ (chunk c j))).1 $$ Hs
  icases Hs with ⟨Hs, Hr⟩
  iapply (Transfers.wp_dmaLocal EC 𝒱₀ (c : Thread nD τ) none (src := hSrc vhM os inbs hhs sqs) (dst := vDst od inbd hhd sqd) (via := .same)
    (Sd := vdat s) (fs := V) (fd := f) (q := q) () vN rfl vN_pos (by rw [vDst_set s hd])) $$ [Hd Hs Hv]
  · isplitl [Hs]
    · rw [vSrc_set c j hs]; iexact Hs
    isplitl [Hd] <;> iassumption
  iintro HF
  iapply Hk
  isplitl [HF]
  · iapply (Transfers.Flight_mono EC (c : Thread nD τ) (D' := iprop((vL c ↦[vdat s]{fullShare} vc c j V) ∗ (vhL c ↦[chunk c j]{q} V)))) $$ HF
    rw [vSrc_set c j hs]
    iintro ⟨H1, H2⟩
    isplitl [H1]
    · iapply (Entails.of_eq (pointsTo_congr (v_lands c s j hj hd hs inbd hhd sqd inbs hhs sqs f V))) $$ H1
    · iexact H2
  · iexact Hr

theorem wp_vWait {α : Type} {Q : α → sProp 𝕄} {k : PUnit → Prog (TpuEff nD τ sig (Elt F) Λ₀ .tc) α} {od os : Fin 4 → ℕ}
    {inbd hhd sqd inbs hhs sqs} {sem : DmaSem sig} (hsm : sem = vS s) {hsrc hdst}
    (O : CellTallies nD τ sig Unit) (W : Waits sig Unit) :
    iprop(vBusy c s j q V ∗ owes (c : Thread nD τ) O W ∗ MayWait (c : Thread nD τ) (.dma (vS s)) () O)
      ⊢ iprop((iprop(vDone c s j q V ∗ owes (c : Thread nD τ) O (insert (SemLoc.dma (vS s), ()) W))
          -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 sem (hSrc vhM os inbs hhs sqs) (vDst od inbd hhd sqd) hsrc hdst) k) Q) := by
  subst hsm
  unfold vBusy vDone
  iintro ⟨⟨HF, Hr⟩, HO, Hm⟩ Hk
  iapply (Transfers.wp_waitLocalO EC 𝒱₀ (c : Thread nD τ) none (dstw := vDst od inbd hhd sqd) () (N := vN) rfl (O := O) (W := W)) $$ [HF HO Hm]
  · isplitl [HF]; · iexact HF
    isplitl [HO] <;> iassumption
  iintro ⟨⟨Hd, Hs⟩, Hv, HO⟩
  iapply Hk
  isplitr [HO]
  · isplitl [Hd]; · iexact Hd
    isplitl [Hs Hr]
    · iapply (pointsTo_split_subset (ℓ := vhL c) (q := q) (f := V) (Finset.subset_univ (chunk c j))).2
      isplitl [Hs] <;> iassumption
    · iexact Hv
  · iexact HO

theorem vDone_idle : vDone c s j q V ⊢ vIdle c s q V := by
  unfold vDone vIdle
  iintro ⟨Hd, Hr⟩
  isplitl [Hd]
  · iexists _; iexact Hd
  · iexact Hr

end Slots

end Cert.KProof
-- ==== Proof.Head.lean ====
module

public import proofs.«01_k».proof.Proof.Slots
public import Idealize.ShloMosaic.Lib.VecWindow
public import Idealize.ShloMosaic.Lib.Scf

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One head of one chunk

The program of a head: its columns of the queries, its keys and values, then its columns of the two running sums. -/

abbrev qL (c : Dev nD) : Loc nD τ sig := (c : Thread nD τ).loc cc0_scratch1
abbrev lL (c : Dev nD) : Loc nD τ sig := (c : Thread nD τ).loc cc0_scratch4
abbrev aL (c : Dev nD) : Loc nD τ sig := (c : Thread nD τ).loc cc0_scratch5

theorem colInb (h : Fin 8) : ∀ a, (![0, 128 * h.val] : Fin 2 → ℕ) a + S256x128.size a ≤ S256x1024.size a := by
  have := h.isLt
  intro a
  match a with
  | ⟨0, _⟩ => show 0 + 256 ≤ 256; omega
  | ⟨1, _⟩ => show 128 * h.val + 128 ≤ 1024; omega
theorem oneInb (h : Fin 8) : ∀ a, (![0, h.val] : Fin 2 → ℕ) a + S256x1.size a ≤ S256x8.size a := by
  have := h.isLt
  intro a
  match a with
  | ⟨0, _⟩ => show 0 + 256 ≤ 256; omega
  | ⟨1, _⟩ => show h.val + 1 ≤ 8; omega

/-- The columns of head `h`, and its entry beside each row. -/
abbrev cols (x : S256x1024.Idx → Elt F .f32) (h : Fin 8) : Vec F S256x128 .f32 := VecWindow.window x ![0, 128 * h.val] S256x128.size (colInb h)
abbrev ones (x : S256x8.Idx → Elt F .f32) (h : Fin 8) : Vec F S256x1 .f32 := VecWindow.window x ![0, h.val] S256x1.size (oneInb h)
/-- Head `h`'s keys and values of chunk `j`. -/
def kw (c : Dev nD) (j : ℕ) (K : Kix → Elt F .f32) (h : Fin 8) : Vec F S1x512x1x128 .f32 :=
  fun i => K (kix (512 * j + (i 1).val) (8 * c.val + h.val) (i 3).val)
def vw (c : Dev nD) (j : ℕ) (V : Kix → Elt F .f32) (h : Fin 8) : Vec F S1x512x1x256 .f32 :=
  fun i => if (i 3).val < 128 then V (kix (512 * j + (i 1).val) (8 * c.val + h.val) (i 3).val)
    else if (i 3).val = 128 then Scalar.ofBits .f32 0x3F800000#32 else Scalar.ofBits .f32 0x00000000#32

/-- The two running sums: of the weighted values, and of the weights. -/
abbrev AL (F : FTy → Type) [FloatOps F] : Type := (S256x1024.Idx → Elt F .f32) × (S256x8.Idx → Elt F .f32)

/-- The sums after head `h` of chunk `j`. -/
def stepH (c : Dev nD) (j : ℕ) (K V : Kix → Elt F .f32) (q : S256x1024.Idx → Elt F .f32) (h : Fin 8) (al : AL F) : AL F :=
  (VecWindow.put al.1 ![0, 128 * h.val] S256x128.size (k0_pay12 (cols q h) (kw c j K h) (vw c j V h) (cols al.1 h)),
   VecWindow.put al.2 ![0, h.val] S256x1.size (k0_pay13 (cols q h) (kw c j K h) (vw c j V h) (ones al.2 h)))

/-- The sums after a chunk, and after `n` chunks from zero. -/
def stepC (c : Dev nD) (K V : Kix → Elt F .f32) (q : S256x1024.Idx → Elt F .f32) (j : ℕ) (al : AL F) : AL F :=
  [0, 1, 2, 3, 4, 5, 6, 7].foldl (fun al h => stepH c j K V q h al) al
def sums (c : Dev nD) (K V : Kix → Elt F .f32) (q : S256x1024.Idx → Elt F .f32) : ℕ → AL F
  | 0 => (k0_pay114, k0_pay113)
  | n + 1 => stepC c K V q n (sums c K V q n)

/-- Slot `s` of the value buffer, pads included. -/
def vslot (s : Fin 2) : Finset S2x512x8x256.Idx := Finset.univ.filter fun i => (i 0).val = s.val

theorem kread (c : Dev nD) (s : Fin 2) (j : ℕ) (h : Fin 8) (K : Kix → Elt F .f32) {o : Fin 4 → ℕ} (ho : o = ![s.val, 0, h.val, 0]) (inb) :
    kM.view.readAt (Elt F) (Rect.unit (s := S2x512x8x128) o S1x512x1x128.size inb).toLoadRect (kc c j K) = kw c j K h := by
  subst ho
  funext y
  have h2 : (y 2).val < 1 := (y 2).isLt
  show K (kix (512 * j + (0 + 1 * (y 1).val)) (8 * c.val + (h.val + 1 * (y 2).val)) (0 + 1 * (y 3).val)) = K _
  rw [show 0 + 1 * (y 1).val = (y 1).val by omega, show h.val + 1 * (y 2).val = h.val by omega, show 0 + 1 * (y 3).val = (y 3).val by omega]
theorem vread (c : Dev nD) (s : Fin 2) (j : ℕ) (h : Fin 8) (V : Kix → Elt F .f32) {o : Fin 4 → ℕ} (ho : o = ![s.val, 0, h.val, 0]) (inb) :
    vM.view.readAt (Elt F) (Rect.unit (s := S2x512x8x256) o S1x512x1x256.size inb).toLoadRect (vc c j V) = vw c j V h := by
  subst ho
  funext y
  have h2 : (y 2).val < 1 := (y 2).isLt
  show (if 0 + 1 * (y 3).val < 128 then V (kix (512 * j + (0 + 1 * (y 1).val)) (8 * c.val + (h.val + 1 * (y 2).val)) (0 + 1 * (y 3).val))
    else if 0 + 1 * (y 3).val = 128 then Scalar.ofBits .f32 0x3F800000#32 else Scalar.ofBits .f32 0x00000000#32) = vw c j V h y
  rw [show 0 + 1 * (y 1).val = (y 1).val by omega, show h.val + 1 * (y 2).val = h.val by omega, show 0 + 1 * (y 3).val = (y 3).val by omega]
  rfl

theorem kread_sub (s : Fin 2) (h : Fin 8) {o : Fin 4 → ℕ} (ho : o = ![s.val, 0, h.val, 0]) (inb) :
    kM.view.setOn (Rect.unit (s := S2x512x8x128) o S1x512x1x128.size inb).toLoadRect.set ⊆ kslot s := by
  subst ho
  intro i hi
  obtain ⟨x, hx, rfl⟩ := Finset.mem_map.mp hi
  have h0 : s.val ≤ (x 0).val ∧ (x 0).val < s.val + 1 := Rect.mem_set_unit.mp hx 0
  refine Finset.mem_filter.mpr ⟨Finset.mem_univ _, ?_⟩
  show (x 0).val = s.val
  omega
theorem vread_sub (s : Fin 2) (h : Fin 8) {o : Fin 4 → ℕ} (ho : o = ![s.val, 0, h.val, 0]) (inb) :
    vM.view.setOn (Rect.unit (s := S2x512x8x256) o S1x512x1x256.size inb).toLoadRect.set ⊆ vslot s := by
  subst ho
  intro i hi
  obtain ⟨x, hx, rfl⟩ := Finset.mem_map.mp hi
  have h0 : s.val ≤ (x 0).val ∧ (x 0).val < s.val + 1 := Rect.mem_set_unit.mp hx 0
  refine Finset.mem_filter.mpr ⟨Finset.mem_univ _, ?_⟩
  show (x 0).val = s.val
  omega

/-- A store of the whole buffer's window, from any offsets equal to the window's. -/
theorem aput {o o' : Fin 2 → ℕ} (ho : o = o') (inb) (x : S256x1024.Idx → Elt F .f32) (w) :
    (aM.access (Rect.unit (s := S256x1024) o S256x128.size inb)).write (Elt F) x w Finset.univ = VecWindow.put x o' S256x128.size w := by
  subst ho
  exact View.read_writes_cons_put (Val := Elt F) aM.view x inb w [] rfl
theorem lput {o o' : Fin 2 → ℕ} (ho : o = o') (inb) (x : S256x8.Idx → Elt F .f32) (w) :
    (lM.access (Rect.unit (s := S256x8) o S256x1.size inb)).write (Elt F) x w Finset.univ = VecWindow.put x o' S256x1.size w := by
  subst ho
  exact View.read_writes_cons_put (Val := Elt F) lM.view x inb w [] rfl

section Head
variable {α : Type} (oq : Fin 2 → ℕ) (inbq : ∀ a, oq a + S256x128.size a ≤ S256x1024.size a)
  (ol : Fin 2 → ℕ) (inbl : ∀ a, ol a + S256x1.size a ≤ S256x8.size a)
  (ok : Fin 4 → ℕ) (inbk : ∀ a, ok a + S1x512x1x128.size a ≤ S2x512x8x128.size a)
  (ov : Fin 4 → ℕ) (inbv : ∀ a, ov a + S1x512x1x256.size a ≤ S2x512x8x256.size a)

/-- The program of one head. -/
def headP (k : PUnit → Prog (TpuEff nD τ sig (Elt F) Λ₀ .tc) α) : Prog (TpuEff nD τ sig (Elt F) Λ₀ .tc) α :=
  .op (.load qM (Rect.unit (s := S256x1024) oq S256x128.size inbq).toLoadRect (View.loadsAt_vmem h_S256x128)) fun q =>
  .op (.load kM (Rect.unit (s := S2x512x8x128) ok S1x512x1x128.size inbk).toLoadRect (View.loadsAt_vmem h_S1x512x1x128)) fun kk =>
  .op (.load vM (Rect.unit (s := S2x512x8x256) ov S1x512x1x256.size inbv).toLoadRect (View.loadsAt_vmem h_S1x512x1x256)) fun vv =>
  .op (.load aM (Rect.unit (s := S256x1024) oq S256x128.size inbq).toLoadRect (View.loadsAt_vmem h_S256x128)) fun a =>
  .op (.load aM (Rect.unit (s := S256x1024) oq S256x128.size inbq).toLoadRect (View.loadsAt_vmem h_S256x128)) fun _ =>
  .op (.store aM (Rect.unit (s := S256x1024) oq S256x128.size inbq) (k0_pay12 q kk vv a) Finset.univ (View.stores_vmem_bits_univ h_S256x128 rfl) (.inl rfl)) fun _ =>
  .op (.load lM (Rect.unit (s := S256x8) ol S256x1.size inbl).toLoadRect (View.loadsAt_vmem h_S256x1)) fun l =>
  .op (.load lM (Rect.unit (s := S256x8) ol S256x1.size inbl).toLoadRect (View.loadsAt_vmem h_S256x1)) fun _ =>
  .op (.store lM (Rect.unit (s := S256x8) ol S256x1.size inbl) (k0_pay13 q kk vv l) Finset.univ (View.stores_vmem_bits_univ h_S256x1 rfl) (.inl rfl)) k

/-- What a head reads and changes. -/
def hold (c : Dev nD) (s : Fin 2) (j : ℕ) (K V : Kix → Elt F .f32) (q : S256x1024.Idx → Elt F .f32) (al : AL F) : sProp 𝕄 :=
  iprop((qL c ↦{fullShare} q) ∗ (kL c ↦[kslot s]{fullShare} kc c j K) ∗ (vL c ↦[vslot s]{fullShare} vc c j V)
    ∗ (aL c ↦{fullShare} al.1) ∗ (lL c ↦{fullShare} al.2))

theorem wp_head (c : Dev nD) (s : Fin 2) (j : ℕ) (h : Fin 8) (K V : Kix → Elt F .f32) (q : S256x1024.Idx → Elt F .f32) (al : AL F)
    {k : PUnit → Prog (TpuEff nD τ sig (Elt F) Λ₀ .tc) α} {Q : α → sProp 𝕄}
    (hq : oq = ![0, 128 * h.val]) (hl : ol = ![0, h.val]) (hk : ok = ![s.val, 0, h.val, 0]) (hv : ov = ![s.val, 0, h.val, 0]) :
    hold c s j K V q al ⊢ iprop((hold c s j K V q (stepH c j K V q h al) -∗ wp frame (wpE (defs₀ (F := F)) 𝒱₀ (c : Thread nD τ) none) Set.univ (k ⟨⟩) Q)
      -∗ wp frame (wpE (defs₀ (F := F)) 𝒱₀ (c : Thread nD τ) none) Set.univ (headP oq inbq ol inbl ok inbk ov inbv k) Q) := by
  have ek := kread (F := F) c s j h K hk inbk
  have ev := vread (F := F) c s j h V hv inbv
  have sk := kread_sub s h hk inbk
  have sv := vread_sub s h hv inbv
  subst hq hl
  unfold hold headP
  iintro ⟨Hq, Hk, Hv, Ha, Hl⟩ K0
  iapply (wp_load 𝒱₀ (c : Thread nD τ) none Set.univ (m := qM) (Finset.subset_univ _)) $$ Hq
  iintro Hq
  iapply (wp_load 𝒱₀ (c : Thread nD τ) none Set.univ (m := kM) sk) $$ Hk
  iintro Hk
  iapply (wp_load 𝒱₀ (c : Thread nD τ) none Set.univ (m := vM) sv) $$ Hv
  iintro Hv
  iapply (wp_load 𝒱₀ (c : Thread nD τ) none Set.univ (m := aM) (Finset.subset_univ _)) $$ Ha
  iintro Ha
  iapply (wp_load 𝒱₀ (c : Thread nD τ) none Set.univ (m := aM) (Finset.subset_univ _)) $$ Ha
  iintro Ha
  iapply (wp_store 𝒱₀ (c : Thread nD τ) none Set.univ (m := aM) (r := Rect.unit (s := S256x1024) ![0, 128 * h.val] S256x128.size inbq) (Mk := Finset.univ) (S := Finset.univ) (Finset.subset_univ _)) $$ Ha
  iintro Ha
  iapply (wp_load 𝒱₀ (c : Thread nD τ) none Set.univ (m := lM) (Finset.subset_univ _)) $$ Hl
  iintro Hl
  iapply (wp_load 𝒱₀ (c : Thread nD τ) none Set.univ (m := lM) (Finset.subset_univ _)) $$ Hl
  iintro Hl
  iapply (wp_store 𝒱₀ (c : Thread nD τ) none Set.univ (m := lM) (r := Rect.unit (s := S256x8) ![0, h.val] S256x1.size inbl) (Mk := Finset.univ) (S := Finset.univ) (Finset.subset_univ _)) $$ Hl
  iintro Hl
  iapply K0
  rw [ek, ev, aput rfl inbq, lput rfl inbl]
  isplitl [Hq]; · iexact Hq
  isplitl [Hk]; · iexact Hk
  isplitl [Hv]; · iexact Hv
  isplitl [Ha]; · iexact Ha
  iexact Hl

end Head

end Cert.KProof
-- ==== Proof.Trip.lean ====
module

public import proofs.«01_k».proof.Proof.Head

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One trip of a loop over the chunks

The four loops run the same trip: start the next chunk into the other slot, wait for this one, then the eight heads. -/

abbrev PR (F : FTy → Type) [FloatOps F] := Prog (TpuEff nD τ sig (Elt F) Λ₀ .tc) Unit

/-- The part of a trip after the next chunk is started. -/
def restP (c : Dev nD) (t : Fin k0_t1_loop.trips) : PR F :=
  .op (.waitDma2 ((cc0_scratch13.slice (Rect.unit (s := S2) (k0_off6 t) S1.size (k0_off6_inb t))).squeeze S_ squeezes_S1_S_).sem
    (hSrc khM (k0_off8 c t) (k0_off8_inb c t) (fun _ => rfl) squeezes_S1x512x8x128_S512x8x128) (kDst (k0_off7 t) (k0_off7_inb t) (fun _ => rfl) squeezes_S1x512x8x128_S512x8x128)
    ((View.wordExact_bits rfl).reshape _ _) ((View.wordExact_bits rfl).reshape _ _)) fun _ =>
  .op (.waitDma2 ((cc0_scratch14.slice (Rect.unit (s := S2) (k0_off6 t) S1.size (k0_off6_inb t))).squeeze S_ squeezes_S1_S_).sem
    (hSrc vhM (k0_off8 c t) (k0_off8_inb c t) (fun _ => rfl) squeezes_S1x512x8x128_S512x8x128) (vDst (k0_off9 t) (k0_off9_inb t) (fun _ => rfl) squeezes_S1x512x8x128_S512x8x128)
    ((View.wordExact_bits rfl).reshape _ _) ((View.wordExact_bits rfl).reshape _ _)) fun _ =>
  headP ![0, 0] inb_S256x1024_S256x128_0_0 ![0, 0] inb_S256x8_S256x1_0_0 (k0_off10 t) (k0_off10_inb t) (k0_off11 t) (k0_off11_inb t) fun _ =>
  headP ![0, 128] inb_S256x1024_S256x128_0_128 ![0, 1] inb_S256x8_S256x1_0_1 (k0_off12 t) (k0_off12_inb t) (k0_off13 t) (k0_off13_inb t) fun _ =>
  headP ![0, 256] inb_S256x1024_S256x128_0_256 ![0, 2] inb_S256x8_S256x1_0_2 (k0_off14 t) (k0_off14_inb t) (k0_off15 t) (k0_off15_inb t) fun _ =>
  headP ![0, 384] inb_S256x1024_S256x128_0_384 ![0, 3] inb_S256x8_S256x1_0_3 (k0_off16 t) (k0_off16_inb t) (k0_off17 t) (k0_off17_inb t) fun _ =>
  headP ![0, 512] inb_S256x1024_S256x128_0_512 ![0, 4] inb_S256x8_S256x1_0_4 (k0_off18 t) (k0_off18_inb t) (k0_off19 t) (k0_off19_inb t) fun _ =>
  headP ![0, 640] inb_S256x1024_S256x128_0_640 ![0, 5] inb_S256x8_S256x1_0_5 (k0_off20 t) (k0_off20_inb t) (k0_off21 t) (k0_off21_inb t) fun _ =>
  headP ![0, 768] inb_S256x1024_S256x128_0_768 ![0, 6] inb_S256x8_S256x1_0_6 (k0_off22 t) (k0_off22_inb t) (k0_off23 t) (k0_off23_inb t) fun _ =>
  headP ![0, 896] inb_S256x1024_S256x128_0_896 ![0, 7] inb_S256x8_S256x1_0_7 (k0_off24 t) (k0_off24_inb t) (k0_off25 t) (k0_off25_inb t) fun _ =>
  .ret ()

/-- A whole trip. -/
def tripP (c : Dev nD) (t : Fin k0_t1_loop.trips) : PR F :=
  if h : k0_cond1 t = 1#1 then
    .op (.enqueueDma (hSrc khM (k0_off4 c t) (k0_off4_inb c t h) (fun _ => rfl) squeezes_S1x512x8x128_S512x8x128) (.here (kDst (k0_off3 t) (k0_off3_inb t h) (fun _ => rfl) squeezes_S1x512x8x128_S512x8x128))
      (.dma ((cc0_scratch13.slice (Rect.unit (s := S2) (k0_off2 t) S1.size (k0_off2_inb t h))).squeeze S_ squeezes_S1_S_).sem)
      ((View.wordExact_bits rfl).reshape _ _) ((View.wordExact_bits rfl).reshape _ _) ⟨Or.inl rfl, trivial⟩) fun _ =>
    .op (.enqueueDma (hSrc vhM (k0_off4 c t) (k0_off4_inb c t h) (fun _ => rfl) squeezes_S1x512x8x128_S512x8x128) (.here (vDst (k0_off5 t) (k0_off5_inb t h) (fun _ => rfl) squeezes_S1x512x8x128_S512x8x128))
      (.dma ((cc0_scratch14.slice (Rect.unit (s := S2) (k0_off2 t) S1.size (k0_off2_inb t h))).squeeze S_ squeezes_S1_S_).sem)
      ((View.wordExact_bits rfl).reshape _ _) ((View.wordExact_bits rfl).reshape _ _) ⟨Or.inl rfl, trivial⟩) fun _ =>
    restP c t
  else restP c t

abbrev body1 (c : Dev nD) (t : Fin k0_t1_loop.trips) (u : Unit) : PR F :=
  k0_t1_body (F := F) xM (Memref.isWhole_whole _) wqM (Memref.isWhole_whole _) woM (Memref.isWhole_whole _) khM (Memref.isWhole_whole _) vhM (Memref.isWhole_whole _) oM (Memref.isWhole_whole _) xrM (Memref.isWhole_whole _) qM (Memref.isWhole_whole _) kM (Memref.isWhole_whole _) vM (Memref.isWhole_whole _) lM (Memref.isWhole_whole _) aM (Memref.isWhole_whole _) p0M (Memref.isWhole_whole _) roM (Memref.isWhole_whole _) rcM (Memref.isWhole_whole _) cc0_scratch9 cc0_scratch10 cc0_scratch11 cc0_scratch12 cc0_scratch13 cc0_scratch14 c t u
set_option maxHeartbeats 4000000 in
theorem body1_eq (c : Dev nD) (t : Fin k0_t1_loop.trips) (u : Unit) : body1 (F := F) c t u = tripP c t := by
  unfold body1 k0_t1_body
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  by_cases hc : k0_cond1 t = 1#1
  · have hc' : k0_cond1 t = 1#1 := hc
    simp only [hc', dif_pos, Prog.lift, Prog.bind_op, Prog.bind_ret, Prog.pure_eq_ret]
    unfold tripP
    rw [dif_pos hc]
    rfl
  · have hc' : ¬ k0_cond1 t = 1#1 := hc
    simp only [hc', dif_neg, not_false_eq_true, Prog.lift, Prog.bind_op, Prog.bind_ret, Prog.pure_eq_ret]
    unfold tripP
    rw [dif_neg hc]
    rfl

abbrev body2 (c : Dev nD) (z : F .f32) (t : Fin k0_t2_loop.trips) (u : Unit) : PR F :=
  k0_t2_body (F := F) xM (Memref.isWhole_whole _) wqM (Memref.isWhole_whole _) woM (Memref.isWhole_whole _) khM (Memref.isWhole_whole _) vhM (Memref.isWhole_whole _) oM (Memref.isWhole_whole _) xrM (Memref.isWhole_whole _) qM (Memref.isWhole_whole _) kM (Memref.isWhole_whole _) vM (Memref.isWhole_whole _) lM (Memref.isWhole_whole _) aM (Memref.isWhole_whole _) p0M (Memref.isWhole_whole _) roM (Memref.isWhole_whole _) rcM (Memref.isWhole_whole _) cc0_scratch9 cc0_scratch10 cc0_scratch11 cc0_scratch12 cc0_scratch13 cc0_scratch14 c z t u
set_option maxHeartbeats 4000000 in
theorem body2_eq (c : Dev nD) (z : F .f32) (t : Fin k0_t1_loop.trips) (u : Unit) : body2 (F := F) c z t u = tripP c t := by
  unfold body2 k0_t2_body
  simp only [k0_part7_eq_skeleton, k0_part8_eq_skeleton, k0_part9_eq_skeleton, k0_part10_eq_skeleton, k0_part11_eq_skeleton, k0_part12_eq_skeleton]
  unfold k0_part7_skel k0_part8_skel k0_part9_skel k0_part10_skel k0_part11_skel k0_part12_skel
  by_cases hc : k0_cond1 t = 1#1
  · have hc' : k0_cond2 t = 1#1 := hc
    simp only [hc', dif_pos, Prog.lift, Prog.bind_op, Prog.bind_ret, Prog.pure_eq_ret]
    unfold tripP
    rw [dif_pos hc]
    rfl
  · have hc' : ¬ k0_cond2 t = 1#1 := hc
    simp only [hc', dif_neg, not_false_eq_true, Prog.lift, Prog.bind_op, Prog.bind_ret, Prog.pure_eq_ret]
    unfold tripP
    rw [dif_neg hc]
    rfl

abbrev body3 (c : Dev nD) (z : Vec F S256x1024 .f32) (t : Fin k0_t3_loop.trips) (u : Unit) : PR F :=
  k0_t3_body (F := F) xM (Memref.isWhole_whole _) wqM (Memref.isWhole_whole _) woM (Memref.isWhole_whole _) khM (Memref.isWhole_whole _) vhM (Memref.isWhole_whole _) oM (Memref.isWhole_whole _) xrM (Memref.isWhole_whole _) qM (Memref.isWhole_whole _) kM (Memref.isWhole_whole _) vM (Memref.isWhole_whole _) lM (Memref.isWhole_whole _) aM (Memref.isWhole_whole _) p0M (Memref.isWhole_whole _) roM (Memref.isWhole_whole _) rcM (Memref.isWhole_whole _) cc0_scratch9 cc0_scratch10 cc0_scratch11 cc0_scratch12 cc0_scratch13 cc0_scratch14 c z t u
set_option maxHeartbeats 4000000 in
theorem body3_eq (c : Dev nD) (z : Vec F S256x1024 .f32) (t : Fin k0_t1_loop.trips) (u : Unit) : body3 (F := F) c z t u = tripP c t := by
  unfold body3 k0_t3_body
  simp only [k0_part13_eq_skeleton, k0_part14_eq_skeleton, k0_part15_eq_skeleton, k0_part16_eq_skeleton, k0_part17_eq_skeleton, k0_part18_eq_skeleton]
  unfold k0_part13_skel k0_part14_skel k0_part15_skel k0_part16_skel k0_part17_skel k0_part18_skel
  by_cases hc : k0_cond1 t = 1#1
  · have hc' : k0_cond3 t = 1#1 := hc
    simp only [hc', dif_pos, Prog.lift, Prog.bind_op, Prog.bind_ret, Prog.pure_eq_ret]
    unfold tripP
    rw [dif_pos hc]
    rfl
  · have hc' : ¬ k0_cond3 t = 1#1 := hc
    simp only [hc', dif_neg, not_false_eq_true, Prog.lift, Prog.bind_op, Prog.bind_ret, Prog.pure_eq_ret]
    unfold tripP
    rw [dif_neg hc]
    rfl

abbrev body4 (c : Dev nD) (t : Fin k0_t4_loop.trips) (u : Unit) : PR F :=
  k0_t4_body (F := F) xM (Memref.isWhole_whole _) wqM (Memref.isWhole_whole _) woM (Memref.isWhole_whole _) khM (Memref.isWhole_whole _) vhM (Memref.isWhole_whole _) oM (Memref.isWhole_whole _) xrM (Memref.isWhole_whole _) qM (Memref.isWhole_whole _) kM (Memref.isWhole_whole _) vM (Memref.isWhole_whole _) lM (Memref.isWhole_whole _) aM (Memref.isWhole_whole _) p0M (Memref.isWhole_whole _) roM (Memref.isWhole_whole _) rcM (Memref.isWhole_whole _) cc0_scratch9 cc0_scratch10 cc0_scratch11 cc0_scratch12 cc0_scratch13 cc0_scratch14 c t u
set_option maxHeartbeats 4000000 in
theorem body4_eq (c : Dev nD) (t : Fin k0_t1_loop.trips) (u : Unit) : body4 (F := F) c t u = tripP c t := by
  unfold body4 k0_t4_body
  simp only [k0_part19_eq_skeleton, k0_part20_eq_skeleton, k0_part21_eq_skeleton, k0_part22_eq_skeleton, k0_part23_eq_skeleton, k0_part24_eq_skeleton]
  unfold k0_part19_skel k0_part20_skel k0_part21_skel k0_part22_skel k0_part23_skel k0_part24_skel
  by_cases hc : k0_cond1 t = 1#1
  · have hc' : k0_cond4 t = 1#1 := hc
    simp only [hc', dif_pos, Prog.lift, Prog.bind_op, Prog.bind_ret, Prog.pure_eq_ret]
    unfold tripP
    rw [dif_pos hc]
    rfl
  · have hc' : ¬ k0_cond4 t = 1#1 := hc
    simp only [hc', dif_neg, not_false_eq_true, Prog.lift, Prog.bind_op, Prog.bind_ret, Prog.pure_eq_ret]
    unfold tripP
    rw [dif_neg hc]
    rfl

/-- The slot of chunk `j`. -/
def sl (j : ℕ) : Fin 2 := ⟨j % 2, Nat.mod_lt _ (by decide)⟩
theorem sl_add_two (j : ℕ) : sl (j + 2) = sl j := Fin.ext (by show (j + 2) % 2 = j % 2; omega)

theorem cond1_iff : ∀ t : Fin k0_t1_loop.trips, k0_cond1 t = 1#1 ↔ t.val < 7 := by decide +kernel
theorem trips1 : k0_t1_loop.trips = 8 := by decide +kernel

/-- The lanes of slot `s` of the value buffer beside the copied ones: one, then zeros. -/
def padc : S2x512x8x256.Idx → Elt F .f32 :=
  fun i => if (i 3).val = 128 then Scalar.ofBits .f32 0x3F800000#32 else Scalar.ofBits .f32 0x00000000#32
def vPad (c : Dev nD) (s : Fin 2) : sProp 𝕄 := iprop(vL c ↦[vpad s]{fullShare} padc)

theorem vslot_eq (s : Fin 2) : vslot s = vdat s ∪ vpad s := by
  ext i
  simp only [vslot, vdat, vpad, Finset.mem_filter, Finset.mem_univ, true_and, Finset.mem_union]
  by_cases h : (i 3).val < 128 <;> simp [h]
theorem vdat_vpad (s : Fin 2) : Disjoint (vdat s) (vpad s) := by
  rw [Finset.disjoint_left]
  intro i hi hi'
  simp only [vdat, vpad, Finset.mem_filter, Finset.mem_univ, true_and] at hi hi'
  exact hi'.2 hi.2
theorem padc_eq (c : Dev nD) (s : Fin 2) (j : ℕ) (V : Kix → Elt F .f32) : ∀ i ∈ vpad s, padc (F := F) i = vc c j V i := by
  intro i hi
  simp only [vpad, Finset.mem_filter, Finset.mem_univ, true_and] at hi
  unfold padc vc
  rw [if_neg hi.2]

theorem vslot_join (c : Dev nD) (s : Fin 2) (j : ℕ) (V : Kix → Elt F .f32) :
    iprop((vL c ↦[vdat s]{fullShare} vc c j V) ∗ vPad (F := F) c s) ⊣⊢ iprop(vL c ↦[vslot s]{fullShare} vc c j V) := by
  unfold vPad
  have e : iprop(vL c ↦[vpad s]{fullShare} padc (F := F)) = (iprop(vL c ↦[vpad s]{fullShare} vc c j V) : sProp 𝕄) := pointsTo_congr (padc_eq c s j V)
  rw [vslot_eq, e]
  exact (pointsTo_union (vdat_vpad s)).symm

section Trip
variable (c : Dev nD) (K V : Kix → Elt F .f32) (q : S256x1024.Idx → Elt F .f32) (qs : Fin 2 → PosShare TreeShare)
  (O : CellTallies nD τ sig Unit)

/-- Before trip `j`: the sums over the chunks so far, the next slot idle, and chunk `j` on its way into its slot —
    unless there is none. -/
def chunkInv (MW : sProp 𝕄) (j : ℕ) : sProp 𝕄 :=
  iprop(∃ W : Waits sig Unit, owes (c : Thread nD τ) O W ∗ MW ∗ (qL c ↦{fullShare} q) ∗ (aL c ↦{fullShare} (sums c K V q j).1) ∗ (lL c ↦{fullShare} (sums c K V q j).2)
    ∗ vPad c (sl j) ∗ vPad c (sl (j + 1)) ∗ kIdle c (sl (j + 1)) (qs (sl (j + 1))) K ∗ vIdle c (sl (j + 1)) (qs (sl (j + 1))) V
    ∗ (if j < 8 then iprop(kBusy c (sl j) j (qs (sl j)) K ∗ vBusy c (sl j) j (qs (sl j)) V)
        else iprop(kIdle c (sl j) (qs (sl j)) K ∗ vIdle c (sl j) (qs (sl j)) V)))

theorem wp_rest (MW : sProp 𝕄) [Persistent MW] (hk : ∀ s, MW ⊢ MayWait (c : Thread nD τ) (.dma (kS s)) () O) (hv : ∀ s, MW ⊢ MayWait (c : Thread nD τ) (.dma (vS s)) () O)
    (t : Fin k0_t1_loop.trips) (W : Waits sig Unit) (R : sProp 𝕄) :
    iprop(owes (c : Thread nD τ) O W ∗ MW ∗ (qL c ↦{fullShare} q) ∗ (aL c ↦{fullShare} (sums c K V q t.val).1) ∗ (lL c ↦{fullShare} (sums c K V q t.val).2)
      ∗ vPad c (sl t.val) ∗ kBusy c (sl t.val) t.val (qs (sl t.val)) K ∗ vBusy c (sl t.val) t.val (qs (sl t.val)) V ∗ R)
    ⊢ wp frame (wpE (defs₀ (F := F)) 𝒱₀ (c : Thread nD τ) none) Set.univ (restP c t) fun _ =>
      iprop(∃ W : Waits sig Unit, owes (c : Thread nD τ) O W ∗ MW ∗ (qL c ↦{fullShare} q) ∗ (aL c ↦{fullShare} (sums c K V q (t.val + 1)).1) ∗ (lL c ↦{fullShare} (sums c K V q (t.val + 1)).2)
      ∗ vPad c (sl t.val) ∗ kIdle c (sl t.val) (qs (sl t.val)) K ∗ vIdle c (sl t.val) (qs (sl t.val)) V ∗ R) := by
  unfold restP
  iintro ⟨HO, #HM, Hq, Ha, Hl, Hp, Hk, Hv, HR⟩
  iapply (wp_kWait c (sl t.val) t.val (qs (sl t.val)) K (kS_eq (sl t.val) (k0_off6_eq t) _ _) O W) $$ [Hk HO]
  · isplitl [Hk]; · iexact Hk
    isplitl [HO]; · iexact HO
    iapply (hk (sl t.val)); iexact HM
  iintro ⟨Hk, HO⟩
  iapply (wp_vWait c (sl t.val) t.val (qs (sl t.val)) V (vS_eq (sl t.val) (k0_off6_eq t) _ _) O _) $$ [Hv HO]
  · isplitl [Hv]; · iexact Hv
    isplitl [HO]; · iexact HO
    iapply (hv (sl t.val)); iexact HM
  iintro ⟨Hv, HO⟩
  unfold kDone vDone
  icases Hk with ⟨Hk, Hks⟩
  icases Hv with ⟨Hv, Hvs⟩
  ihave Hv := (vslot_join c (sl t.val) t.val V).1 $$ [Hv Hp]
  · isplitl [Hv] <;> iassumption
  ihave H : hold c (sl t.val) t.val K V q (sums c K V q t.val) $$ [Hq Hk Hv Ha Hl]
  · unfold hold
    isplitl [Hq]; · iexact Hq
    isplitl [Hk]; · iexact Hk
    isplitl [Hv]; · iexact Hv
    isplitl [Ha]; · iexact Ha
    iexact Hl
  iapply (wp_head (hq := rfl) (hl := rfl) (hk := k0_off10_eq t) (hv := k0_off11_eq t) (c := c) (s := sl t.val) (h := 0)) $$ H
  iintro H
  iapply (wp_head (hq := rfl) (hl := rfl) (hk := k0_off12_eq t) (hv := k0_off13_eq t) (c := c) (s := sl t.val) (h := 1)) $$ H
  iintro H
  iapply (wp_head (hq := rfl) (hl := rfl) (hk := k0_off14_eq t) (hv := k0_off15_eq t) (c := c) (s := sl t.val) (h := 2)) $$ H
  iintro H
  iapply (wp_head (hq := rfl) (hl := rfl) (hk := k0_off16_eq t) (hv := k0_off17_eq t) (c := c) (s := sl t.val) (h := 3)) $$ H
  iintro H
  iapply (wp_head (hq := rfl) (hl := rfl) (hk := k0_off18_eq t) (hv := k0_off19_eq t) (c := c) (s := sl t.val) (h := 4)) $$ H
  iintro H
  iapply (wp_head (hq := rfl) (hl := rfl) (hk := k0_off20_eq t) (hv := k0_off21_eq t) (c := c) (s := sl t.val) (h := 5)) $$ H
  iintro H
  iapply (wp_head (hq := rfl) (hl := rfl) (hk := k0_off22_eq t) (hv := k0_off23_eq t) (c := c) (s := sl t.val) (h := 6)) $$ H
  iintro H
  iapply (wp_head (hq := rfl) (hl := rfl) (hk := k0_off24_eq t) (hv := k0_off25_eq t) (c := c) (s := sl t.val) (h := 7)) $$ H
  iintro H
  unfold hold
  icases H with ⟨Hq, Hk, Hv, Ha, Hl⟩
  ihave Hv := (vslot_join c (sl t.val) t.val V).2 $$ Hv
  icases Hv with ⟨Hv, Hp⟩
  iapply (le_wp_ret _ _ _ _ _)
  iexists _
  isplitl [HO]; · iexact HO
  isplitr; · iexact HM
  isplitl [Hq]; · iexact Hq
  isplitl [Ha]; · iexact Ha
  isplitl [Hl]; · iexact Hl
  isplitl [Hp]; · iexact Hp
  isplitl [Hk Hks]
  · iapply (kDone_idle c (sl t.val) t.val (qs (sl t.val)) K)
    unfold kDone
    isplitl [Hk] <;> iassumption
  isplitl [Hv Hvs]
  · iapply (vDone_idle c (sl t.val) t.val (qs (sl t.val)) V)
    unfold vDone
    isplitl [Hv] <;> iassumption
  iexact HR

/-- The trip. -/
theorem wp_trip (MW : sProp 𝕄) [Persistent MW] (hk : ∀ s, MW ⊢ MayWait (c : Thread nD τ) (.dma (kS s)) () O) (hv : ∀ s, MW ⊢ MayWait (c : Thread nD τ) (.dma (vS s)) () O)
    (t : Fin k0_t1_loop.trips) :
    chunkInv c K V q qs O MW t.val ⊢ wp frame (wpE (defs₀ (F := F)) 𝒱₀ (c : Thread nD τ) none) Set.univ (tripP c t) fun _ => chunkInv c K V q qs O MW (t.val + 1) := by
  have ht : t.val < 8 := lt_of_lt_of_eq t.isLt trips1
  unfold chunkInv tripP
  rw [if_pos ht]
  iintro ⟨%W, HO, #HM, Hq, Ha, Hl, Hp, Hp', Hki, Hvi, Hk, Hv⟩
  by_cases hc : k0_cond1 t = 1#1
  · have h7 := (cond1_iff t).mp hc
    have h8 : t.val + 1 < 8 := by omega
    rw [dif_pos hc, if_pos h8]
    iapply (wp_kStart c (sl (t.val + 1)) (t.val + 1) (qs (sl (t.val + 1))) K h8 (k0_off3_eq t) (k0_off4_eq c t) (kS_eq (sl (t.val + 1)) (k0_off2_eq t) _ _)) $$ Hki
    iintro Hki
    iapply (wp_vStart c (sl (t.val + 1)) (t.val + 1) (qs (sl (t.val + 1))) V h8 (k0_off5_eq t) (k0_off4_eq c t) (vS_eq (sl (t.val + 1)) (k0_off2_eq t) _ _)) $$ Hvi
    iintro Hvi
    iapply ((wp_rest c K V q qs O MW hk hv t W iprop(vPad c (sl (t.val + 1)) ∗ kBusy c (sl (t.val + 1)) (t.val + 1) (qs (sl (t.val + 1))) K ∗ vBusy c (sl (t.val + 1)) (t.val + 1) (qs (sl (t.val + 1))) V)).trans
      (wp_mono _ _ _ fun _ => ?_)) $$ [HO Hq Ha Hl Hp Hp' Hki Hvi Hk Hv]
    rotate_left
    · isplitl [HO]; · iexact HO
      isplitr; · iexact HM
      isplitl [Hq]; · iexact Hq
      isplitl [Ha]; · iexact Ha
      isplitl [Hl]; · iexact Hl
      isplitl [Hp]; · iexact Hp
      isplitl [Hk]; · iexact Hk
      isplitl [Hv]; · iexact Hv
      isplitl [Hp']; · iexact Hp'
      isplitl [Hki] <;> iassumption
    iintro ⟨%W', HO, #HM, Hq, Ha, Hl, Hp, Hk, Hv, Hp', Hki, Hvi⟩
    rw [sl_add_two]
    iexists W'
    isplitl [HO]; · iexact HO
    isplitr; · iexact HM
    isplitl [Hq]; · iexact Hq
    isplitl [Ha]; · iexact Ha
    isplitl [Hl]; · iexact Hl
    isplitl [Hp']; · iexact Hp'
    isplitl [Hp]; · iexact Hp
    isplitl [Hk]; · iexact Hk
    isplitl [Hv]; · iexact Hv
    isplitl [Hki] <;> iassumption
  · have h8 : ¬ t.val + 1 < 8 := fun h => hc ((cond1_iff t).mpr (by omega))
    rw [dif_neg hc, if_neg h8]
    iapply ((wp_rest c K V q qs O MW hk hv t W iprop(vPad c (sl (t.val + 1)) ∗ kIdle c (sl (t.val + 1)) (qs (sl (t.val + 1))) K ∗ vIdle c (sl (t.val + 1)) (qs (sl (t.val + 1))) V)).trans
      (wp_mono _ _ _ fun _ => ?_)) $$ [HO Hq Ha Hl Hp Hp' Hki Hvi Hk Hv]
    rotate_left
    · isplitl [HO]; · iexact HO
      isplitr; · iexact HM
      isplitl [Hq]; · iexact Hq
      isplitl [Ha]; · iexact Ha
      isplitl [Hl]; · iexact Hl
      isplitl [Hp]; · iexact Hp
      isplitl [Hk]; · iexact Hk
      isplitl [Hv]; · iexact Hv
      isplitl [Hp']; · iexact Hp'
      isplitl [Hki] <;> iassumption
    iintro ⟨%W', HO, #HM, Hq, Ha, Hl, Hp, Hk, Hv, Hp', Hki, Hvi⟩
    rw [sl_add_two]
    iexists W'
    isplitl [HO]; · iexact HO
    isplitr; · iexact HM
    isplitl [Hq]; · iexact Hq
    isplitl [Ha]; · iexact Ha
    isplitl [Hl]; · iexact Hl
    isplitl [Hp']; · iexact Hp'
    isplitl [Hp]; · iexact Hp
    isplitl [Hk]; · iexact Hk
    isplitl [Hv]; · iexact Hv
    isplitl [Hki] <;> iassumption

end Trip

end Cert.KProof
-- ==== Proof.Calc.lean ====
module

public import proofs.«01_k».proof.Proof.Trip
public import Idealize.ShloMosaic.Lib.Pipeline.Value

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One block of rows, from its queries to its share of the output

The two running sums are set to zero, the chunks are gone through, and the sum of the weighted values is divided by
the sum of the weights, head by head. -/

/-- Dividing the columns of head `h`. -/
def divH (al : AL F) (h : Fin 8) : AL F :=
  (VecWindow.put al.1 ![0, 128 * h.val] S256x128.size (k0_pay118 (cols al.1 h) (ones al.2 h)), al.2)
/-- The attention of the rows `q` over device `c`'s heads. -/
def attn (c : Dev nD) (K V : Kix → Elt F .f32) (q : S256x1024.Idx → Elt F .f32) : S256x1024.Idx → Elt F .f32 :=
  ([0, 1, 2, 3, 4, 5, 6, 7].foldl divH (sums c K V q 8)).1

section Pieces
variable {α : Type}

def divP (oq : Fin 2 → ℕ) (inbq : ∀ a, oq a + S256x128.size a ≤ S256x1024.size a)
    (ol : Fin 2 → ℕ) (inbl : ∀ a, ol a + S256x1.size a ≤ S256x8.size a)
    (k : PUnit → Prog (TpuEff nD τ sig (Elt F) Λ₀ .tc) α) : Prog (TpuEff nD τ sig (Elt F) Λ₀ .tc) α :=
  .op (.load aM (Rect.unit (s := S256x1024) oq S256x128.size inbq).toLoadRect (View.loadsAt_vmem h_S256x128)) fun a =>
  .op (.load lM (Rect.unit (s := S256x8) ol S256x1.size inbl).toLoadRect (View.loadsAt_vmem h_S256x1)) fun l =>
  .op (.load aM (Rect.unit (s := S256x1024) oq S256x128.size inbq).toLoadRect (View.loadsAt_vmem h_S256x128)) fun _ =>
  .op (.store aM (Rect.unit (s := S256x1024) oq S256x128.size inbq) (k0_pay118 a l) Finset.univ (View.stores_vmem_bits_univ h_S256x128 rfl) (.inl rfl)) k

theorem wp_div (oq inbq ol inbl) (c : Dev nD) (h : Fin 8) (al : AL F)
    {k : PUnit → Prog (TpuEff nD τ sig (Elt F) Λ₀ .tc) α} {Q : α → sProp 𝕄} (hq : oq = ![0, 128 * h.val]) (hl : ol = ![0, h.val]) :
    iprop((aL c ↦{fullShare} al.1) ∗ (lL c ↦{fullShare} al.2)) ⊢
      iprop((iprop((aL c ↦{fullShare} (divH al h).1) ∗ (lL c ↦{fullShare} (divH al h).2)) -∗ wp frame (wpE (defs₀ (F := F)) 𝒱₀ (c : Thread nD τ) none) Set.univ (k ⟨⟩) Q)
        -∗ wp frame (wpE (defs₀ (F := F)) 𝒱₀ (c : Thread nD τ) none) Set.univ (divP oq inbq ol inbl k) Q) := by
  subst hq hl
  unfold divP
  iintro ⟨Ha, Hl⟩ K0
  iapply (wp_load 𝒱₀ (c : Thread nD τ) none Set.univ (m := aM) (Finset.subset_univ _)) $$ Ha
  iintro Ha
  iapply (wp_load 𝒱₀ (c : Thread nD τ) none Set.univ (m := lM) (Finset.subset_univ _)) $$ Hl
  iintro Hl
  iapply (wp_load 𝒱₀ (c : Thread nD τ) none Set.univ (m := aM) (Finset.subset_univ _)) $$ Ha
  iintro Ha
  iapply (wp_store 𝒱₀ (c : Thread nD τ) none Set.univ (m := aM) (r := Rect.unit (s := S256x1024) ![0, 128 * h.val] S256x128.size inbq) (Mk := Finset.univ) (S := Finset.univ) (Finset.subset_univ _)) $$ Ha
  iintro Ha
  iapply K0
  rw [aput rfl inbq]
  isplitl [Ha]; · iexact Ha
  iexact Hl

theorem z2 : ∀ a, (![0, 0] : Fin 2 → ℕ) a = 0 := fun a => by match a with
  | ⟨0, _⟩ => rfl
  | ⟨1, _⟩ => rfl
theorem z3 : ∀ a, (![0, 0, 0] : Fin 3 → ℕ) a = 0 := fun a => by match a with
  | ⟨0, _⟩ => rfl
  | ⟨1, _⟩ => rfl
  | ⟨2, _⟩ => rfl

theorem rd_x (x) : xM.view.readAt (Elt F) (Rect.unit (s := S1x256x1024) ![0, 0, 0] S1x256x1024.size inb_S1x256x1024_S1x256x1024_0_0_0).toLoadRect x = x :=
  Memref.readAt_unit_zero (Elt F) cc0_stg0_0 (funext z3) _ x
theorem rd_wq (x) : wqM.view.readAt (Elt F) (Rect.unit (s := S1024x1024) ![0, 0] S1024x1024.size inb_S1024x1024_S1024x1024_0_0).toLoadRect x = x :=
  Memref.readAt_unit_zero (Elt F) cc0_stg1_0 (funext z2) _ x
theorem rd_wo (x) : woM.view.readAt (Elt F) (Rect.unit (s := S1024x1024) ![0, 0] S1024x1024.size inb_S1024x1024_S1024x1024_0_0).toLoadRect x = x :=
  Memref.readAt_unit_zero (Elt F) cc0_stg2_0 (funext z2) _ x
theorem rd_a (x) : aM.view.readAt (Elt F) (Rect.unit (s := S256x1024) ![0, 0] S256x1024.size inb_S256x1024_S256x1024_0_0).toLoadRect x = x :=
  Memref.readAt_unit_zero (Elt F) cc0_scratch5 (funext z2) _ x
theorem rd_p0 (x) : p0M.view.readAt (Elt F) (Rect.unit (s := S256x1024) ![0, 0] S256x1024.size inb_S256x1024_S256x1024_0_0).toLoadRect x = x :=
  Memref.readAt_unit_zero (Elt F) cc0_scratch6 (funext z2) _ x
theorem wr_q (x w) : (qM.access (Rect.unit (s := S256x1024) ![0, 0] S256x1024.size inb_S256x1024_S256x1024_0_0)).write (Elt F) x w Finset.univ = w :=
  Memref.write_access_unit_zero_univ (Elt F) cc0_scratch1 (funext z2) _ x w
theorem wr_a (x w) : (aM.access (Rect.unit (s := S256x1024) ![0, 0] S256x1024.size inb_S256x1024_S256x1024_0_0)).write (Elt F) x w Finset.univ = w :=
  Memref.write_access_unit_zero_univ (Elt F) cc0_scratch5 (funext z2) _ x w
theorem wr_p0 (x w) : (p0M.access (Rect.unit (s := S256x1024) ![0, 0] S256x1024.size inb_S256x1024_S256x1024_0_0)).write (Elt F) x w Finset.univ = w :=
  Memref.write_access_unit_zero_univ (Elt F) cc0_scratch6 (funext z2) _ x w
theorem wr_l (x w) : (lM.access (Rect.unit (s := S256x8) ![0, 0] S256x8.size inb_S256x8_S256x8_0_0)).write (Elt F) x w Finset.univ = w :=
  Memref.write_access_unit_zero_univ (Elt F) cc0_scratch4 (funext z2) _ x w
theorem wr_o (x w) : (oM.access (Rect.unit (s := S1x256x1024) ![0, 0, 0] S1x256x1024.size inb_S1x256x1024_S1x256x1024_0_0_0)).write (Elt F) x w Finset.univ = w :=
  Memref.write_access_unit_zero_univ (Elt F) cc0_stg3_0 (funext z3) _ x w

def coreP (c : Dev nD) (k : PUnit → Prog (TpuEff nD τ sig (Elt F) Λ₀ .tc) α) : Prog (TpuEff nD τ sig (Elt F) Λ₀ .tc) α :=
  .op (.load lM (Rect.unit (s := S256x8) ![0, 0] S256x8.size inb_S256x8_S256x8_0_0).toLoadRect (View.loadsAt_vmem h_S256x8)) fun _ =>
  .op (.store lM (Rect.unit (s := S256x8) ![0, 0] S256x8.size inb_S256x8_S256x8_0_0) (k0_pay113 (F := F)) Finset.univ (View.stores_vmem_bits_univ h_S256x8 rfl) (.inl rfl)) fun _ =>
  .op (.load aM (Rect.unit (s := S256x1024) ![0, 0] S256x1024.size inb_S256x1024_S256x1024_0_0).toLoadRect (View.loadsAt_vmem h_S256x1024)) fun _ =>
  .op (.store aM (Rect.unit (s := S256x1024) ![0, 0] S256x1024.size inb_S256x1024_S256x1024_0_0) (k0_pay114 (F := F)) Finset.univ (View.stores_vmem_bits_univ h_S256x1024 rfl) (.inl rfl)) fun _ =>
  Prog.bind (Scf.Loop.for k0_t1_loop k0_t1_ok ⟨⟩ (fun t _ => tripP c t)) fun _ =>
  divP ![0, 0] inb_S256x1024_S256x128_0_0 ![0, 0] inb_S256x8_S256x1_0_0 fun _ =>
  divP ![0, 128] inb_S256x1024_S256x128_0_128 ![0, 1] inb_S256x8_S256x1_0_1 fun _ =>
  divP ![0, 256] inb_S256x1024_S256x128_0_256 ![0, 2] inb_S256x8_S256x1_0_2 fun _ =>
  divP ![0, 384] inb_S256x1024_S256x128_0_384 ![0, 3] inb_S256x8_S256x1_0_3 fun _ =>
  divP ![0, 512] inb_S256x1024_S256x128_0_512 ![0, 4] inb_S256x8_S256x1_0_4 fun _ =>
  divP ![0, 640] inb_S256x1024_S256x128_0_640 ![0, 5] inb_S256x8_S256x1_0_5 fun _ =>
  divP ![0, 768] inb_S256x1024_S256x128_0_768 ![0, 6] inb_S256x8_S256x1_0_6 fun _ =>
  divP ![0, 896] inb_S256x1024_S256x128_0_896 ![0, 7] inb_S256x8_S256x1_0_7 k

/-- The two slots when nothing is on its way. -/
def slots (c : Dev nD) (K V : Kix → Elt F .f32) (qs : Fin 2 → PosShare TreeShare) : sProp 𝕄 :=
  iprop(vPad c 0 ∗ vPad c 1 ∗ kIdle c 0 (qs 0) K ∗ vIdle c 0 (qs 0) V ∗ kIdle c 1 (qs 1) K ∗ vIdle c 1 (qs 1) V)
/-- The two slots when chunk 0 is on its way. -/
def slots0 (c : Dev nD) (K V : Kix → Elt F .f32) (qs : Fin 2 → PosShare TreeShare) : sProp 𝕄 :=
  iprop(vPad c 0 ∗ vPad c 1 ∗ kBusy c 0 0 (qs 0) K ∗ vBusy c 0 0 (qs 0) V ∗ kIdle c 1 (qs 1) K ∗ vIdle c 1 (qs 1) V)

theorem wp_core (c : Dev nD) (K V : Kix → Elt F .f32) (q : S256x1024.Idx → Elt F .f32) (qs : Fin 2 → PosShare TreeShare) (O : CellTallies nD τ sig Unit)
    (MW : sProp 𝕄) [Persistent MW] (hk : ∀ s, MW ⊢ MayWait (c : Thread nD τ) (.dma (kS s)) () O) (hv : ∀ s, MW ⊢ MayWait (c : Thread nD τ) (.dma (vS s)) () O)
    (W : Waits sig Unit) {k : PUnit → Prog (TpuEff nD τ sig (Elt F) Λ₀ .tc) α} {Q : α → sProp 𝕄} :
    iprop(owes (c : Thread nD τ) O W ∗ MW ∗ (qL c ↦{fullShare} q) ∗ (∃ a, aL c ↦{fullShare} a) ∗ (∃ l, lL c ↦{fullShare} l) ∗ slots0 c K V qs)
      ⊢ iprop((iprop((∃ W, owes (c : Thread nD τ) O W) ∗ (qL c ↦{fullShare} q) ∗ (aL c ↦{fullShare} attn c K V q) ∗ (∃ l, lL c ↦{fullShare} l) ∗ slots c K V qs)
          -∗ wp frame (wpE (defs₀ (F := F)) 𝒱₀ (c : Thread nD τ) none) Set.univ (k ⟨⟩) Q)
        -∗ wp frame (wpE (defs₀ (F := F)) 𝒱₀ (c : Thread nD τ) none) Set.univ (coreP c k) Q) := by
  unfold coreP slots0
  iintro ⟨HO, #HM, Hq, ⟨%a, Ha⟩, ⟨%l, Hl⟩, Hp0, Hp1, Hk0, Hv0, Hk1, Hv1⟩ K0
  iapply (wp_load 𝒱₀ (c : Thread nD τ) none Set.univ (m := lM) (Finset.subset_univ _)) $$ Hl
  iintro Hl
  iapply (wp_store 𝒱₀ (c : Thread nD τ) none Set.univ (m := lM) (r := Rect.unit (s := S256x8) ![0, 0] S256x8.size inb_S256x8_S256x8_0_0) (Mk := Finset.univ) (S := Finset.univ) (Finset.subset_univ _)) $$ Hl
  iintro Hl
  rw [wr_l]
  iapply (wp_load 𝒱₀ (c : Thread nD τ) none Set.univ (m := aM) (Finset.subset_univ _)) $$ Ha
  iintro Ha
  iapply (wp_store 𝒱₀ (c : Thread nD τ) none Set.univ (m := aM) (r := Rect.unit (s := S256x1024) ![0, 0] S256x1024.size inb_S256x1024_S256x1024_0_0) (Mk := Finset.univ) (S := Finset.univ) (Finset.subset_univ _)) $$ Ha
  iintro Ha
  rw [wr_a]
  have h0 : (0 : ℕ) < 8 := by decide
  ihave HI : chunkInv c K V q qs O MW 0 $$ [HO Hq Ha Hl Hp0 Hp1 Hk0 Hv0 Hk1 Hv1]
  · unfold chunkInv
    rw [if_pos h0]
    iexists W
    isplitl [HO]; · iexact HO
    isplitr; · iexact HM
    isplitl [Hq]; · iexact Hq
    isplitl [Ha]; · iexact Ha
    isplitl [Hl]; · iexact Hl
    isplitl [Hp0]; · iexact Hp0
    isplitl [Hp1]; · iexact Hp1
    isplitl [Hk1]; · iexact Hk1
    isplitl [Hv1]; · iexact Hv1
    isplitl [Hk0]; · iexact Hk0
    iexact Hv0
  iapply (Scf.wp_for_bind frame (wpE (defs₀ (F := F)) 𝒱₀ (c : Thread nD τ) none) Set.univ _ _ _ _ _ _ (fun j _ => chunkInv c K V q qs O MW j)
    (fun t _ => wp_trip c K V q qs O MW hk hv t)) $$ HI
  iintro %u HI
  have e8 : Scf.trips k0_t1_loop.lb k0_t1_loop.ub k0_t1_loop.st = 8 := trips1
  rw [e8]
  unfold chunkInv
  rw [if_neg (by decide : ¬ (8 : ℕ) < 8)]
  icases HI with ⟨%W', HO, -, Hq, Ha, Hl, Hp0, Hp1, Hk1, Hv1, Hk0, Hv0⟩
  ihave H : iprop((aL c ↦{fullShare} (sums c K V q 8).1) ∗ (lL c ↦{fullShare} (sums c K V q 8).2)) $$ [Ha Hl]
  · isplitl [Ha]; · iexact Ha
    iexact Hl
  iapply (wp_div (hq := rfl) (hl := rfl) (c := c) (h := 0)) $$ H
  iintro H
  iapply (wp_div (hq := rfl) (hl := rfl) (c := c) (h := 1)) $$ H
  iintro H
  iapply (wp_div (hq := rfl) (hl := rfl) (c := c) (h := 2)) $$ H
  iintro H
  iapply (wp_div (hq := rfl) (hl := rfl) (c := c) (h := 3)) $$ H
  iintro H
  iapply (wp_div (hq := rfl) (hl := rfl) (c := c) (h := 4)) $$ H
  iintro H
  iapply (wp_div (hq := rfl) (hl := rfl) (c := c) (h := 5)) $$ H
  iintro H
  iapply (wp_div (hq := rfl) (hl := rfl) (c := c) (h := 6)) $$ H
  iintro H
  iapply (wp_div (hq := rfl) (hl := rfl) (c := c) (h := 7)) $$ H
  iintro H
  icases H with ⟨Ha, Hl⟩
  iapply K0
  unfold slots
  isplitl [HO]; · iexists W'; iexact HO
  isplitl [Hq]; · iexact Hq
  isplitl [Ha]; · iexact Ha
  isplitl [Hl]; · iexists _; iexact Hl
  isplitl [Hp0]; · iexact Hp0
  isplitl [Hp1]; · iexact Hp1
  isplitl [Hk0]; · iexact Hk0
  isplitl [Hv0]; · iexact Hv0
  isplitl [Hk1]; · iexact Hk1
  iexact Hv1

/-! ### Starting chunk 0 -/

def kvP (c : Dev nD) (k : PUnit → Prog (TpuEff nD τ sig (Elt F) Λ₀ .tc) α) : Prog (TpuEff nD τ sig (Elt F) Λ₀ .tc) α :=
  .op (.enqueueDma (hSrc khM (k0_off1 c) (k0_off1_inb c) (fun _ => rfl) squeezes_S1x512x8x128_S512x8x128) (.here (kDst ![0, 0, 0, 0] inb_S2x512x8x128_S1x512x8x128_0_0_0_0 (fun _ => rfl) squeezes_S1x512x8x128_S512x8x128))
    (.dma ((cc0_scratch13.slice (Rect.unit (s := S2) ![0] S1.size inb_S2_S1_0)).squeeze S_ squeezes_S1_S_).sem)
    ((View.wordExact_bits rfl).reshape _ _) ((View.wordExact_bits rfl).reshape _ _) ⟨Or.inl rfl, trivial⟩) fun _ =>
  .op (.enqueueDma (hSrc vhM (k0_off1 c) (k0_off1_inb c) (fun _ => rfl) squeezes_S1x512x8x128_S512x8x128) (.here (vDst ![0, 0, 0, 0] inb_S2x512x8x256_S1x512x8x128_0_0_0_0 (fun _ => rfl) squeezes_S1x512x8x128_S512x8x128))
    (.dma ((cc0_scratch14.slice (Rect.unit (s := S2) ![0] S1.size inb_S2_S1_0)).squeeze S_ squeezes_S1_S_).sem)
    ((View.wordExact_bits rfl).reshape _ _) ((View.wordExact_bits rfl).reshape _ _) ⟨Or.inl rfl, trivial⟩) k

theorem wp_kv (c : Dev nD) (K V : Kix → Elt F .f32) (qs : Fin 2 → PosShare TreeShare)
    {k : PUnit → Prog (TpuEff nD τ sig (Elt F) Λ₀ .tc) α} {Q : α → sProp 𝕄} :
    slots c K V qs ⊢ iprop((slots0 c K V qs -∗ wp frame (wpE (defs₀ (F := F)) 𝒱₀ (c : Thread nD τ) none) Set.univ (k ⟨⟩) Q)
        -∗ wp frame (wpE (defs₀ (F := F)) 𝒱₀ (c : Thread nD τ) none) Set.univ (kvP c k) Q) := by
  unfold slots slots0 kvP
  iintro ⟨Hp0, Hp1, Hk0, Hv0, Hk1, Hv1⟩ K0
  iapply (wp_kStart c 0 0 (qs 0) K (by decide) rfl (k0_off1_eq c) (kS_eq 0 rfl _ _)) $$ Hk0
  iintro Hk0
  iapply (wp_vStart c 0 0 (qs 0) V (by decide) rfl (k0_off1_eq c) (vS_eq 0 rfl _ _)) $$ Hv0
  iintro Hv0
  iapply K0
  isplitl [Hp0]; · iexact Hp0
  isplitl [Hp1]; · iexact Hp1
  isplitl [Hk0]; · iexact Hk0
  isplitl [Hv0]; · iexact Hv0
  isplitl [Hk1]; · iexact Hk1
  iexact Hv1

/-! ### The queries -/

abbrev xL (c : Dev nD) : Loc nD τ sig := (c : Thread nD τ).loc cc0_stg0_0
abbrev wqL (c : Dev nD) : Loc nD τ sig := (c : Thread nD τ).loc cc0_stg1_0
abbrev woL (c : Dev nD) : Loc nD τ sig := (c : Thread nD τ).loc cc0_stg2_0
abbrev oL (c : Dev nD) : Loc nD τ sig := (c : Thread nD τ).loc cc0_stg3_0
abbrev xrL (c : Dev nD) : Loc nD τ sig := (c : Thread nD τ).loc cc0_scratch0
abbrev p0L (c : Dev nD) : Loc nD τ sig := (c : Thread nD τ).loc cc0_scratch6
abbrev roL (c : Dev nD) : Loc nD τ sig := (c : Thread nD τ).loc cc0_scratch7
abbrev rcL (c : Dev nD) : Loc nD τ sig := (c : Thread nD τ).loc cc0_scratch8

/-- The queries of device `c`'s own rows, from the block as it is staged. -/
def q0P (k : PUnit → Prog (TpuEff nD τ sig (Elt F) Λ₀ .tc) α) : Prog (TpuEff nD τ sig (Elt F) Λ₀ .tc) α :=
  .op (.load xM (Rect.unit (s := S1x256x1024) ![0, 0, 0] S1x256x1024.size inb_S1x256x1024_S1x256x1024_0_0_0).toLoadRect (View.loadsAt_vmem h_S1x256x1024)) fun x =>
  .op (.load wqM (Rect.unit (s := S1024x1024) ![0, 0] S1024x1024.size inb_S1024x1024_S1024x1024_0_0).toLoadRect (View.loadsAt_vmem h_S1024x1024)) fun w =>
  .op (.load qM (Rect.unit (s := S256x1024) ![0, 0] S256x1024.size inb_S256x1024_S256x1024_0_0).toLoadRect (View.loadsAt_vmem h_S256x1024)) fun _ =>
  .op (.store qM (Rect.unit (s := S256x1024) ![0, 0] S256x1024.size inb_S256x1024_S256x1024_0_0) (k0_pay112 x w) Finset.univ (View.stores_vmem_bits_univ h_S256x1024 rfl) (.inl rfl)) k

theorem wp_q0 (c : Dev nD) (qx : PosShare TreeShare) (x : S1x256x1024.Idx → Elt F .f32) (w : S1024x1024.Idx → Elt F .f32)
    {k : PUnit → Prog (TpuEff nD τ sig (Elt F) Λ₀ .tc) α} {Q : α → sProp 𝕄} :
    iprop((xL c ↦{qx} x) ∗ (wqL c ↦{fullShare} w) ∗ (∃ q, qL c ↦{fullShare} q)) ⊢
      iprop((iprop((xL c ↦{qx} x) ∗ (wqL c ↦{fullShare} w) ∗ (qL c ↦{fullShare} (k0_pay112 x w))) -∗ wp frame (wpE (defs₀ (F := F)) 𝒱₀ (c : Thread nD τ) none) Set.univ (k ⟨⟩) Q)
        -∗ wp frame (wpE (defs₀ (F := F)) 𝒱₀ (c : Thread nD τ) none) Set.univ (q0P k) Q) := by
  unfold q0P
  iintro ⟨Hx, Hw, ⟨%q, Hq⟩⟩ K0
  iapply (wp_load 𝒱₀ (c : Thread nD τ) none Set.univ (m := xM) (Finset.subset_univ _)) $$ Hx
  iintro Hx
  rw [rd_x]
  iapply (wp_load 𝒱₀ (c : Thread nD τ) none Set.univ (m := wqM) (Finset.subset_univ _)) $$ Hw
  iintro Hw
  rw [rd_wq]
  iapply (wp_load 𝒱₀ (c : Thread nD τ) none Set.univ (m := qM) (Finset.subset_univ _)) $$ Hq
  iintro Hq
  iapply (wp_store 𝒱₀ (c : Thread nD τ) none Set.univ (m := qM) (r := Rect.unit (s := S256x1024) ![0, 0] S256x1024.size inb_S256x1024_S256x1024_0_0) (Mk := Finset.univ) (S := Finset.univ) (Finset.subset_univ _)) $$ Hq
  iintro Hq
  rw [wr_q]
  iapply K0
  isplitl [Hx]; · iexact Hx
  isplitl [Hw] <;> iassumption

/-- The rows of slot `i` of the received rows, and slot `i` of a buffer of three blocks. -/
def xrs (i : Fin 3) : Finset S768x1024.Idx := Finset.univ.filter fun y => 256 * i.val ≤ (y 0).val ∧ (y 0).val < 256 * i.val + 256
def s3s (i : Fin 3) : Finset S3x256x1024.Idx := Finset.univ.filter fun y => (y 0).val = i.val
/-- Row `r`, lane `l` of a block. -/
def rix (r l : ℕ) : S256x1024.Idx := fun a => ⟨(![r % 256, l % 1024] : Fin 2 → ℕ) a, by
  have h1 := Nat.mod_lt r (y := 256) (by decide)
  have h2 := Nat.mod_lt l (y := 1024) (by decide)
  match a with
  | ⟨0, _⟩ => exact h1
  | ⟨1, _⟩ => exact h2⟩
theorem rix_self (y : S256x1024.Idx) (r l : ℕ) (hr : r % 256 = (y 0).val) (hl : l % 1024 = (y 1).val) : rix r l = y := by
  funext a
  apply Fin.ext
  match a with
  | ⟨0, _⟩ => exact hr
  | ⟨1, _⟩ => exact hl
/-- A staged block, without its leading axis. -/
def xflat (x : S1x256x1024.Idx → Elt F .f32) : S256x1024.Idx → Elt F .f32 := fun y => x (Fin.cons ⟨0, Nat.one_pos⟩ y)
/-- A block's rows wherever it lands. -/
def xrOf (x : S256x1024.Idx → Elt F .f32) : S768x1024.Idx → Elt F .f32 := fun y => x (rix (y 0).val (y 1).val)
def s3Of (x : S256x1024.Idx → Elt F .f32) : S3x256x1024.Idx → Elt F .f32 := fun y => x (rix (y 1).val (y 2).val)

theorem xr_read (i : Fin 3) (x : S256x1024.Idx → Elt F .f32) {o : Fin 2 → ℕ} (ho : o = ![256 * i.val, 0]) (inb) :
    xrM.view.readAt (Elt F) (Rect.unit (s := S768x1024) o S256x1024.size inb).toLoadRect (xrOf x) = x := by
  subst ho
  funext y
  have h0 : (y 0).val < 256 := (y 0).isLt
  have h1 : (y 1).val < 1024 := (y 1).isLt
  show x (rix (256 * i.val + 1 * (y 0).val) (0 + 1 * (y 1).val)) = x y
  congr 1
  exact rix_self y _ _ (by omega) (by omega)
theorem xr_sub (i : Fin 3) {o : Fin 2 → ℕ} (ho : o = ![256 * i.val, 0]) (inb) :
    xrM.view.setOn (Rect.unit (s := S768x1024) o S256x1024.size inb).toLoadRect.set ⊆ xrs i := by
  subst ho
  intro y hy
  obtain ⟨x, hx, rfl⟩ := Finset.mem_map.mp hy
  have h0 : 256 * i.val ≤ (x 0).val ∧ (x 0).val < 256 * i.val + 256 := Rect.mem_set_unit.mp hx 0
  exact Finset.mem_filter.mpr ⟨Finset.mem_univ _, h0⟩

def qrP (o : Fin 2 → ℕ) (inb : ∀ a, o a + S256x1024.size a ≤ S768x1024.size a) (k : PUnit → Prog (TpuEff nD τ sig (Elt F) Λ₀ .tc) α) : Prog (TpuEff nD τ sig (Elt F) Λ₀ .tc) α :=
  .op (.load xrM (Rect.unit (s := S768x1024) o S256x1024.size inb).toLoadRect (View.loadsAt_vmem h_S256x1024)) fun x =>
  .op (.load wqM (Rect.unit (s := S1024x1024) ![0, 0] S1024x1024.size inb_S1024x1024_S1024x1024_0_0).toLoadRect (View.loadsAt_vmem h_S1024x1024)) fun w =>
  .op (.load qM (Rect.unit (s := S256x1024) ![0, 0] S256x1024.size inb_S256x1024_S256x1024_0_0).toLoadRect (View.loadsAt_vmem h_S256x1024)) fun _ =>
  .op (.store qM (Rect.unit (s := S256x1024) ![0, 0] S256x1024.size inb_S256x1024_S256x1024_0_0) (k0_pay126 x w) Finset.univ (View.stores_vmem_bits_univ h_S256x1024 rfl) (.inl rfl)) k

theorem wp_qr (c : Dev nD) (i : Fin 3) (x : S256x1024.Idx → Elt F .f32) (w : S1024x1024.Idx → Elt F .f32) {o : Fin 2 → ℕ} (ho : o = ![256 * i.val, 0]) (inb)
    {k : PUnit → Prog (TpuEff nD τ sig (Elt F) Λ₀ .tc) α} {Q : α → sProp 𝕄} :
    iprop((xrL c ↦[xrs i]{fullShare} xrOf x) ∗ (wqL c ↦{fullShare} w) ∗ (∃ q, qL c ↦{fullShare} q)) ⊢
      iprop((iprop((xrL c ↦[xrs i]{fullShare} xrOf x) ∗ (wqL c ↦{fullShare} w) ∗ (qL c ↦{fullShare} (k0_pay126 x w))) -∗ wp frame (wpE (defs₀ (F := F)) 𝒱₀ (c : Thread nD τ) none) Set.univ (k ⟨⟩) Q)
        -∗ wp frame (wpE (defs₀ (F := F)) 𝒱₀ (c : Thread nD τ) none) Set.univ (qrP o inb k) Q) := by
  unfold qrP
  iintro ⟨Hx, Hw, ⟨%q, Hq⟩⟩ K0
  iapply (wp_load 𝒱₀ (c : Thread nD τ) none Set.univ (m := xrM) (xr_sub i ho inb)) $$ Hx
  iintro Hx
  rw [xr_read i x ho inb]
  iapply (wp_load 𝒱₀ (c : Thread nD τ) none Set.univ (m := wqM) (Finset.subset_univ _)) $$ Hw
  iintro Hw
  rw [rd_wq]
  iapply (wp_load 𝒱₀ (c : Thread nD τ) none Set.univ (m := qM) (Finset.subset_univ _)) $$ Hq
  iintro Hq
  iapply (wp_store 𝒱₀ (c : Thread nD τ) none Set.univ (m := qM) (r := Rect.unit (s := S256x1024) ![0, 0] S256x1024.size inb_S256x1024_S256x1024_0_0) (Mk := Finset.univ) (S := Finset.univ) (Finset.subset_univ _)) $$ Hq
  iintro Hq
  rw [wr_q]
  iapply K0
  isplitl [Hx]; · iexact Hx
  isplitl [Hw] <;> iassumption

/-! ### The output of a block -/

def p0P (k : PUnit → Prog (TpuEff nD τ sig (Elt F) Λ₀ .tc) α) : Prog (TpuEff nD τ sig (Elt F) Λ₀ .tc) α :=
  .op (.load aM (Rect.unit (s := S256x1024) ![0, 0] S256x1024.size inb_S256x1024_S256x1024_0_0).toLoadRect (View.loadsAt_vmem h_S256x1024)) fun a =>
  .op (.load woM (Rect.unit (s := S1024x1024) ![0, 0] S1024x1024.size inb_S1024x1024_S1024x1024_0_0).toLoadRect (View.loadsAt_vmem h_S1024x1024)) fun w =>
  .op (.load p0M (Rect.unit (s := S256x1024) ![0, 0] S256x1024.size inb_S256x1024_S256x1024_0_0).toLoadRect (View.loadsAt_vmem h_S256x1024)) fun _ =>
  .op (.store p0M (Rect.unit (s := S256x1024) ![0, 0] S256x1024.size inb_S256x1024_S256x1024_0_0) (k0_pay125 a w) Finset.univ (View.stores_vmem_bits_univ h_S256x1024 rfl) (.inl rfl)) k

theorem wp_p0 (c : Dev nD) (a : S256x1024.Idx → Elt F .f32) (w : S1024x1024.Idx → Elt F .f32)
    {k : PUnit → Prog (TpuEff nD τ sig (Elt F) Λ₀ .tc) α} {Q : α → sProp 𝕄} :
    iprop((aL c ↦{fullShare} a) ∗ (woL c ↦{fullShare} w) ∗ (∃ p, p0L c ↦{fullShare} p)) ⊢
      iprop((iprop((aL c ↦{fullShare} a) ∗ (woL c ↦{fullShare} w) ∗ (p0L c ↦{fullShare} (k0_pay125 a w))) -∗ wp frame (wpE (defs₀ (F := F)) 𝒱₀ (c : Thread nD τ) none) Set.univ (k ⟨⟩) Q)
        -∗ wp frame (wpE (defs₀ (F := F)) 𝒱₀ (c : Thread nD τ) none) Set.univ (p0P k) Q) := by
  unfold p0P
  iintro ⟨Ha, Hw, ⟨%p, Hp⟩⟩ K0
  iapply (wp_load 𝒱₀ (c : Thread nD τ) none Set.univ (m := aM) (Finset.subset_univ _)) $$ Ha
  iintro Ha
  rw [rd_a]
  iapply (wp_load 𝒱₀ (c : Thread nD τ) none Set.univ (m := woM) (Finset.subset_univ _)) $$ Hw
  iintro Hw
  rw [rd_wo]
  iapply (wp_load 𝒱₀ (c : Thread nD τ) none Set.univ (m := p0M) (Finset.subset_univ _)) $$ Hp
  iintro Hp
  iapply (wp_store 𝒱₀ (c : Thread nD τ) none Set.univ (m := p0M) (r := Rect.unit (s := S256x1024) ![0, 0] S256x1024.size inb_S256x1024_S256x1024_0_0) (Mk := Finset.univ) (S := Finset.univ) (Finset.subset_univ _)) $$ Hp
  iintro Hp
  rw [wr_p0]
  iapply K0
  isplitl [Ha]; · iexact Ha
  isplitl [Hw] <;> iassumption

/-- Adding a leading axis of one, entry by entry. -/
theorem pay140_apply (a : Vec F S256x1024 .f32) (w : Vec F S1024x1024 .f32) (y : S1x256x1024.Idx) (r l : ℕ) (hr : r % 256 = (y 1).val) (hl : l % 1024 = (y 2).val) :
    k0_pay140 a w y = k0_pay125 a w (rix r l) := by
  have e : k0_pay140 a w = shapeCast S1x256x1024 (k0_pay125 a w) shapeCasts_S256x1024_S1x256x1024 := by
    unfold k0_pay140 k0_pay125
    dsimp only
    rw [Idealize.ShloMosaic.shapeCast_self _ shapeCasts_S256x1024_S256x1024]
  rw [e, Idealize.ShloMosaic.shapeCast_addUnit_apply (d := ![256, 1024])]
  congr 1
  funext a
  apply Fin.ext
  match a with
  | ⟨0, _⟩ => exact hr.symm
  | ⟨1, _⟩ => exact hl.symm

theorem put_whole (b : Ref sig .tc) {o o' size : Fin b.ty.shape.rank → ℕ} (ho : o = o') (inb : ∀ a, o a + size a ≤ b.ty.shape.size a) (x : b.ty.Contents (Elt F)) (w) :
    ((Memref.whole b).access (Rect.unit o size inb)).write (Elt F) x w Finset.univ = VecWindow.put x o' size w := by
  subst ho
  exact View.read_writes_cons_put (Val := Elt F) (Memref.whole b).view x inb w [] rfl
theorem ro_put (i : Fin 3) (p : Vec F S1x256x1024 .f32) (x : S256x1024.Idx → Elt F .f32)
    (hp : ∀ (y : S1x256x1024.Idx) (r l : ℕ), r % 256 = (y 1).val → l % 1024 = (y 2).val → p y = x (rix r l))
    {o : Fin 3 → ℕ} (ho : o = ![i.val, 0, 0]) (inb) (f : S3x256x1024.Idx → Elt F .f32) :
    ∀ y ∈ s3s i, (roM.access (Rect.unit (s := S3x256x1024) o S1x256x1024.size inb)).write (Elt F) f p Finset.univ y = s3Of x y := by
  subst ho
  intro y hy
  have h0 : (y 0).val = i.val := (Finset.mem_filter.mp hy).2
  have h1 : (y 1).val < 256 := (y 1).isLt
  have h2 : (y 2).val < 1024 := (y 2).isLt
  have e : (roM.access (Rect.unit (s := S3x256x1024) ![i.val, 0, 0] S1x256x1024.size inb)).write (Elt F) f p Finset.univ
      = VecWindow.put f ![i.val, 0, 0] S1x256x1024.size p := put_whole cc0_scratch7 rfl inb f p
  rw [e]
  have hin : ∀ a, (![i.val, 0, 0] : Fin 3 → ℕ) a ≤ (y a).val ∧ (y a).val < (![i.val, 0, 0] : Fin 3 → ℕ) a + S1x256x1024.size a := by
    intro a
    match a with
    | ⟨0, _⟩ => exact ⟨h0.ge, by show (y 0).val < i.val + 1; omega⟩
    | ⟨1, _⟩ => exact ⟨Nat.zero_le _, by show (y 1).val < 0 + 256; omega⟩
    | ⟨2, _⟩ => exact ⟨Nat.zero_le _, by show (y 2).val < 0 + 1024; omega⟩
  unfold VecWindow.put s3Of
  rw [dif_pos hin]
  exact hp _ _ _ (by show (y 1).val % 256 = (y 1).val - 0; omega) (by show (y 2).val % 1024 = (y 2).val - 0; omega)
theorem ro_sub (i : Fin 3) {o : Fin 3 → ℕ} (ho : o = ![i.val, 0, 0]) (inb) :
    roM.view.setOn (Rect.unit (s := S3x256x1024) o S1x256x1024.size inb).set ⊆ s3s i := by
  subst ho
  intro y hy
  obtain ⟨x, hx, rfl⟩ := Finset.mem_map.mp hy
  have h0 : i.val ≤ (x 0).val ∧ (x 0).val < i.val + 1 := Rect.mem_set_unit.mp hx 0
  refine Finset.mem_filter.mpr ⟨Finset.mem_univ _, ?_⟩
  show (x 0).val = i.val
  omega
theorem ro_sub' (i : Fin 3) {o : Fin 3 → ℕ} (ho : o = ![i.val, 0, 0]) (inb) :
    (roM.access (Rect.unit (s := S3x256x1024) o S1x256x1024.size inb)).setOn Finset.univ ⊆ s3s i := by
  subst ho
  intro y hy
  obtain ⟨x, -, rfl⟩ := Finset.mem_map.mp hy
  have h0 : (x 0).val < 1 := (x 0).isLt
  refine Finset.mem_filter.mpr ⟨Finset.mem_univ _, ?_⟩
  show i.val + 1 * (x 0).val = i.val
  omega

def roP (o : Fin 3 → ℕ) (inb : ∀ a, o a + S1x256x1024.size a ≤ S3x256x1024.size a) (k : PUnit → Prog (TpuEff nD τ sig (Elt F) Λ₀ .tc) α) : Prog (TpuEff nD τ sig (Elt F) Λ₀ .tc) α :=
  .op (.load aM (Rect.unit (s := S256x1024) ![0, 0] S256x1024.size inb_S256x1024_S256x1024_0_0).toLoadRect (View.loadsAt_vmem h_S256x1024)) fun a =>
  .op (.load woM (Rect.unit (s := S1024x1024) ![0, 0] S1024x1024.size inb_S1024x1024_S1024x1024_0_0).toLoadRect (View.loadsAt_vmem h_S1024x1024)) fun w =>
  .op (.load roM (Rect.unit (s := S3x256x1024) o S1x256x1024.size inb).toLoadRect (View.loadsAt_vmem h_S1x256x1024)) fun _ =>
  .op (.store roM (Rect.unit (s := S3x256x1024) o S1x256x1024.size inb) (k0_pay140 a w) Finset.univ (View.stores_vmem_bits_univ h_S1x256x1024 rfl) (.inl rfl)) k

theorem wp_ro (c : Dev nD) (i : Fin 3) (a : S256x1024.Idx → Elt F .f32) (w : S1024x1024.Idx → Elt F .f32) {o : Fin 3 → ℕ} (ho : o = ![i.val, 0, 0]) (inb)
    {k : PUnit → Prog (TpuEff nD τ sig (Elt F) Λ₀ .tc) α} {Q : α → sProp 𝕄} :
    iprop((aL c ↦{fullShare} a) ∗ (woL c ↦{fullShare} w) ∗ (∃ p, roL c ↦[s3s i]{fullShare} p)) ⊢
      iprop((iprop((aL c ↦{fullShare} a) ∗ (woL c ↦{fullShare} w) ∗ (roL c ↦[s3s i]{fullShare} s3Of (k0_pay125 a w))) -∗ wp frame (wpE (defs₀ (F := F)) 𝒱₀ (c : Thread nD τ) none) Set.univ (k ⟨⟩) Q)
        -∗ wp frame (wpE (defs₀ (F := F)) 𝒱₀ (c : Thread nD τ) none) Set.univ (roP o inb k) Q) := by
  unfold roP
  iintro ⟨Ha, Hw, ⟨%p, Hp⟩⟩ K0
  iapply (wp_load 𝒱₀ (c : Thread nD τ) none Set.univ (m := aM) (Finset.subset_univ _)) $$ Ha
  iintro Ha
  rw [rd_a]
  iapply (wp_load 𝒱₀ (c : Thread nD τ) none Set.univ (m := woM) (Finset.subset_univ _)) $$ Hw
  iintro Hw
  rw [rd_wo]
  iapply (wp_load 𝒱₀ (c : Thread nD τ) none Set.univ (m := roM) (ro_sub i ho inb)) $$ Hp
  iintro Hp
  iapply (wp_store 𝒱₀ (c : Thread nD τ) none Set.univ (m := roM) (r := Rect.unit (s := S3x256x1024) o S1x256x1024.size inb) (Mk := Finset.univ) (S := s3s i) (ro_sub' i ho inb)) $$ Hp
  iintro Hp
  iapply K0
  isplitl [Ha]; · iexact Ha
  isplitl [Hw]; · iexact Hw
  iapply (Entails.of_eq (pointsTo_congr (ro_put i (k0_pay140 a w) (k0_pay125 a w) (pay140_apply a w) ho inb p))) $$ Hp

end Pieces

end Cert.KProof
-- ==== Proof.Proto.lean ====
module

public import proofs.«01_k».proof.Proof.Calc

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Devices and semaphores -/

/-- The device `k + 1` steps after `c` around the ring of four. -/
def fw (k : Fin 3) (c : Dev nD) : Dev nD := ⟨(c.val + k.val + 1) % 4, Nat.mod_lt _ (by decide)⟩

theorem fw_rev (k : Fin 3) (c : Dev nD) : fw k.rev (fw k c) = c := by revert k c; decide
theorem rev_fw (k : Fin 3) (c : Dev nD) : fw k (fw k.rev c) = c := by revert k c; decide
theorem rev_rev (k : Fin 3) : k.rev.rev = k := Fin.rev_rev k

/-- The kernel's synchronising semaphores: the barrier, and four families of three for the remote copies
    (0: an x block read; 1: an x block landed; 2: a partial block read; 3: a partial block landed). -/
abbrev Kd : Type := Option (Fin 4 × Fin 3)

abbrev barS : Sem sig := (SemArray.scalar (sig.barrier 0 rfl) : Sems sig S_).sem

def dq (k : Fin 4) (i : Fin 3) : DmaSem sig := ⟨4 + 3 * k.val + i.val, by have := k.isLt; have := i.isLt; show _ < 20; omega⟩

def semK : Kd → SemLoc sig
  | none => .reg barS
  | some (k, i) => .dma (dq k i)

def ixK : SemLoc sig → Option Kd
  | .reg s => if s = barS then some none else none
  | .dma q => if 4 ≤ q.val ∧ q.val < 16 then some (some (⟨(q.val - 4) / 3 % 4, Nat.mod_lt _ (by decide)⟩, ⟨(q.val - 4) % 3, Nat.mod_lt _ (by decide)⟩)) else none

theorem ixK_semK (k : Kd) : ixK (semK k) = some k := by revert k; decide
theorem semK_injective : Function.Injective semK := fun a b h => by
  have := congrArg ixK h; rw [ixK_semK, ixK_semK] at this; exact Option.some.inj this

abbrev cell (c : Dev nD) (k : Kd) : GSem nD τ sig := ((c : Thread nD τ), semK k)

/-- The credit of an x block and of a partial block. -/
def agN : ℕ := (cc0_scratch0 : Ref sig .tc).dmaCredit S256x1024 .f32
def rsN : ℕ := (cc0_scratch8 : Ref sig .tc).dmaCredit S256x1024 .f32
theorem agN_pos : 0 < agN := sig.dmaCredit_pos _ _ _ _ _ (by decide)
theorem rsN_pos : 0 < rsN := sig.dmaCredit_pos _ _ _ _ _ (by decide)

def amt : Kd → ℕ
  | none => 1
  | some (k, _) => if k.val < 2 then agN else rsN
theorem amt_pos (k : Kd) : 0 < amt k := by
  rcases k with _ | ⟨k, i⟩
  · exact Nat.one_pos
  · show 0 < if k.val < 2 then agN else rsN
    split
    · exact agN_pos
    · exact rsN_pos

/-- The shares of the x block lent to the three sends. -/
def qx : Fin 3 → PosShare TreeShare
  | 0 => fullShare.left.left
  | 1 => fullShare.left.right
  | 2 => fullShare.right.left
def qxR : PosShare TreeShare := fullShare.right.right

/-- What each device's x block holds, and what each device computes for each. -/
structure Vals (F : FTy → Type) where
  X : Dev nD → S1x256x1024.Idx → Elt F .f32
  P : Dev nD → Dev nD → S256x1024.Idx → Elt F .f32

/-! ## The schedule -/

def payK (v : Vals F) (c : Dev nD) : Kd → Fin 3 → sProp 𝕄
  | none, d => iprop((∃ f, xrL (fw d.rev c) ↦[xrs d]{fullShare} f) ∗ (∃ f, rcL (fw d.rev c) ↦[s3s d.rev]{fullShare} f))
  | some (0, i), _ => (xL c ↦{qx i} v.X c)
  | some (1, i), _ => (xrL c ↦[xrs i.rev]{fullShare} xrOf (xflat (v.X (fw i.rev c))))
  | some (2, i), _ => iprop(∃ f, roL c ↦[s3s i]{fullShare} f)
  | some (3, i), _ => (rcL c ↦[s3s i]{fullShare} s3Of (v.P (fw i.rev c) c))

instance payK_storable (v : Vals F) (c : Dev nD) (k : Kd) (d : Fin 3) : BI.Storable (upEmb : UEmb _ 𝕄) (payK v c k d) := by
  rcases k with _ | ⟨k, i⟩
  · unfold payK; infer_instance
  · fin_cases k <;> (show BI.Storable (upEmb : UEmb _ 𝕄) _; unfold payK; infer_instance)

def dut : Kd → Finset (Fin 3)
  | none => Finset.univ
  | some _ => {0}

def Rd (v : Vals F) : Rounds.Schedule (GSem nD τ sig) (Fin 3) 𝕄 where
  duties g r := if r = 0 ∧ g.1.2 = .tc then (match ixK g.2 with | some k => dut k | none => ∅) else ∅
  unitless _ := False
  amount g _ _ := match ixK g.2 with | some k => amt k | none => 1
  payload g _ d := match ixK g.2 with | some k => payK v g.1.1 k d | none => iprop(emp)
  amount_pos g _ _ _ := by
    show 0 < (match ixK g.2 with | some k => amt k | none => 1)
    split
    · exact amt_pos _
    · exact Nat.one_pos

instance Rd_storable (v : Vals F) (g : GSem nD τ sig) (r : ℕ) (d : Fin 3) : BI.Storable (upEmb : UEmb _ 𝕄) ((Rd v).payload g r d) := by
  show BI.Storable upEmb (match ixK g.2 with | some k => payK v g.1.1 k d | none => iprop(emp))
  split <;> infer_instance

section Tables
variable (v : Vals F) (c : Dev nD) (k : Kd)

theorem duties_eq : (Rd v).duties (cell c k) 0 = dut k := by
  dsimp only [Rd]; rw [if_pos ⟨rfl, rfl⟩, ixK_semK]
theorem duties_later (g : GSem nD τ sig) : ∀ r, 1 ≤ r → (Rd v).duties g r = ∅ :=
  fun r hr => by dsimp only [Rd]; exact if_neg fun h => by omega
theorem amount_eq (d : Fin 3) : (Rd v).amount (cell c k) 0 d = amt k := by dsimp only [Rd]; rw [ixK_semK]
theorem payload_eq (d : Fin 3) : (Rd v).payload (cell c k) 0 d = payK v c k d := by dsimp only [Rd]; rw [ixK_semK]
theorem expect_some (ki : Fin 4 × Fin 3) : (Rd v).expect (cell c (some ki)) 0 = amt (some ki) := by
  unfold Schedule.expect Schedule.amountOf; rw [duties_eq]; show ∑ d ∈ {0}, _ = _; rw [Finset.sum_singleton, amount_eq]
theorem expect_bar : (Rd v).expect (cell c none) 0 = 3 := by
  unfold Schedule.expect Schedule.amountOf; rw [duties_eq]; show ∑ d : Fin 3, _ = _
  rw [Finset.sum_congr rfl (fun d _ => amount_eq v c none d)]; rfl
theorem rest_some (ki : Fin 4 × Fin 3) : bigSep ((Rd v).duties (cell c (some ki)) 0 \ ∅) (fun u => (Rd v).payload (cell c (some ki)) 0 u) = payK v c (some ki) 0 := by
  rw [Finset.sdiff_empty, duties_eq]; show bigSep {0} _ = _; rw [bigSep_singleton, payload_eq]
theorem rest_bar : bigSep ((Rd v).duties (cell c none) 0 \ ∅) (fun u => (Rd v).payload (cell c none) 0 u)
    = iprop(payK v c none 0 ∗ payK v c none 1 ∗ payK v c none 2) := by
  rw [Finset.sdiff_empty, duties_eq]
  show bigSep Finset.univ _ = _
  rw [bigSep_congr (fun d _ => payload_eq v c none d), bigSep_univ_eq_bigSepL [0, 1, 2] (by decide) (by decide)]
  rfl

end Tables

/-! ## What is owed, and the levels -/

/-- The credits still owed, last first. -/
def ow : List (GSem nD τ sig × ℕ) → CellTallies nD τ sig Unit
  | [] => 0
  | (g, n) :: l => ow l + tallyAt g () n

def owedL (c : Dev nD) : List (GSem nD τ sig × ℕ) :=
  [(cell (fw 0 c) none, 1), (cell (fw 1 c) none, 1), (cell (fw 2 c) none, 1),
   (cell (fw 0 c) (some (1, 0)), agN), (cell (fw 1 c) (some (1, 1)), agN), (cell (fw 2 c) (some (1, 2)), agN),
   (cell (fw 0 c) (some (3, 0)), rsN), (cell (fw 1 c) (some (3, 1)), rsN), (cell (fw 2 c) (some (3, 2)), rsN)]

def lvK : Kd → ℕ
  | none => 1
  | some (k, _) => if k.val = 1 then 2 else if k.val = 3 then 3 else 0

def L (g : GSem nD τ sig) : Finset Unit := if g.1.2 = .tc then {()} else ∅
def lvS (s : SemLoc sig) : ℕ := match ixK s with | some k => lvK k | none => 0
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl
theorem lvS_semK (k : Kd) : lvS (semK k) = lvK k := by unfold lvS; rw [ixK_semK]

theorem ow_pos : ∀ {l : List (GSem nD τ sig × ℕ)} {g : GSem nD τ sig} {u : Unit}, 0 < ow l g u → ∃ n, (g, n) ∈ l
  | [], g, u, h => absurd h (Nat.lt_irrefl 0)
  | (g', n) :: l, g, u, h => by
    unfold ow at h
    rw [Pi.add_apply, Finsupp.add_apply, tallyAt_apply] at h
    by_cases hg : g = g' ∧ u = ()
    · exact ⟨n, by rw [hg.1]; exact List.mem_cons_self⟩
    · rw [if_neg hg, Nat.add_zero] at h
      obtain ⟨n', hn⟩ := ow_pos h
      exact ⟨n', List.mem_cons_of_mem _ hn⟩

theorem mayWait (c : Dev nD) (sm : SemLoc sig) (l : List (GSem nD τ sig × ℕ)) (hl : ∀ p ∈ l, p.1.1.2 = .tc ∧ lvS sm < lvS p.1.2) :
    (levAts L lv : sProp 𝕄) ⊢ MayWait (c : Thread nD τ) sm () (ow l) :=
  MayOwe.of_cut (L := L) (lev := lv) (lvS sm) (fun p hp => by rw [Finset.mem_singleton.mp hp, L_tc]; exact Finset.mem_singleton_self _)
    (fun g u hg => by
      obtain ⟨n, hn⟩ := ow_pos hg
      unfold L; rw [if_pos (hl _ hn).1]; exact Finset.mem_singleton_self _)
    (fun p hp => by rw [Finset.mem_singleton.mp hp]; exact le_refl _)
    (fun g u hg => by
      obtain ⟨n, hn⟩ := ow_pos hg
      exact (hl _ hn).2)

/-- Below every credit still owed: semaphores outside the schedule, at any tail of the owed list. -/
theorem owedL_lv (c : Dev nD) : ∀ p ∈ owedL c, p.1.1.2 = .tc ∧ 0 < lvS p.1.2 := by
  intro p hp
  simp only [owedL, List.mem_cons, List.not_mem_nil, or_false] at hp
  rcases hp with rfl | rfl | rfl | rfl | rfl | rfl | rfl | rfl | rfl <;> exact ⟨rfl, by dsimp only; rw [lvS_semK]; decide⟩

/-! ## What a device starts with -/

/-- A duty the device pays: its cell. `j = 0`: the barrier of the device `i + 1` on; else family `j - 1`. -/
def payCell (c : Dev nD) : Fin 5 × Fin 3 → GSem nD τ sig × ℕ × Fin 3
  | (0, i) => (cell (fw i c) none, 0, i)
  | (1, i) => (cell c (some (0, i)), 0, 0)
  | (2, i) => (cell (fw i c) (some (1, i)), 0, 0)
  | (3, i) => (cell c (some (2, i)), 0, 0)
  | (4, i) => (cell (fw i c) (some (3, i)), 0, 0)

abbrev tokP (c : Dev nD) (j : Fin 5 × Fin 3) : sProp 𝕄 := dutyTok ER (payCell c j).1 (payCell c j).2.1 (payCell c j).2.2

def records (v : Vals F) (K : Dev nD × Kd → ℕ) : sProp 𝕄 :=
  bigSep (Finset.univ : Finset (Dev nD × Kd)) fun p => iprop(cellInv ER (Rd v) (K p) (cell p.1 p.2) ∗ reached ER (cell p.1 p.2) 0)

instance records_persistent (v : Vals F) (K : Dev nD × Kd → ℕ) : BI.Persistent (records v K) := by unfold records; infer_instance

theorem records_inv (v : Vals F) (K : Dev nD × Kd → ℕ) (c : Dev nD) (k : Kd) : records v K ⊢ cellInv ER (Rd v) (K (c, k)) (cell c k) := by
  unfold records
  refine (bigSep_elim (Finset.mem_univ (c, k))).trans ?_
  show (iprop(cellInv ER (Rd v) (K (c, k)) (cell c k) ∗ reached ER (cell c k) 0) : sProp 𝕄) ⊢ _
  iintro ⟨H, -⟩; iexact H
theorem records_reached (v : Vals F) (K : Dev nD × Kd → ℕ) (c : Dev nD) (k : Kd) : records v K ⊢ reached ER (cell c k) 0 := by
  unfold records
  refine (bigSep_elim (Finset.mem_univ (c, k))).trans ?_
  show (iprop(cellInv ER (Rd v) (K (c, k)) (cell c k) ∗ reached ER (cell c k) 0) : sProp 𝕄) ⊢ _
  iintro ⟨-, H⟩; iexact H

end Cert.KProof
-- ==== Proof.Sends.lean ====
module

public import proofs.«01_k».proof.Proof.Proto

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The remote copies' regions -/

abbrev xSq (o : Fin 3 → ℕ) (inb : ∀ a, o a + S1x256x1024.size a ≤ S1x256x1024.size a) (h : ∀ a, (Rect.unit (s := S1x256x1024) o S1x256x1024.size inb).stride a = 1) (sq : S1x256x1024.Squeezes S256x1024) : Memref sig .tc .vmem S256x1024 .f32 :=
  (xM.slice (Rect.unit (s := S1x256x1024) o S1x256x1024.size inb) h).squeeze S256x1024 sq
abbrev xrAt (o : Fin 2 → ℕ) (inb : ∀ a, o a + S256x1024.size a ≤ S768x1024.size a) (h : ∀ a, (Rect.unit (s := S768x1024) o S256x1024.size inb).stride a = 1) : Memref sig .tc .vmem S256x1024 .f32 :=
  xrM.slice (Rect.unit (s := S768x1024) o S256x1024.size inb) h
abbrev roAt (o : Fin 3 → ℕ) (inb : ∀ a, o a + S1x256x1024.size a ≤ S3x256x1024.size a) (h : ∀ a, (Rect.unit (s := S3x256x1024) o S1x256x1024.size inb).stride a = 1) (sq : S1x256x1024.Squeezes S256x1024) : Memref sig .tc .vmem S256x1024 .f32 :=
  (roM.slice (Rect.unit (s := S3x256x1024) o S1x256x1024.size inb) h).squeeze S256x1024 sq
abbrev rcAt (o : Fin 3 → ℕ) (inb : ∀ a, o a + S1x256x1024.size a ≤ S3x256x1024.size a) (h : ∀ a, (Rect.unit (s := S3x256x1024) o S1x256x1024.size inb).stride a = 1) (sq : S1x256x1024.Squeezes S256x1024) : Memref sig .tc .vmem S256x1024 .f32 :=
  (rcM.slice (Rect.unit (s := S3x256x1024) o S1x256x1024.size inb) h).squeeze S256x1024 sq

theorem forall_fin3 {p : Fin 3 → Prop} : (∀ a, p a) ↔ p 0 ∧ p 1 ∧ p 2 := by
  constructor
  · intro h; exact ⟨h 0, h 1, h 2⟩
  · rintro ⟨h0, h1, h2⟩ a; fin_cases a <;> assumption
theorem forall_fin2 {p : Fin 2 → Prop} : (∀ a, p a) ↔ p 0 ∧ p 1 := by
  constructor
  · intro h; exact ⟨h 0, h 1⟩
  · rintro ⟨h0, h1⟩ a; fin_cases a <;> assumption

theorem xSq_set {o : Fin 3 → ℕ} (ho : o = ![0, 0, 0]) (inb h sq) : (xSq o inb h sq).view.set = Finset.univ := by
  subst ho
  show ((xM.view.slice _).reshape _ _).set = _
  rw [View.set_reshape]
  show ((View.whole cc0_stg0_0).slice _).set = _
  rw [View.set_slice_whole]
  ext i
  have h0 : (i 0).val < 1 := (i 0).isLt
  have h1 : (i 1).val < 256 := (i 1).isLt
  have h2 : (i 2).val < 1024 := (i 2).isLt
  refine (Rect.mem_set_unit (s := S1x256x1024) (off := ![0, 0, 0]) (size := S1x256x1024.size) (inb := inb) (i := i)).trans ?_
  rw [forall_fin3]
  simp only [Finset.mem_univ, iff_true]
  show (0 ≤ (i 0).val ∧ (i 0).val < 0 + 1) ∧ (0 ≤ (i 1).val ∧ (i 1).val < 0 + 256) ∧ (0 ≤ (i 2).val ∧ (i 2).val < 0 + 1024)
  omega

theorem xrAt_set (i : Fin 3) {o : Fin 2 → ℕ} (ho : o = ![256 * i.val, 0]) (inb h) : (xrAt o inb h).view.set = xrs i := by
  subst ho
  show ((View.whole cc0_scratch0).slice _).set = _
  rw [View.set_slice_whole]
  ext y
  have h1 : (y 1).val < 1024 := (y 1).isLt
  refine (Rect.mem_set_unit (s := S768x1024) (off := ![256 * i.val, 0]) (size := S256x1024.size) (inb := inb) (i := y)).trans ?_
  rw [forall_fin2]
  simp only [xrs, Finset.mem_filter, Finset.mem_univ, true_and]
  show (256 * i.val ≤ (y 0).val ∧ (y 0).val < 256 * i.val + 256) ∧ (0 ≤ (y 1).val ∧ (y 1).val < 0 + 1024) ↔ _
  omega

theorem s3_mem (i : Fin 3) {o : Fin 3 → ℕ} (ho : o = ![i.val, 0, 0]) (inb) (y : S3x256x1024.Idx) :
    y ∈ (Rect.unit (s := S3x256x1024) o S1x256x1024.size inb).set ↔ y ∈ s3s i := by
  subst ho
  have h1 : (y 1).val < 256 := (y 1).isLt
  have h2 : (y 2).val < 1024 := (y 2).isLt
  refine (Rect.mem_set_unit (s := S3x256x1024) (off := ![i.val, 0, 0]) (size := S1x256x1024.size) (inb := inb) (i := y)).trans ?_
  rw [forall_fin3]
  simp only [s3s, Finset.mem_filter, Finset.mem_univ, true_and]
  show (i.val ≤ (y 0).val ∧ (y 0).val < i.val + 1) ∧ (0 ≤ (y 1).val ∧ (y 1).val < 0 + 256) ∧ (0 ≤ (y 2).val ∧ (y 2).val < 0 + 1024) ↔ _
  omega

theorem roAt_set (i : Fin 3) {o : Fin 3 → ℕ} (ho : o = ![i.val, 0, 0]) (inb h sq) : (roAt o inb h sq).view.set = s3s i := by
  show ((roM.view.slice _).reshape _ _).set = _
  rw [View.set_reshape]
  show ((View.whole cc0_scratch7).slice _).set = _
  rw [View.set_slice_whole]
  ext y; exact s3_mem i ho inb y
theorem rcAt_set (i : Fin 3) {o : Fin 3 → ℕ} (ho : o = ![i.val, 0, 0]) (inb h sq) : (rcAt o inb h sq).view.set = s3s i := by
  show ((rcM.view.slice _).reshape _ _).set = _
  rw [View.set_reshape]
  show ((View.whole cc0_scratch8).slice _).set = _
  rw [View.set_slice_whole]
  ext y; exact s3_mem i ho inb y

theorem sq_val (sq : S1x256x1024.Squeezes S256x1024) (y : S256x1024.Idx) :
    Shape.reshapeEquiv (s' := S256x1024) (s := S1x256x1024) sq.numel_eq y = Fin.cons ⟨0, Nat.one_pos⟩ y :=
  Shape.reshapeEquiv_cons_one _ y

/-- What lands in a row block of the gathered x buffer is the sender's x block. -/
theorem x_lands (i : Fin 3) {ox : Fin 3 → ℕ} {o : Fin 2 → ℕ} (hx : ox = ![0, 0, 0]) (ho : o = ![256 * i.val, 0])
    (inbx hhx sqx inb hh) (fd : S768x1024.Idx → Elt F .f32) (X : S1x256x1024.Idx → Elt F .f32) :
    ∀ y ∈ xrs i, (xrAt o inb hh).view.write (Elt F) fd ((xSq ox inbx hhx sqx).view.read (Elt F) X) Finset.univ y = xrOf (xflat X) y := by
  intro y hy
  rw [← xrAt_set i ho inb hh] at hy
  obtain ⟨z, -, rfl⟩ := Finset.mem_map.mp hy
  rw [View.write_emb_of_mem _ _ (Finset.mem_univ z)]
  subst ho; subst hx
  have h0 : (z 0).val < 256 := (z 0).isLt
  have h1 : (z 1).val < 1024 := (z 1).isLt
  show X ((Rect.unit (s := S1x256x1024) ![0, 0, 0] S1x256x1024.size inbx).emb (Shape.reshapeEquiv (s' := S256x1024) (s := S1x256x1024) sqx.numel_eq z))
    = xrOf (xflat X) ((Rect.unit (s := S768x1024) ![256 * i.val, 0] S256x1024.size inb).emb z)
  rw [sq_val sqx]
  unfold xrOf xflat
  rw [rix_self z _ _ (by show (256 * i.val + 1 * (z 0).val) % 256 = _; omega) (by show (0 + 1 * (z 1).val) % 1024 = _; omega)]
  congr 1
  funext a
  apply Fin.ext
  match a with
  | ⟨0, _⟩ => rfl
  | ⟨1, _⟩ => show 0 + 1 * (z 0).val = (z 0).val; omega
  | ⟨2, _⟩ => show 0 + 1 * (z 1).val = (z 1).val; omega

/-- What lands in a slot of the gathered partial blocks is the sender's partial block. -/
theorem p_lands (i : Fin 3) {os o : Fin 3 → ℕ} (hs : os = ![i.val, 0, 0]) (ho : o = ![i.val, 0, 0])
    (inbs hhs sqs inb hh sq) (fd : S3x256x1024.Idx → Elt F .f32) (p : S256x1024.Idx → Elt F .f32) :
    ∀ y ∈ s3s i, (rcAt o inb hh sq).view.write (Elt F) fd ((roAt os inbs hhs sqs).view.read (Elt F) (s3Of p)) Finset.univ y = s3Of p y := by
  intro y hy
  rw [← rcAt_set i ho inb hh sq] at hy
  obtain ⟨z, -, rfl⟩ := Finset.mem_map.mp hy
  rw [View.write_emb_of_mem _ _ (Finset.mem_univ z)]
  subst ho; subst hs
  rfl

theorem mem0 (v : Vals F) (c : Dev nD) (ki : Fin 4 × Fin 3) : (0 : Fin 3) ∈ (Rd v).duties ((c : Thread nD τ), .dma (dq ki.1 ki.2)) 0 := by
  have e : (Rd v).duties ((c : Thread nD τ), .dma (dq ki.1 ki.2)) 0 = {0} := duties_eq v c (some ki)
  rw [e]; exact Finset.mem_singleton_self _
theorem memB (v : Vals F) (c : Dev nD) (d : Fin 3) : d ∈ (Rd v).duties ((c : Thread nD τ), .reg barS) 0 := by
  have e : (Rd v).duties ((c : Thread nD τ), .reg barS) 0 = Finset.univ := duties_eq v c none
  rw [e]; exact Finset.mem_univ _
theorem payK_none (v : Vals F) (c : Dev nD) (d : Fin 3) :
    payK v c none d = (iprop((∃ f, xrL (fw d.rev c) ↦[xrs d]{fullShare} f) ∗ (∃ f, rcL (fw d.rev c) ↦[s3s d.rev]{fullShare} f)) : sProp 𝕄) := rfl
theorem payK_0 (v : Vals F) (c : Dev nD) (i d : Fin 3) : payK v c (some (0, i)) d = (xL c ↦{qx i} v.X c : sProp 𝕄) := rfl
theorem payK_1 (v : Vals F) (c : Dev nD) (i d : Fin 3) :
    payK v c (some (1, i)) d = (xrL c ↦[xrs i.rev]{fullShare} xrOf (xflat (v.X (fw i.rev c))) : sProp 𝕄) := rfl
theorem payK_2 (v : Vals F) (c : Dev nD) (i d : Fin 3) : payK v c (some (2, i)) d = (iprop(∃ f, roL c ↦[s3s i]{fullShare} f) : sProp 𝕄) := rfl
theorem payK_3 (v : Vals F) (c : Dev nD) (i d : Fin 3) :
    payK v c (some (3, i)) d = (rcL c ↦[s3s i]{fullShare} s3Of (v.P (fw i.rev c) c) : sProp 𝕄) := rfl

section Ops

/-- Wait out one remote copy's semaphore and retire it. -/
theorem wp_dwait (v : Vals F) (K : Dev nD × Kd → ℕ) (c : Dev nD) {α : Type} {Q : α → sProp 𝕄} {k : PUnit → Prog (TpuEff nD τ sig (Elt F) Λ₀ .tc) α} (f : Fin 4) (i : Fin 3) {sp sp' : Space} {s s' : Shape} {e e' : EltTy} {sem : DmaSem sig} (hsm : sem = dq f i)
    {src : Memref sig .tc sp' s' e'} {κ' : Kind} {dst : Memref sig κ' sp s e} {hsrc : src.view.WordExact} {hdst : dst.view.WordExact}
    (ham : dst.view.dmaCredit = amt (some (f, i))) (O : CellTallies nD τ sig Unit) (W : Waits sig Unit)
    (hw : (levAts L lv : sProp 𝕄) ⊢ MayWait (c : Thread nD τ) (semK (some (f, i))) () O) :
    iprop(records v K ∗ levAts L lv ∗ cred (tallyAt (cell c (some (f, i))) () (amt (some (f, i)))) ∗ owes (c : Thread nD τ) O W
        ∗ atPos ER (cell c (some (f, i))) 0 ∅ 0)
      ⊢ iprop((iprop((∃ W, owes (c : Thread nD τ) O W) ∗ payK v c (some (f, i)) 0 ∗ semVal (cell c (some (f, i))) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  subst hsm
  iintro ⟨#HR, #HL, Hc, HO, Hat⟩ K0
  ihave HI := (records_inv v K c (some (f, i))) $$ HR
  icases HI with #HI
  iapply (Rounds.wp_wait_rest_token 𝒱₀ ER (Rd v) (c : Thread nD τ) none (κ := K (c, some (f, i)))
      (wpE_waitDma2_eq 𝒱₀ (c : Thread nD τ) none Set.univ) (Set.mem_univ _) () (O := O) (W := W) (R := 0) (m := 0) (T := ∅)
      (by rw [Nat.zero_add, ham]; exact (expect_some v c (f, i)).symm)) $$ [Hc HO Hat]
  · isplitr; · iexact HI
    isplitl [Hc]; · rw [ham]; iexact Hc
    isplitl [HO]; · iexact HO
    isplitr; · iapply hw; iexact HL
    iexact Hat
  iintro ⟨HO, Hat, -, Hpay⟩
  imod (Rounds.cell_close ER (Rd v) (Set.mem_univ (K (c, some (f, i)))) (fun h => h) (R := 0 + 1) (duties_later v (cell c (some (f, i))))) $$ [Hat] with Hz
  · isplitr; · iexact HI
    iexact Hat
  iapply K0
  isplitl [HO]; · iexists _; iexact HO
  isplitl [Hpay]; · iapply (show bigSep ((Rd v).duties ((c : Thread nD τ), .dma (dq f i)) 0 \ ∅) (fun u => (Rd v).payload ((c : Thread nD τ), .dma (dq f i)) 0 u) ⊢ payK v c (some (f, i)) 0 from Entails.of_eq (rest_some v c (f, i))) $$ Hpay
  iexact Hz

/-- Send the device's x block to the device `i + 1` on. -/
theorem wp_ag (v : Vals F) (K : Dev nD × Kd → ℕ) (c : Dev nD) {α : Type} {Q : α → sProp 𝕄} {k : PUnit → Prog (TpuEff nD τ sig (Elt F) Λ₀ .tc) α} (i : Fin 3) {n : Dev nD} (hn : n = fw i c) {ox : Fin 3 → ℕ} {o : Fin 2 → ℕ} (hx : ox = ![0, 0, 0]) (ho : o = ![256 * i.rev.val, 0])
    {inbx hhx sqx inb hh} {sS sR : DmaSem sig} (hS : sS = dq 0 i) (hR : sR = dq 1 i) {hsc hsrc hdst hsem}
    (O : CellTallies nD τ sig Unit) (W : Waits sig Unit) :
    iprop(records v K ∗ (xL c ↦{qx i} v.X c) ∗ (∃ f, xrL (fw i c) ↦[xrs i.rev]{fullShare} f) ∗ owes (c : Thread nD τ) (O + tallyAt (cell (fw i c) (some (1, i))) () agN) W
        ∗ tokP c (1, i) ∗ tokP c (2, i))
      ⊢ iprop((iprop(cred (tallyAt (cell c (some (0, i))) () (amt (some (0, i)))) ∗ owes (c : Thread nD τ) O W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (xSq ox inbx hhx sqx) (.remote (Dev.tc n : Thread nD τ) (xrAt o inb hh) (.dma sS) hsc) (.dma sR) hsrc hdst hsem) k) Q) := by
  subst hn; subst hS; subst hR
  iintro ⟨#HR, Hx, ⟨%f, Hd⟩, HO, Ht1, Ht2⟩ K0
  iapply (Rounds.wp_send_pointsTo 𝒱₀ ER (Rd v) (c : Thread nD τ) none (c' := (fw i c : Thread nD τ)) (src := xSq ox inbx hhx sqx) (dst := xrAt o inb hh)
    (κ₁ := K (c, some (0, i))) (κ₂ := K (fw i c, some (1, i)))
    (r₁ := 0) (r₂ := 0) (d₁ := 0) (d₂ := 0) (q := qx i) (fs := v.X c) (fd := f)
    (mem0 v (c) (0, i))
    (mem0 v (fw i c) (1, i))
    () () agN rfl (amount_eq v c (some (0, i)) 0) (amount_eq v (fw i c) (some (1, i)) 0) O rfl (W := W)
    (by
      rw [xSq_set hx]
      exact Entails.of_eq (payload_eq v c (some (0, i)) 0).symm)
    (by
      rw [xrAt_set i.rev ho]
      refine (Entails.of_eq (pointsTo_congr (x_lands i.rev hx ho inbx hhx sqx inb hh f (v.X c)))).trans ?_
      refine (Entails.of_eq ?_).trans (Entails.of_eq (payload_eq v (fw i c) (some (1, i)) 0).symm)
      rw [payK_1, fw_rev])) $$ [Hx Hd HO Ht1 Ht2]
  · isplitr; · iapply (records_inv v K c (some (0, i))); iexact HR
    isplitr; · iapply (records_inv v K (fw i c) (some (1, i))); iexact HR
    isplitl [Hx]; · rw [xSq_set hx]; iexact Hx
    isplitl [Hd]; · rw [xrAt_set i.rev ho]; iexact Hd
    isplitl [HO]; · iexact HO
    isplitl [Ht1]; · iexact Ht1
    isplitr; · iapply (records_reached v K c (some (0, i))); iexact HR
    isplitl [Ht2]; · iexact Ht2
    iapply (records_reached v K (fw i c) (some (1, i))); iexact HR
  iintro ⟨Hc, HO⟩
  iapply K0
  isplitl [Hc]; · iexact Hc
  iexact HO

/-- Send a partial block back to its owner, the device `i + 1` on. -/
theorem wp_rs (v : Vals F) (K : Dev nD × Kd → ℕ) (c : Dev nD) {α : Type} {Q : α → sProp 𝕄} {k : PUnit → Prog (TpuEff nD τ sig (Elt F) Λ₀ .tc) α} (i : Fin 3) {n : Dev nD} (hn : n = fw i c) {os o : Fin 3 → ℕ} (hs : os = ![i.val, 0, 0]) (ho : o = ![i.val, 0, 0])
    {inbs hhs sqs inb hh sq} {sS sR : DmaSem sig} (hS : sS = dq 2 i) (hR : sR = dq 3 i) {hsc hsrc hdst hsem}
    (O : CellTallies nD τ sig Unit) (W : Waits sig Unit) :
    iprop(records v K ∗ (roL c ↦[s3s i]{fullShare} s3Of (v.P c (fw i c))) ∗ (∃ f, rcL (fw i c) ↦[s3s i]{fullShare} f)
        ∗ owes (c : Thread nD τ) (O + tallyAt (cell (fw i c) (some (3, i))) () rsN) W
        ∗ tokP c (3, i) ∗ tokP c (4, i))
      ⊢ iprop((iprop(cred (tallyAt (cell c (some (2, i))) () (amt (some (2, i)))) ∗ owes (c : Thread nD τ) O W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (roAt os inbs hhs sqs) (.remote (Dev.tc n : Thread nD τ) (rcAt o inb hh sq) (.dma sS) hsc) (.dma sR) hsrc hdst hsem) k) Q) := by
  subst hn; subst hS; subst hR
  iintro ⟨#HR, Hx, ⟨%f, Hd⟩, HO, Ht1, Ht2⟩ K0
  iapply (Rounds.wp_send_pointsTo 𝒱₀ ER (Rd v) (c : Thread nD τ) none (c' := (fw i c : Thread nD τ)) (src := roAt os inbs hhs sqs) (dst := rcAt o inb hh sq)
    (κ₁ := K (c, some (2, i))) (κ₂ := K (fw i c, some (3, i)))
    (r₁ := 0) (r₂ := 0) (d₁ := 0) (d₂ := 0) (q := fullShare) (fs := s3Of (v.P c (fw i c))) (fd := f)
    (mem0 v (c) (2, i))
    (mem0 v (fw i c) (3, i))
    () () rsN rfl (amount_eq v c (some (2, i)) 0) (amount_eq v (fw i c) (some (3, i)) 0) O rfl (W := W)
    (by
      rw [roAt_set i hs]
      refine BI.Entails.trans ?_ (Entails.of_eq (payload_eq v c (some (2, i)) 0).symm)
      rw [payK_2]
      show (roL c ↦[s3s i]{fullShare} s3Of (v.P c (fw i c)) : sProp 𝕄) ⊢ _
      iintro H; iexists _; iexact H)
    (by
      rw [rcAt_set i ho]
      refine (Entails.of_eq (pointsTo_congr (p_lands i hs ho inbs hhs sqs inb hh sq f (v.P c (fw i c))))).trans ?_
      refine (Entails.of_eq ?_).trans (Entails.of_eq (payload_eq v (fw i c) (some (3, i)) 0).symm)
      rw [payK_3, fw_rev])) $$ [Hx Hd HO Ht1 Ht2]
  · isplitr; · iapply (records_inv v K c (some (2, i))); iexact HR
    isplitr; · iapply (records_inv v K (fw i c) (some (3, i))); iexact HR
    isplitl [Hx]; · rw [roAt_set i hs]; iexact Hx
    isplitl [Hd]; · rw [rcAt_set i ho]; iexact Hd
    isplitl [HO]; · iexact HO
    isplitl [Ht1]; · iexact Ht1
    isplitr; · iapply (records_reached v K c (some (2, i))); iexact HR
    isplitl [Ht2]; · iexact Ht2
    iapply (records_reached v K (fw i c) (some (3, i))); iexact HR
  iintro ⟨Hc, HO⟩
  iapply K0
  isplitl [Hc]; · iexact Hc
  iexact HO

/-- Tell the device `i + 1` on that this device is ready, handing over the landing rows it will fill. -/
theorem wp_bar (v : Vals F) (K : Dev nD × Kd → ℕ) (c : Dev nD) {α : Type} {Q : α → sProp 𝕄} {k : PUnit → Prog (TpuEff nD τ sig (Elt F) Λ₀ .tc) α} (i : Fin 3) {n : Dev nD} (hn : n = fw i c) {sem : Sem sig} (hsm : sem = barS) (O : CellTallies nD τ sig Unit) (W : Waits sig Unit) :
    iprop(records v K ∗ (∃ f, xrL c ↦[xrs i]{fullShare} f) ∗ (∃ f, rcL c ↦[s3s i.rev]{fullShare} f)
        ∗ owes (c : Thread nD τ) (O + tallyAt (cell (fw i c) none) () 1) W ∗ tokP c (0, i))
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) sem (1#32).toInt) k) Q) := by
  subst hn; subst hsm
  iintro ⟨#HR, Hx, Hr, HO, Ht⟩ K0
  iapply (Rounds.wp_signal 𝒱₀ ER (Rd v) (c : Thread nD τ) none (dst := (fw i c : Thread nD τ)) (κ := K (fw i c, none))
      (d := i) (memB v (fw i c) i)
      ((amount_eq v (fw i c) none i).trans (by decide)) () O rfl) $$ [HO Ht Hx Hr]
  · isplitr; · iapply (records_inv v K (fw i c) none); iexact HR
    isplitl [HO]; · iexact HO
    isplitl [Ht]; · iexact Ht
    isplitl [Hx Hr]
    · iapply (show payK v (fw i c) none i ⊢ (Rd v).payload ((fw i c : Thread nD τ), .reg barS) 0 i from Entails.of_eq (payload_eq v (fw i c) none i).symm)
      rw [payK_none, fw_rev]
      isplitl [Hx]; · iexact Hx
      iexact Hr
    · iapply (records_reached v K (fw i c) none); iexact HR
  iexact K0

/-- Wait for the three other devices. -/
theorem wp_barwait (v : Vals F) (K : Dev nD × Kd → ℕ) (c : Dev nD) {α : Type} {Q : α → sProp 𝕄} {k : PUnit → Prog (TpuEff nD τ sig (Elt F) Λ₀ .tc) α} {sem : Sem sig} (hsm : sem = barS) (O : CellTallies nD τ sig Unit) (W : Waits sig Unit)
    (hw : (levAts L lv : sProp 𝕄) ⊢ MayWait (c : Thread nD τ) (semK none) () O) :
    iprop(records v K ∗ levAts L lv ∗ cred (tallyAt (cell c none) () 3) ∗ owes (c : Thread nD τ) O W ∗ atPos ER (cell c none) 0 ∅ 0)
      ⊢ iprop((iprop((∃ W, owes (c : Thread nD τ) O W) ∗ (payK v c none 0 ∗ payK v c none 1 ∗ payK v c none 2) ∗ semVal (cell c none) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait sem (3#32).toInt) k) Q) := by
  subst hsm
  iintro ⟨#HR, #HL, Hc, HO, Hat⟩ K0
  ihave HI := (records_inv v K c none) $$ HR
  icases HI with #HI
  iapply (Rounds.wp_wait_rest_token 𝒱₀ ER (Rd v) (c : Thread nD τ) none (κ := K (c, none))
      (wpE_semWait_eq 𝒱₀ (c : Thread nD τ) none Set.univ) (Set.mem_univ _) () (O := O) (W := W) (R := 0) (m := 0) (T := ∅)
      (by rw [Nat.zero_add]; exact (expect_bar v c).symm)) $$ [Hc HO Hat]
  · isplitr; · iexact HI
    isplitl [Hc]; · iexact Hc
    isplitl [HO]; · iexact HO
    isplitr; · iapply hw; iexact HL
    iexact Hat
  iintro ⟨HO, Hat, -, Hpay⟩
  imod (Rounds.cell_close ER (Rd v) (Set.mem_univ (K (c, none))) (fun h => h) (R := 0 + 1) (duties_later v (cell c none))) $$ [Hat] with Hz
  · isplitr; · iexact HI
    iexact Hat
  iapply K0
  isplitl [HO]; · iexists _; iexact HO
  isplitl [Hpay]; · iapply (show bigSep ((Rd v).duties ((c : Thread nD τ), .reg barS) 0 \ ∅) (fun u => (Rd v).payload ((c : Thread nD τ), .reg barS) 0 u) ⊢ iprop(payK v c none 0 ∗ payK v c none 1 ∗ payK v c none 2) from Entails.of_eq (rest_bar v c)) $$ Hpay
  iexact Hz

end Ops

end Cert.KProof
-- ==== Proof.Prog.lean ====
module

public import proofs.«01_k».proof.Proof.Sends

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Programs
variable {α : Type}

/-- The ones column and the zeros beside the values, written once. -/
def padP (k : PUnit → Prog (TpuEff nD τ sig (Elt F) Λ₀ .tc) α) : Prog (TpuEff nD τ sig (Elt F) Λ₀ .tc) α :=
  .op (.load vM (Rect.unit (s := S2x512x8x256) ![0, 0, 0, 128] S2x512x8x128.size inb_S2x512x8x256_S2x512x8x128_0_0_0_128).toLoadRect (View.loadsAt_vmem h_S2x512x8x128)) fun _ =>
  .op (.store vM (Rect.unit (s := S2x512x8x256) ![0, 0, 0, 128] S2x512x8x128.size inb_S2x512x8x256_S2x512x8x128_0_0_0_128) (k0_pay110 (F := F)) Finset.univ (View.stores_vmem_bits_univ h_S2x512x8x128 rfl) (.inl rfl)) fun _ =>
  .op (.load vM (Rect.unit (s := S2x512x8x256) ![0, 0, 0, 128] S2x512x8x1.size inb_S2x512x8x256_S2x512x8x1_0_0_0_128).toLoadRect (View.loadsAt_vmem h_S2x512x8x1)) fun _ =>
  .op (.store vM (Rect.unit (s := S2x512x8x256) ![0, 0, 0, 128] S2x512x8x1.size inb_S2x512x8x256_S2x512x8x1_0_0_0_128) (k0_pay111 (F := F)) Finset.univ (View.stores_vmem_bits_univ h_S2x512x8x1 rfl) (.inl rfl)) k

/-- The handshake and the three sends of the x block. -/
def preP (c : Dev nD) (k : PUnit → Prog (TpuEff nD τ sig (Elt F) Λ₀ .tc) α) : Prog (TpuEff nD τ sig (Elt F) Λ₀ .tc) α :=
  .op (.semSignal (Dev.tc (⟨k0_dev1 c, k0_dev1_lt c⟩ : Dev nD)) barS (1#32).toInt) fun _ =>
  .op (.semSignal (Dev.tc (⟨k0_dev2 c, k0_dev2_lt c⟩ : Dev nD)) barS (1#32).toInt) fun _ =>
  .op (.semSignal (Dev.tc (⟨k0_dev3 c, k0_dev3_lt c⟩ : Dev nD)) barS (1#32).toInt) fun _ =>
  .op (.semWait barS (3#32).toInt) fun _ =>
  .op (.enqueueDma (xSq ![0, 0, 0] inb_S1x256x1024_S1x256x1024_0_0_0 (fun _ => rfl) squeezes_S1x256x1024_S256x1024) (.remote (Dev.tc (⟨k0_dev4 c, k0_dev4_lt c⟩ : Dev nD)) (xrAt ![512, 0] inb_S768x1024_S256x1024_512_0 (fun _ => rfl)) (.dma ((cc0_scratch9.slice (Rect.unit (s := S3) ![0] S1.size inb_S3_S1_0)).squeeze S_ squeezes_S1_S_).sem)) (.dma ((cc0_scratch10.slice (Rect.unit (s := S3) ![0] S1.size inb_S3_S1_0)).squeeze S_ squeezes_S1_S_).sem) ((View.wordExact_bits rfl).reshape _ _) (View.wordExact_bits rfl) ⟨⟨rfl, Or.inl rfl⟩, trivial⟩) fun _ =>
  .op (.enqueueDma (xSq ![0, 0, 0] inb_S1x256x1024_S1x256x1024_0_0_0 (fun _ => rfl) squeezes_S1x256x1024_S256x1024) (.remote (Dev.tc (⟨k0_dev5 c, k0_dev5_lt c⟩ : Dev nD)) (xrAt ![256, 0] inb_S768x1024_S256x1024_256_0 (fun _ => rfl)) (.dma ((cc0_scratch9.slice (Rect.unit (s := S3) ![1] S1.size inb_S3_S1_1)).squeeze S_ squeezes_S1_S_).sem)) (.dma ((cc0_scratch10.slice (Rect.unit (s := S3) ![1] S1.size inb_S3_S1_1)).squeeze S_ squeezes_S1_S_).sem) ((View.wordExact_bits rfl).reshape _ _) (View.wordExact_bits rfl) ⟨⟨rfl, Or.inl rfl⟩, trivial⟩) fun _ =>
  .op (.enqueueDma (xSq ![0, 0, 0] inb_S1x256x1024_S1x256x1024_0_0_0 (fun _ => rfl) squeezes_S1x256x1024_S256x1024) (.remote (Dev.tc (⟨k0_dev6 c, k0_dev6_lt c⟩ : Dev nD)) (xrAt ![0, 0] inb_S768x1024_S256x1024_0_0 (fun _ => rfl)) (.dma ((cc0_scratch9.slice (Rect.unit (s := S3) ![2] S1.size inb_S3_S1_2)).squeeze S_ squeezes_S1_S_).sem)) (.dma ((cc0_scratch10.slice (Rect.unit (s := S3) ![2] S1.size inb_S3_S1_2)).squeeze S_ squeezes_S1_S_).sem) ((View.wordExact_bits rfl).reshape _ _) (View.wordExact_bits rfl) ⟨⟨rfl, Or.inl rfl⟩, trivial⟩) k

/-- The device's own block. -/
def blk0P (c : Dev nD) (k : PUnit → Prog (TpuEff nD τ sig (Elt F) Λ₀ .tc) α) : Prog (TpuEff nD τ sig (Elt F) Λ₀ .tc) α :=
  kvP c fun _ => q0P fun _ => coreP c fun _ => p0P k

/-- A block of another device: wait for its x block, compute, send the partial block back. -/
def blkP (c n : Dev nD) (o2 : Fin 2 → ℕ) (inb2 : ∀ a, o2 a + S256x1024.size a ≤ S768x1024.size a) (o3 : Fin 3 → ℕ) (inb3 : ∀ a, o3 a + S1x256x1024.size a ≤ S3x256x1024.size a)
    (sA sS sR : DmaSem sig) (k : PUnit → Prog (TpuEff nD τ sig (Elt F) Λ₀ .tc) α) : Prog (TpuEff nD τ sig (Elt F) Λ₀ .tc) α :=
  kvP c fun _ =>
  .op (.waitDma2 sA (xSq ![0, 0, 0] inb_S1x256x1024_S1x256x1024_0_0_0 (fun _ => rfl) squeezes_S1x256x1024_S256x1024) (xrAt o2 inb2 (fun _ => rfl)) ((View.wordExact_bits rfl).reshape _ _) (View.wordExact_bits rfl)) fun _ =>
  qrP o2 inb2 fun _ => coreP c fun _ => roP o3 inb3 fun _ =>
  .op (.enqueueDma (roAt o3 inb3 (fun _ => rfl) squeezes_S1x256x1024_S256x1024) (.remote (Dev.tc n) (rcAt o3 inb3 (fun _ => rfl) squeezes_S1x256x1024_S256x1024) (.dma sS)) (.dma sR) ((View.wordExact_bits rfl).reshape _ _) ((View.wordExact_bits rfl).reshape _ _) ⟨⟨rfl, Or.inl rfl⟩, trivial⟩) k

/-- The closing waits. -/
def waitsP (k : PUnit → Prog (TpuEff nD τ sig (Elt F) Λ₀ .tc) α) : Prog (TpuEff nD τ sig (Elt F) Λ₀ .tc) α :=
  .op (.waitDma2 ((cc0_scratch9.slice (Rect.unit (s := S3) ![0] S1.size inb_S3_S1_0)).squeeze S_ squeezes_S1_S_).sem (xrAt ![512, 0] inb_S768x1024_S256x1024_512_0 (fun _ => rfl)) (xSq ![0, 0, 0] inb_S1x256x1024_S1x256x1024_0_0_0 (fun _ => rfl) squeezes_S1x256x1024_S256x1024) (View.wordExact_bits rfl) ((View.wordExact_bits rfl).reshape _ _)) fun _ =>
  .op (.waitDma2 ((cc0_scratch9.slice (Rect.unit (s := S3) ![1] S1.size inb_S3_S1_1)).squeeze S_ squeezes_S1_S_).sem (xrAt ![256, 0] inb_S768x1024_S256x1024_256_0 (fun _ => rfl)) (xSq ![0, 0, 0] inb_S1x256x1024_S1x256x1024_0_0_0 (fun _ => rfl) squeezes_S1x256x1024_S256x1024) (View.wordExact_bits rfl) ((View.wordExact_bits rfl).reshape _ _)) fun _ =>
  .op (.waitDma2 ((cc0_scratch9.slice (Rect.unit (s := S3) ![2] S1.size inb_S3_S1_2)).squeeze S_ squeezes_S1_S_).sem (xrAt ![0, 0] inb_S768x1024_S256x1024_0_0 (fun _ => rfl)) (xSq ![0, 0, 0] inb_S1x256x1024_S1x256x1024_0_0_0 (fun _ => rfl) squeezes_S1x256x1024_S256x1024) (View.wordExact_bits rfl) ((View.wordExact_bits rfl).reshape _ _)) fun _ =>
  .op (.waitDma2 ((cc0_scratch11.slice (Rect.unit (s := S3) ![0] S1.size inb_S3_S1_0)).squeeze S_ squeezes_S1_S_).sem (rcAt ![0, 0, 0] inb_S3x256x1024_S1x256x1024_0_0_0 (fun _ => rfl) squeezes_S1x256x1024_S256x1024) (roAt ![0, 0, 0] inb_S3x256x1024_S1x256x1024_0_0_0 (fun _ => rfl) squeezes_S1x256x1024_S256x1024) ((View.wordExact_bits rfl).reshape _ _) ((View.wordExact_bits rfl).reshape _ _)) fun _ =>
  .op (.waitDma2 ((cc0_scratch11.slice (Rect.unit (s := S3) ![1] S1.size inb_S3_S1_1)).squeeze S_ squeezes_S1_S_).sem (rcAt ![1, 0, 0] inb_S3x256x1024_S1x256x1024_1_0_0 (fun _ => rfl) squeezes_S1x256x1024_S256x1024) (roAt ![1, 0, 0] inb_S3x256x1024_S1x256x1024_1_0_0 (fun _ => rfl) squeezes_S1x256x1024_S256x1024) ((View.wordExact_bits rfl).reshape _ _) ((View.wordExact_bits rfl).reshape _ _)) fun _ =>
  .op (.waitDma2 ((cc0_scratch11.slice (Rect.unit (s := S3) ![2] S1.size inb_S3_S1_2)).squeeze S_ squeezes_S1_S_).sem (rcAt ![2, 0, 0] inb_S3x256x1024_S1x256x1024_2_0_0 (fun _ => rfl) squeezes_S1x256x1024_S256x1024) (roAt ![2, 0, 0] inb_S3x256x1024_S1x256x1024_2_0_0 (fun _ => rfl) squeezes_S1x256x1024_S256x1024) ((View.wordExact_bits rfl).reshape _ _) ((View.wordExact_bits rfl).reshape _ _)) fun _ =>
  .op (.waitDma2 ((cc0_scratch12.slice (Rect.unit (s := S3) ![0] S1.size inb_S3_S1_0)).squeeze S_ squeezes_S1_S_).sem (roAt ![0, 0, 0] inb_S3x256x1024_S1x256x1024_0_0_0 (fun _ => rfl) squeezes_S1x256x1024_S256x1024) (rcAt ![0, 0, 0] inb_S3x256x1024_S1x256x1024_0_0_0 (fun _ => rfl) squeezes_S1x256x1024_S256x1024) ((View.wordExact_bits rfl).reshape _ _) ((View.wordExact_bits rfl).reshape _ _)) fun _ =>
  .op (.waitDma2 ((cc0_scratch12.slice (Rect.unit (s := S3) ![1] S1.size inb_S3_S1_1)).squeeze S_ squeezes_S1_S_).sem (roAt ![1, 0, 0] inb_S3x256x1024_S1x256x1024_1_0_0 (fun _ => rfl) squeezes_S1x256x1024_S256x1024) (rcAt ![1, 0, 0] inb_S3x256x1024_S1x256x1024_1_0_0 (fun _ => rfl) squeezes_S1x256x1024_S256x1024) ((View.wordExact_bits rfl).reshape _ _) ((View.wordExact_bits rfl).reshape _ _)) fun _ =>
  .op (.waitDma2 ((cc0_scratch12.slice (Rect.unit (s := S3) ![2] S1.size inb_S3_S1_2)).squeeze S_ squeezes_S1_S_).sem (roAt ![2, 0, 0] inb_S3x256x1024_S1x256x1024_2_0_0 (fun _ => rfl) squeezes_S1x256x1024_S256x1024) (rcAt ![2, 0, 0] inb_S3x256x1024_S1x256x1024_2_0_0 (fun _ => rfl) squeezes_S1x256x1024_S256x1024) ((View.wordExact_bits rfl).reshape _ _) ((View.wordExact_bits rfl).reshape _ _)) k

/-- The sum of the four partial blocks. -/
def sumP (k : PUnit → Prog (TpuEff nD τ sig (Elt F) Λ₀ .tc) α) : Prog (TpuEff nD τ sig (Elt F) Λ₀ .tc) α :=
  .op (.load p0M (Rect.unit (s := S256x1024) ![0, 0] S256x1024.size inb_S256x1024_S256x1024_0_0).toLoadRect (View.loadsAt_vmem h_S256x1024)) fun p =>
  .op (.load rcM (Rect.unit (s := S3x256x1024) ![0, 0, 0] S1x256x1024.size inb_S3x256x1024_S1x256x1024_0_0_0).toLoadRect (View.loadsAt_vmem h_S1x256x1024)) fun r0 =>
  .op (.load rcM (Rect.unit (s := S3x256x1024) ![1, 0, 0] S1x256x1024.size inb_S3x256x1024_S1x256x1024_1_0_0).toLoadRect (View.loadsAt_vmem h_S1x256x1024)) fun r1 =>
  .op (.load rcM (Rect.unit (s := S3x256x1024) ![2, 0, 0] S1x256x1024.size inb_S3x256x1024_S1x256x1024_2_0_0).toLoadRect (View.loadsAt_vmem h_S1x256x1024)) fun r2 =>
  .op (.load oM (Rect.unit (s := S1x256x1024) ![0, 0, 0] S1x256x1024.size inb_S1x256x1024_S1x256x1024_0_0_0).toLoadRect (View.loadsAt_vmem h_S1x256x1024)) fun _ =>
  .op (.store oM (Rect.unit (s := S1x256x1024) ![0, 0, 0] S1x256x1024.size inb_S1x256x1024_S1x256x1024_0_0_0) (k0_pay1 p r0 r1 r2) Finset.univ (View.stores_vmem_bits_univ h_S1x256x1024 rfl) (.inl rfl)) k

end Programs

/-- The kernel once it knows its device. -/
def kernelP (c : Dev nD) : Prog (TpuEff nD τ sig (Elt F) Λ₀ .tc) PUnit :=
  padP fun _ => preP c fun _ => blk0P c fun _ =>
  blkP c ⟨k0_dev7 c, k0_dev7_lt c⟩ ![0, 0] inb_S768x1024_S256x1024_0_0 ![0, 0, 0] inb_S3x256x1024_S1x256x1024_0_0_0 ((cc0_scratch10.slice (Rect.unit (s := S3) ![2] S1.size inb_S3_S1_2)).squeeze S_ squeezes_S1_S_).sem ((cc0_scratch11.slice (Rect.unit (s := S3) ![0] S1.size inb_S3_S1_0)).squeeze S_ squeezes_S1_S_).sem ((cc0_scratch12.slice (Rect.unit (s := S3) ![0] S1.size inb_S3_S1_0)).squeeze S_ squeezes_S1_S_).sem fun _ =>
  blkP c ⟨k0_dev8 c, k0_dev8_lt c⟩ ![256, 0] inb_S768x1024_S256x1024_256_0 ![1, 0, 0] inb_S3x256x1024_S1x256x1024_1_0_0 ((cc0_scratch10.slice (Rect.unit (s := S3) ![1] S1.size inb_S3_S1_1)).squeeze S_ squeezes_S1_S_).sem ((cc0_scratch11.slice (Rect.unit (s := S3) ![1] S1.size inb_S3_S1_1)).squeeze S_ squeezes_S1_S_).sem ((cc0_scratch12.slice (Rect.unit (s := S3) ![1] S1.size inb_S3_S1_1)).squeeze S_ squeezes_S1_S_).sem fun _ =>
  blkP c ⟨k0_dev9 c, k0_dev9_lt c⟩ ![512, 0] inb_S768x1024_S256x1024_512_0 ![2, 0, 0] inb_S3x256x1024_S1x256x1024_2_0_0 ((cc0_scratch10.slice (Rect.unit (s := S3) ![0] S1.size inb_S3_S1_0)).squeeze S_ squeezes_S1_S_).sem ((cc0_scratch11.slice (Rect.unit (s := S3) ![2] S1.size inb_S3_S1_2)).squeeze S_ squeezes_S1_S_).sem ((cc0_scratch12.slice (Rect.unit (s := S3) ![2] S1.size inb_S3_S1_2)).squeeze S_ squeezes_S1_S_).sem fun _ =>
  waitsP fun _ => sumP fun _ => .ret ⟨⟩

theorem for1_eq (c : Dev nD) :
    Scf.Loop.for k0_t1_loop k0_t1_ok ⟨⟩ (k0_t1_body (F := F) xM (Memref.isWhole_whole _) wqM (Memref.isWhole_whole _) woM (Memref.isWhole_whole _) khM (Memref.isWhole_whole _) vhM (Memref.isWhole_whole _) oM (Memref.isWhole_whole _) xrM (Memref.isWhole_whole _) qM (Memref.isWhole_whole _) kM (Memref.isWhole_whole _) vM (Memref.isWhole_whole _) lM (Memref.isWhole_whole _) aM (Memref.isWhole_whole _) p0M (Memref.isWhole_whole _) roM (Memref.isWhole_whole _) rcM (Memref.isWhole_whole _) cc0_scratch9 cc0_scratch10 cc0_scratch11 cc0_scratch12 cc0_scratch13 cc0_scratch14 c) = Scf.Loop.for k0_t1_loop k0_t1_ok ⟨⟩ (fun t _ => tripP c t) := by
  have h : body1 (F := F) c = fun t u => tripP c t := funext fun t => funext fun u => body1_eq c t u
  exact congrArg (Scf.Loop.for k0_t1_loop k0_t1_ok ⟨⟩) h
theorem for2_eq (c : Dev nD) (z : F .f32) :
    Scf.Loop.for k0_t2_loop k0_t2_ok ⟨⟩ (k0_t2_body (F := F) xM (Memref.isWhole_whole _) wqM (Memref.isWhole_whole _) woM (Memref.isWhole_whole _) khM (Memref.isWhole_whole _) vhM (Memref.isWhole_whole _) oM (Memref.isWhole_whole _) xrM (Memref.isWhole_whole _) qM (Memref.isWhole_whole _) kM (Memref.isWhole_whole _) vM (Memref.isWhole_whole _) lM (Memref.isWhole_whole _) aM (Memref.isWhole_whole _) p0M (Memref.isWhole_whole _) roM (Memref.isWhole_whole _) rcM (Memref.isWhole_whole _) cc0_scratch9 cc0_scratch10 cc0_scratch11 cc0_scratch12 cc0_scratch13 cc0_scratch14 c z) = Scf.Loop.for k0_t1_loop k0_t1_ok ⟨⟩ (fun t _ => tripP c t) := by
  have h : body2 (F := F) c z = fun t u => tripP c t := funext fun t => funext fun u => body2_eq c z t u
  exact congrArg (Scf.Loop.for k0_t1_loop k0_t1_ok ⟨⟩) h
theorem for3_eq (c : Dev nD) (z : Vec F S256x1024 .f32) :
    Scf.Loop.for k0_t3_loop k0_t3_ok ⟨⟩ (k0_t3_body (F := F) xM (Memref.isWhole_whole _) wqM (Memref.isWhole_whole _) woM (Memref.isWhole_whole _) khM (Memref.isWhole_whole _) vhM (Memref.isWhole_whole _) oM (Memref.isWhole_whole _) xrM (Memref.isWhole_whole _) qM (Memref.isWhole_whole _) kM (Memref.isWhole_whole _) vM (Memref.isWhole_whole _) lM (Memref.isWhole_whole _) aM (Memref.isWhole_whole _) p0M (Memref.isWhole_whole _) roM (Memref.isWhole_whole _) rcM (Memref.isWhole_whole _) cc0_scratch9 cc0_scratch10 cc0_scratch11 cc0_scratch12 cc0_scratch13 cc0_scratch14 c z) = Scf.Loop.for k0_t1_loop k0_t1_ok ⟨⟩ (fun t _ => tripP c t) := by
  have h : body3 (F := F) c z = fun t u => tripP c t := funext fun t => funext fun u => body3_eq c z t u
  exact congrArg (Scf.Loop.for k0_t1_loop k0_t1_ok ⟨⟩) h
theorem for4_eq (c : Dev nD) :
    Scf.Loop.for k0_t4_loop k0_t4_ok ⟨⟩ (k0_t4_body (F := F) xM (Memref.isWhole_whole _) wqM (Memref.isWhole_whole _) woM (Memref.isWhole_whole _) khM (Memref.isWhole_whole _) vhM (Memref.isWhole_whole _) oM (Memref.isWhole_whole _) xrM (Memref.isWhole_whole _) qM (Memref.isWhole_whole _) kM (Memref.isWhole_whole _) vM (Memref.isWhole_whole _) lM (Memref.isWhole_whole _) aM (Memref.isWhole_whole _) p0M (Memref.isWhole_whole _) roM (Memref.isWhole_whole _) rcM (Memref.isWhole_whole _) cc0_scratch9 cc0_scratch10 cc0_scratch11 cc0_scratch12 cc0_scratch13 cc0_scratch14 c) = Scf.Loop.for k0_t1_loop k0_t1_ok ⟨⟩ (fun t _ => tripP c t) := by
  have h : body4 (F := F) c = fun t u => tripP c t := funext fun t => funext fun u => body4_eq c t u
  exact congrArg (Scf.Loop.for k0_t1_loop k0_t1_ok ⟨⟩) h

set_option maxHeartbeats 8000000 in
theorem cc0_body_eq : cc0_body (F := F) xM (Memref.isWhole_whole _) wqM (Memref.isWhole_whole _) woM (Memref.isWhole_whole _) khM (Memref.isWhole_whole _) vhM (Memref.isWhole_whole _) oM (Memref.isWhole_whole _) xrM (Memref.isWhole_whole _) qM (Memref.isWhole_whole _) kM (Memref.isWhole_whole _) vM (Memref.isWhole_whole _) lM (Memref.isWhole_whole _) aM (Memref.isWhole_whole _) p0M (Memref.isWhole_whole _) roM (Memref.isWhole_whole _) rcM (Memref.isWhole_whole _) cc0_scratch9 cc0_scratch10 cc0_scratch11 cc0_scratch12 cc0_scratch13 cc0_scratch14 = .op .deviceId kernelP := by
  rw [cc0_body_eq_skeleton]
  unfold cc0_body_skel
  simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel
  simp only [for1_eq, for2_eq, for3_eq, for4_eq, semSignalWord, semWaitWord, Prog.lift, Prog.bind_op, Prog.bind_ret, Prog.pure_eq_ret, Prog.bind_assoc]
  rfl

end Cert.KProof
-- ==== Proof.Pads.lean ====
module

public import proofs.«01_k».proof.Proof.Prog

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The inputs, and what is computed from them -/

structure Ins (F : FTy → Type) where
  X : Dev nD → S1x256x1024.Idx → Elt F .f32
  Wq : Dev nD → S1024x1024.Idx → Elt F .f32
  Wo : Dev nD → S1024x1024.Idx → Elt F .f32
  Kc : Dev nD → Kix → Elt F .f32
  Vc : Dev nD → Kix → Elt F .f32

/-- Device `p`'s partial block for device `e`'s rows. -/
def partV (I : Ins F) (p e : Dev nD) : S256x1024.Idx → Elt F .f32 :=
  k0_pay125 (attn p (I.Kc p) (I.Vc p) (k0_pay126 (xflat (I.X e)) (I.Wq p))) (I.Wo p)

def vals (I : Ins F) : Vals F where
  X := I.X
  P := partV I

/-- A block with a leading axis of one. -/
def s1Of (x : S256x1024.Idx → Elt F .f32) : S1x256x1024.Idx → Elt F .f32 := fun y => x (rix (y 1).val (y 2).val)

/-- What device `c` returns. -/
def outV (I : Ins F) (c : Dev nD) : S1x256x1024.Idx → Elt F .f32 :=
  k0_pay1 (partV I c c) (s1Of (partV I (fw (Fin.rev 0) c) c)) (s1Of (partV I (fw (Fin.rev 1) c) c)) (s1Of (partV I (fw (Fin.rev 2) c) c))

theorem pay112_eq (x : Vec F S1x256x1024 .f32) (w : Vec F S1024x1024 .f32) : k0_pay112 x w = k0_pay126 (xflat x) w := by
  have e : shapeCast S256x1024 x shapeCasts_S1x256x1024_S256x1024 = xflat x := by
    funext y
    rw [Idealize.ShloMosaic.shapeCast_dropUnit_apply (d := ![256, 1024])]
    rfl
  have e2 : shapeCast S256x1024 (xflat x) shapeCasts_S256x1024_S256x1024 = xflat x := Idealize.ShloMosaic.shapeCast_self _ _
  unfold k0_pay112 k0_pay126
  dsimp only
  rw [e]
  try rw [e2]

/-! ## Three pieces of a buffer -/

theorem split3 {ℓ : Loc nD τ sig} (A B C : Finset (Idx ℓ)) (h : A ∪ (B ∪ C) = Finset.univ) (d1 : Disjoint A (B ∪ C)) (d2 : Disjoint B C) :
    iprop(∃ f : Buf (Elt F) ℓ, ℓ ↦{fullShare} f) ⊢ (iprop((∃ f : Buf (Elt F) ℓ, ℓ ↦[A]{fullShare} f) ∗ (∃ f : Buf (Elt F) ℓ, ℓ ↦[B]{fullShare} f) ∗ (∃ f : Buf (Elt F) ℓ, ℓ ↦[C]{fullShare} f)) : sProp 𝕄) := by
  rw [← h]
  iintro ⟨%f, H⟩
  ihave H := (pointsTo_union d1).1 $$ H
  icases H with ⟨HA, H⟩
  ihave H := (pointsTo_union d2).1 $$ H
  icases H with ⟨HB, HC⟩
  isplitl [HA]; · iexists f; iexact HA
  isplitl [HB]; · iexists f; iexact HB
  iexists f; iexact HC

theorem join3 {ℓ : Loc nD τ sig} (A B C : Finset (Idx ℓ)) (h : A ∪ (B ∪ C) = Finset.univ) (d1 : Disjoint A (B ∪ C)) (d2 : Disjoint B C) :
    iprop((∃ f : Buf (Elt F) ℓ, ℓ ↦[A]{fullShare} f) ∗ (∃ f : Buf (Elt F) ℓ, ℓ ↦[B]{fullShare} f) ∗ (∃ f : Buf (Elt F) ℓ, ℓ ↦[C]{fullShare} f)) ⊢ (iprop(∃ f : Buf (Elt F) ℓ, ℓ ↦{fullShare} f) : sProp 𝕄) := by
  rw [← h]
  iintro ⟨⟨%f, HA⟩, ⟨%g, HB⟩, ⟨%e, HC⟩⟩
  ihave H := (pointsTo_join d2) $$ [HB HC]
  · isplitl [HB]; · iexact HB
    iexact HC
  ihave H := (pointsTo_join d1) $$ [HA H]
  · isplitl [HA]; · iexact HA
    iexact H
  iexists _; iexact H

theorem xrs_cover : xrs 0 ∪ (xrs 1 ∪ xrs 2) = Finset.univ := by
  ext y
  have h : (y 0).val < 768 := (y 0).isLt
  simp only [xrs, Finset.mem_union, Finset.mem_filter, Finset.mem_univ, true_and, iff_true]
  show (256 * 0 ≤ (y 0).val ∧ (y 0).val < 256 * 0 + 256) ∨ (256 * 1 ≤ (y 0).val ∧ (y 0).val < 256 * 1 + 256) ∨ (256 * 2 ≤ (y 0).val ∧ (y 0).val < 256 * 2 + 256)
  omega
theorem xrs_disj {i j : Fin 3} (h : i ≠ j) : Disjoint (xrs i) (xrs j) := by
  rw [Finset.disjoint_left]
  intro y hi hj
  have h1 := (Finset.mem_filter.mp hi).2
  have h2 := (Finset.mem_filter.mp hj).2
  exact h (Fin.ext (by omega))
theorem s3s_cover : s3s 0 ∪ (s3s 1 ∪ s3s 2) = Finset.univ := by
  ext y
  have h : (y 0).val < 3 := (y 0).isLt
  simp only [s3s, Finset.mem_union, Finset.mem_filter, Finset.mem_univ, true_and, iff_true]
  show (y 0).val = 0 ∨ (y 0).val = 1 ∨ (y 0).val = 2
  omega
theorem s3s_disj {i j : Fin 3} (h : i ≠ j) : Disjoint (s3s i) (s3s j) := by
  rw [Finset.disjoint_left]
  intro y hi hj
  have h1 := (Finset.mem_filter.mp hi).2
  have h2 := (Finset.mem_filter.mp hj).2
  exact h (Fin.ext (by omega))
theorem xrs_d1 : Disjoint (xrs 0) (xrs 1 ∪ xrs 2) := Finset.disjoint_union_right.mpr ⟨xrs_disj (by decide), xrs_disj (by decide)⟩
theorem s3s_d1 : Disjoint (s3s 0) (s3s 1 ∪ s3s 2) := Finset.disjoint_union_right.mpr ⟨s3s_disj (by decide), s3s_disj (by decide)⟩

/-! ## The slots, from whole buffers and back -/

def qkv : Fin 2 → PosShare TreeShare
  | 0 => fullShare.left
  | 1 => fullShare.right

theorem full_halves {ℓ : Loc nD τ sig} {f : Buf (Elt F) ℓ} : (ℓ ↦{fullShare} f : sProp 𝕄) ⊣⊢ iprop((ℓ ↦{fullShare.left} f) ∗ ℓ ↦{fullShare.right} f) :=
  pointsTo_share (PosShare.mem_left_op_right fullShare)

def goodPad (f : S2x512x8x256.Idx → Elt F .f32) : Prop := ∀ i, ¬ (i 3).val < 128 → f i = padc i

theorem kslot_cover : kslot 0 ∪ kslot 1 = Finset.univ := by
  ext y
  have h : (y 0).val < 2 := (y 0).isLt
  simp only [kslot, Finset.mem_union, Finset.mem_filter, Finset.mem_univ, true_and, iff_true]
  show (y 0).val = 0 ∨ (y 0).val = 1
  omega
theorem kslot_disj : Disjoint (kslot 0) (kslot 1) := by
  rw [Finset.disjoint_left]
  intro y hi hj
  have h1 := (Finset.mem_filter.mp hi).2
  have h2 := (Finset.mem_filter.mp hj).2
  rw [h1] at h2
  exact absurd h2 (by decide)
theorem vslot_cover : vslot 0 ∪ vslot 1 = Finset.univ := by
  ext y
  have h : (y 0).val < 2 := (y 0).isLt
  simp only [vslot, Finset.mem_union, Finset.mem_filter, Finset.mem_univ, true_and, iff_true]
  show (y 0).val = 0 ∨ (y 0).val = 1
  omega
theorem vslot_disj : Disjoint (vslot 0) (vslot 1) := by
  rw [Finset.disjoint_left]
  intro y hi hj
  have h1 := (Finset.mem_filter.mp hi).2
  have h2 := (Finset.mem_filter.mp hj).2
  rw [h1] at h2
  exact absurd h2 (by decide)

theorem vslot_split (c : Dev nD) (s : Fin 2) (f : S2x512x8x256.Idx → Elt F .f32) (hf : goodPad f) :
    (vL c ↦[vslot s]{fullShare} f : sProp 𝕄) ⊢ iprop((∃ g, vL c ↦[vdat s]{fullShare} g) ∗ vPad c s) := by
  rw [vslot_eq]
  unfold vPad
  iintro H
  ihave H := (pointsTo_union (ℓ := vL c) (vdat_vpad s)).1 $$ H
  icases H with ⟨H1, H2⟩
  isplitl [H1]; · iexists f; iexact H1
  have e : (iprop(vL c ↦[vpad s]{fullShare} f) : sProp 𝕄) = iprop(vL c ↦[vpad s]{fullShare} padc) :=
    pointsTo_congr fun i hi => hf i (Finset.mem_filter.mp hi).2.2
  iapply (Entails.of_eq e) $$ H2

theorem vslot_back (c : Dev nD) (s : Fin 2) :
    (iprop((∃ g, vL c ↦[vdat s]{fullShare} g) ∗ vPad c s) : sProp 𝕄) ⊢ iprop(∃ f, vL c ↦[vslot s]{fullShare} f) := by
  rw [vslot_eq]
  unfold vPad
  iintro ⟨⟨%g, H1⟩, H2⟩
  ihave H := (pointsTo_join (ℓ := vL c) (vdat_vpad s)) $$ [H1 H2]
  · isplitl [H1]; · iexact H1
    iexact H2
  iexists _; iexact H

/-- The semaphores of the two slots at rest. -/
def kvSem (c : Dev nD) : sProp 𝕄 :=
  iprop(semVal ((c : Thread nD τ), .dma (kS 0)) 0 ∗ semVal ((c : Thread nD τ), .dma (kS 1)) 0 ∗ semVal ((c : Thread nD τ), .dma (vS 0)) 0 ∗ semVal ((c : Thread nD τ), .dma (vS 1)) 0)

theorem slots_intro (c : Dev nD) (K V : Kix → Elt F .f32) (f : S2x512x8x256.Idx → Elt F .f32) (hf : goodPad f) :
    (iprop((vL c ↦{fullShare} f) ∗ (∃ g, kL c ↦{fullShare} g) ∗ (khL c ↦{fullShare} K) ∗ (vhL c ↦{fullShare} V) ∗ kvSem c) : sProp 𝕄) ⊢ slots c K V qkv := by
  unfold slots kIdle vIdle kvSem
  rw [show (Finset.univ : Finset (Idx (vL c))) = vslot 0 ∪ vslot 1 from vslot_cover.symm, show (Finset.univ : Finset (Idx (kL c))) = kslot 0 ∪ kslot 1 from kslot_cover.symm]
  iintro ⟨Hv, ⟨%g, Hk⟩, HK, HV, Hs1, Hs2, Hs3, Hs4⟩
  ihave Hv := (pointsTo_union (ℓ := vL c) vslot_disj).1 $$ Hv
  icases Hv with ⟨Hv0, Hv1⟩
  ihave Hv0 := (vslot_split c 0 f hf) $$ Hv0
  icases Hv0 with ⟨Hv0, Hp0⟩
  ihave Hv1 := (vslot_split c 1 f hf) $$ Hv1
  icases Hv1 with ⟨Hv1, Hp1⟩
  ihave Hk := (pointsTo_union (ℓ := kL c) kslot_disj).1 $$ Hk
  icases Hk with ⟨Hk0, Hk1⟩
  ihave HK := (full_halves (ℓ := khL c)).1 $$ HK
  icases HK with ⟨HK0, HK1⟩
  ihave HV := (full_halves (ℓ := vhL c)).1 $$ HV
  icases HV with ⟨HV0, HV1⟩
  isplitl [Hp0]; · iexact Hp0
  isplitl [Hp1]; · iexact Hp1
  isplitl [Hk0 HK0 Hs1]
  · isplitl [Hk0]; · iexists g; iexact Hk0
    isplitl [HK0]; · iexact HK0
    iexact Hs1
  isplitl [Hv0 HV0 Hs3]
  · isplitl [Hv0]; · iexact Hv0
    isplitl [HV0]; · iexact HV0
    iexact Hs3
  isplitl [Hk1 HK1 Hs2]
  · isplitl [Hk1]; · iexists g; iexact Hk1
    isplitl [HK1]; · iexact HK1
    iexact Hs2
  isplitl [Hv1]; · iexact Hv1
  isplitl [HV1]; · iexact HV1
  iexact Hs4

theorem slots_exit (c : Dev nD) (K V : Kix → Elt F .f32) :
    slots c K V qkv ⊢ (iprop((∃ f, vL c ↦{fullShare} f) ∗ (∃ g, kL c ↦{fullShare} g) ∗ (khL c ↦{fullShare} K) ∗ (vhL c ↦{fullShare} V) ∗ kvSem c) : sProp 𝕄) := by
  unfold slots kIdle vIdle kvSem
  rw [show (Finset.univ : Finset (Idx (vL c))) = vslot 0 ∪ vslot 1 from vslot_cover.symm, show (Finset.univ : Finset (Idx (kL c))) = kslot 0 ∪ kslot 1 from kslot_cover.symm]
  iintro ⟨Hp0, Hp1, ⟨⟨%g0, Hk0⟩, HK0, Hs1⟩, ⟨Hv0, HV0, Hs3⟩, ⟨⟨%g1, Hk1⟩, HK1, Hs2⟩, ⟨Hv1, HV1, Hs4⟩⟩
  ihave Hv0 := (vslot_back c 0) $$ [Hv0 Hp0]
  · isplitl [Hv0]; · iexact Hv0
    iexact Hp0
  icases Hv0 with ⟨%f0, Hv0⟩
  ihave Hv1 := (vslot_back c 1) $$ [Hv1 Hp1]
  · isplitl [Hv1]; · iexact Hv1
    iexact Hp1
  icases Hv1 with ⟨%f1, Hv1⟩
  isplitl [Hv0 Hv1]
  · ihave H := (pointsTo_join (ℓ := vL c) vslot_disj) $$ [Hv0 Hv1]
    · isplitl [Hv0]; · iexact Hv0
      iexact Hv1
    iexists _; iexact H
  isplitl [Hk0 Hk1]
  · ihave H := (pointsTo_join (ℓ := kL c) kslot_disj) $$ [Hk0 Hk1]
    · isplitl [Hk0]; · iexact Hk0
      iexact Hk1
    iexists _; iexact H
  isplitl [HK0 HK1]
  · iapply (full_halves (ℓ := khL c)).2
    isplitl [HK0]; · iexact HK0
    iexact HK1
  isplitl [HV0 HV1]
  · iapply (full_halves (ℓ := vhL c)).2
    isplitl [HV0]; · iexact HV0
    iexact HV1
  isplitl [Hs1]; · iexact Hs1
  isplitl [Hs2]; · iexact Hs2
  isplitl [Hs3]; · iexact Hs3
  iexact Hs4

/-! ## The padding -/

theorem pad_put (f : S2x512x8x256.Idx → Elt F .f32) :
    goodPad ((vM.access (Rect.unit (s := S2x512x8x256) ![0, 0, 0, 128] S2x512x8x1.size inb_S2x512x8x256_S2x512x8x1_0_0_0_128)).write (Elt F)
      ((vM.access (Rect.unit (s := S2x512x8x256) ![0, 0, 0, 128] S2x512x8x128.size inb_S2x512x8x256_S2x512x8x128_0_0_0_128)).write (Elt F) f (k0_pay110 (F := F)) Finset.univ)
      (k0_pay111 (F := F)) Finset.univ) := by
  intro y hy
  have h0 : (y 0).val < 2 := (y 0).isLt
  have h1 : (y 1).val < 512 := (y 1).isLt
  have h2 : (y 2).val < 8 := (y 2).isLt
  have h3 : (y 3).val < 256 := (y 3).isLt
  have e1 : (vM.access (Rect.unit (s := S2x512x8x256) ![0, 0, 0, 128] S2x512x8x128.size inb_S2x512x8x256_S2x512x8x128_0_0_0_128)).write (Elt F) f (k0_pay110 (F := F)) Finset.univ
      = VecWindow.put f ![0, 0, 0, 128] S2x512x8x128.size (k0_pay110 (F := F)) := put_whole cc0_scratch3 rfl _ f _
  have e2 : ∀ g, (vM.access (Rect.unit (s := S2x512x8x256) ![0, 0, 0, 128] S2x512x8x1.size inb_S2x512x8x256_S2x512x8x1_0_0_0_128)).write (Elt F) g (k0_pay111 (F := F)) Finset.univ
      = VecWindow.put g ![0, 0, 0, 128] S2x512x8x1.size (k0_pay111 (F := F)) := fun g => put_whole cc0_scratch3 rfl _ g _
  rw [e1, e2]
  have p0 : ∀ z, k0_pay110 (F := F) z = Scalar.ofBits .f32 0x00000000#32 := fun z => rfl
  have p1 : ∀ z, k0_pay111 (F := F) z = Scalar.ofBits .f32 0x3F800000#32 := fun z => rfl
  have hin : ∀ a, (![0, 0, 0, 128] : Fin 4 → ℕ) a ≤ (y a).val ∧ (y a).val < (![0, 0, 0, 128] : Fin 4 → ℕ) a + S2x512x8x128.size a := by
    intro a
    match a with
    | ⟨0, _⟩ => exact ⟨Nat.zero_le _, by show (y 0).val < 0 + 2; omega⟩
    | ⟨1, _⟩ => exact ⟨Nat.zero_le _, by show (y 1).val < 0 + 512; omega⟩
    | ⟨2, _⟩ => exact ⟨Nat.zero_le _, by show (y 2).val < 0 + 8; omega⟩
    | ⟨3, _⟩ => exact ⟨by show 128 ≤ (y 3).val; omega, by show (y 3).val < 128 + 128; omega⟩
  unfold VecWindow.put padc
  by_cases hq : (y 3).val = 128
  · have hin1 : ∀ a, (![0, 0, 0, 128] : Fin 4 → ℕ) a ≤ (y a).val ∧ (y a).val < (![0, 0, 0, 128] : Fin 4 → ℕ) a + S2x512x8x1.size a := by
      intro a
      match a with
      | ⟨0, _⟩ => exact ⟨Nat.zero_le _, by show (y 0).val < 0 + 2; omega⟩
      | ⟨1, _⟩ => exact ⟨Nat.zero_le _, by show (y 1).val < 0 + 512; omega⟩
      | ⟨2, _⟩ => exact ⟨Nat.zero_le _, by show (y 2).val < 0 + 8; omega⟩
      | ⟨3, _⟩ => exact ⟨by show 128 ≤ (y 3).val; omega, by show (y 3).val < 128 + 1; omega⟩
    refine (dif_pos hin1).trans ?_
    rw [if_pos hq]
    exact p1 _
  · have hin1 : ¬ ∀ a, (![0, 0, 0, 128] : Fin 4 → ℕ) a ≤ (y a).val ∧ (y a).val < (![0, 0, 0, 128] : Fin 4 → ℕ) a + S2x512x8x1.size a := by
      intro h
      have h' : (y 3).val < 128 + 1 := (h 3).2
      omega
    refine (dif_neg hin1).trans ((dif_pos hin).trans ?_)
    rw [if_neg hq]
    exact p0 _

theorem wp_pad (c : Dev nD) {α : Type} {k : PUnit → Prog (TpuEff nD τ sig (Elt F) Λ₀ .tc) α} {Q : α → sProp 𝕄} :
    iprop(∃ f, vL c ↦{fullShare} f) ⊢ iprop((iprop(∃ f, ⌜goodPad f⌝ ∗ (vL c ↦{fullShare} f)) -∗ wp frame (wpE (defs₀ (F := F)) 𝒱₀ (c : Thread nD τ) none) Set.univ (k ⟨⟩) Q) -∗ wp frame (wpE (defs₀ (F := F)) 𝒱₀ (c : Thread nD τ) none) Set.univ (padP k) Q) := by
  unfold padP
  iintro ⟨%f, H⟩ K0
  iapply (wp_load 𝒱₀ (c : Thread nD τ) none Set.univ (m := vM) (Finset.subset_univ _)) $$ H
  iintro H
  iapply (wp_store 𝒱₀ (c : Thread nD τ) none Set.univ (m := vM) (r := Rect.unit (s := S2x512x8x256) ![0, 0, 0, 128] S2x512x8x128.size inb_S2x512x8x256_S2x512x8x128_0_0_0_128) (Mk := Finset.univ) (S := Finset.univ) (Finset.subset_univ _)) $$ H
  iintro H
  iapply (wp_load 𝒱₀ (c : Thread nD τ) none Set.univ (m := vM) (Finset.subset_univ _)) $$ H
  iintro H
  iapply (wp_store 𝒱₀ (c : Thread nD τ) none Set.univ (m := vM) (r := Rect.unit (s := S2x512x8x256) ![0, 0, 0, 128] S2x512x8x1.size inb_S2x512x8x256_S2x512x8x1_0_0_0_128) (Mk := Finset.univ) (S := Finset.univ) (Finset.subset_univ _)) $$ H
  iintro H
  iapply K0
  iexists _
  isplitr
  · ipureintro; exact pad_put f
  · iexact H

end Cert.KProof
-- ==== Proof.Body.lean ====
module

public import proofs.«01_k».proof.Proof.Pads

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Names the code uses, as the protocol's -/

theorem sem9_0 : ((cc0_scratch9.slice (Rect.unit (s := S3) ![0] S1.size inb_S3_S1_0)).squeeze S_ squeezes_S1_S_).sem = dq 0 0 := by decide
theorem sem9_1 : ((cc0_scratch9.slice (Rect.unit (s := S3) ![1] S1.size inb_S3_S1_1)).squeeze S_ squeezes_S1_S_).sem = dq 0 1 := by decide
theorem sem9_2 : ((cc0_scratch9.slice (Rect.unit (s := S3) ![2] S1.size inb_S3_S1_2)).squeeze S_ squeezes_S1_S_).sem = dq 0 2 := by decide
theorem sem10_0 : ((cc0_scratch10.slice (Rect.unit (s := S3) ![0] S1.size inb_S3_S1_0)).squeeze S_ squeezes_S1_S_).sem = dq 1 0 := by decide
theorem sem10_1 : ((cc0_scratch10.slice (Rect.unit (s := S3) ![1] S1.size inb_S3_S1_1)).squeeze S_ squeezes_S1_S_).sem = dq 1 1 := by decide
theorem sem10_2 : ((cc0_scratch10.slice (Rect.unit (s := S3) ![2] S1.size inb_S3_S1_2)).squeeze S_ squeezes_S1_S_).sem = dq 1 2 := by decide
theorem sem11_0 : ((cc0_scratch11.slice (Rect.unit (s := S3) ![0] S1.size inb_S3_S1_0)).squeeze S_ squeezes_S1_S_).sem = dq 2 0 := by decide
theorem sem11_1 : ((cc0_scratch11.slice (Rect.unit (s := S3) ![1] S1.size inb_S3_S1_1)).squeeze S_ squeezes_S1_S_).sem = dq 2 1 := by decide
theorem sem11_2 : ((cc0_scratch11.slice (Rect.unit (s := S3) ![2] S1.size inb_S3_S1_2)).squeeze S_ squeezes_S1_S_).sem = dq 2 2 := by decide
theorem sem12_0 : ((cc0_scratch12.slice (Rect.unit (s := S3) ![0] S1.size inb_S3_S1_0)).squeeze S_ squeezes_S1_S_).sem = dq 3 0 := by decide
theorem sem12_1 : ((cc0_scratch12.slice (Rect.unit (s := S3) ![1] S1.size inb_S3_S1_1)).squeeze S_ squeezes_S1_S_).sem = dq 3 1 := by decide
theorem sem12_2 : ((cc0_scratch12.slice (Rect.unit (s := S3) ![2] S1.size inb_S3_S1_2)).squeeze S_ squeezes_S1_S_).sem = dq 3 2 := by decide
theorem dev1 (c : Dev nD) : (⟨k0_dev1 c, k0_dev1_lt c⟩ : Dev nD) = fw 0 c := by revert c; decide
theorem dev2 (c : Dev nD) : (⟨k0_dev2 c, k0_dev2_lt c⟩ : Dev nD) = fw 1 c := by revert c; decide
theorem dev3 (c : Dev nD) : (⟨k0_dev3 c, k0_dev3_lt c⟩ : Dev nD) = fw 2 c := by revert c; decide
theorem dev4 (c : Dev nD) : (⟨k0_dev4 c, k0_dev4_lt c⟩ : Dev nD) = fw 0 c := by revert c; decide
theorem dev5 (c : Dev nD) : (⟨k0_dev5 c, k0_dev5_lt c⟩ : Dev nD) = fw 1 c := by revert c; decide
theorem dev6 (c : Dev nD) : (⟨k0_dev6 c, k0_dev6_lt c⟩ : Dev nD) = fw 2 c := by revert c; decide
theorem dev7 (c : Dev nD) : (⟨k0_dev7 c, k0_dev7_lt c⟩ : Dev nD) = fw 0 c := by revert c; decide
theorem dev8 (c : Dev nD) : (⟨k0_dev8 c, k0_dev8_lt c⟩ : Dev nD) = fw 1 c := by revert c; decide
theorem dev9 (c : Dev nD) : (⟨k0_dev9 c, k0_dev9_lt c⟩ : Dev nD) = fw 2 c := by revert c; decide

theorem kSem_lv (s : Fin 2) : lvS (.dma (kS s)) = 0 := by revert s; decide
theorem vSem_lv (s : Fin 2) : lvS (.dma (vS s)) = 0 := by revert s; decide

def bl (c : Dev nD) (i : Fin 3) : GSem nD τ sig × ℕ := (cell (fw i c) (some (3, i)), rsN)
theorem bl_lv (c : Dev nD) (i : Fin 3) : (bl c i).1.1.2 = .tc ∧ 2 < lvS (bl c i).1.2 := ⟨rfl, by unfold bl; dsimp only; rw [lvS_semK]; show 2 < 3; decide⟩
theorem kv_lv {c : Dev nD} {l : List (GSem nD τ sig × ℕ)} (hl : ∀ p ∈ l, p.1.1.2 = .tc ∧ 2 < lvS p.1.2) (q : DmaSem sig) (hq : lvS (.dma q) = 0) :
    (levAts L lv : sProp 𝕄) ⊢ MayWait (c : Thread nD τ) (.dma q) () (ow l) :=
  mayWait c (.dma q) l fun p hp => ⟨(hl p hp).1, by rw [hq]; exact lt_trans (by decide) (hl p hp).2⟩

theorem x_four {ℓ : Loc nD τ sig} {f : Buf (Elt F) ℓ} : (ℓ ↦{fullShare} f : sProp 𝕄) ⊣⊢ iprop((ℓ ↦{qx 0} f) ∗ (ℓ ↦{qx 1} f) ∗ (ℓ ↦{qx 2} f) ∗ ℓ ↦{qxR} f) := by
  have hl : (ℓ ↦{fullShare.left} f : sProp 𝕄) ⊣⊢ iprop((ℓ ↦{qx 0} f) ∗ ℓ ↦{qx 1} f) := pointsTo_share (PosShare.mem_left_op_right fullShare.left)
  have hr : (ℓ ↦{fullShare.right} f : sProp 𝕄) ⊣⊢ iprop((ℓ ↦{qx 2} f) ∗ ℓ ↦{qxR} f) := pointsTo_share (PosShare.mem_left_op_right fullShare.right)
  constructor
  · iintro H
    ihave H := (full_halves (ℓ := ℓ)).1 $$ H
    icases H with ⟨H1, H2⟩
    ihave H1 := hl.1 $$ H1
    ihave H2 := hr.1 $$ H2
    icases H1 with ⟨A, B⟩
    icases H2 with ⟨C, D⟩
    isplitl [A]; · iexact A
    isplitl [B]; · iexact B
    isplitl [C]; · iexact C
    iexact D
  · iintro ⟨A, B, C, D⟩
    iapply (full_halves (ℓ := ℓ)).2
    isplitl [A B]
    · iapply hl.2
      isplitl [A]; · iexact A
      iexact B
    · iapply hr.2
      isplitl [C]; · iexact C
      iexact D

/-! ## The handshake and the sends of the x block -/

theorem bar_lv (c : Dev nD) (l : List (GSem nD τ sig × ℕ)) (hl : ∀ p ∈ l, p.1.1.2 = .tc ∧ 1 < lvS p.1.2) :
    (levAts L lv : sProp 𝕄) ⊢ MayWait (c : Thread nD τ) (semK none) () (ow l) :=
  mayWait c _ l fun p hp => ⟨(hl p hp).1, by rw [lvS_semK]; exact (hl p hp).2⟩

theorem after_lv (c : Dev nD) : ∀ p ∈ ([(cell (fw 0 c) (some (1, 0)), agN), (cell (fw 1 c) (some (1, 1)), agN), (cell (fw 2 c) (some (1, 2)), agN), bl c 0, bl c 1, bl c 2] : List (GSem nD τ sig × ℕ)),
    p.1.1.2 = .tc ∧ 1 < lvS p.1.2 := by
  intro p hp
  simp only [bl, List.mem_cons, List.not_mem_nil, or_false] at hp
  rcases hp with rfl | rfl | rfl | rfl | rfl | rfl <;> exact ⟨rfl, by dsimp only; rw [lvS_semK]; decide⟩

theorem wp_pre (I : Ins F) (K : Dev nD × Kd → ℕ) (c : Dev nD) {α : Type} {k : PUnit → Prog (TpuEff nD τ sig (Elt F) Λ₀ .tc) α} {Q : α → sProp 𝕄} (W : Waits sig Unit) :
    iprop(records (vals I) K ∗ levAts L lv ∗ owes (c : Thread nD τ) (ow (owedL c)) W ∗ (xL c ↦{fullShare} I.X c) ∗ (∃ f, xrL c ↦{fullShare} f) ∗ (∃ f, rcL c ↦{fullShare} f)
      ∗ cred (tallyAt (cell c none) () 3) ∗ atPos ER (cell c none) 0 ∅ 0
      ∗ tokP c (0, 0) ∗ tokP c (0, 1) ∗ tokP c (0, 2) ∗ tokP c (1, 0) ∗ tokP c (1, 1) ∗ tokP c (1, 2) ∗ tokP c (2, 0) ∗ tokP c (2, 1) ∗ tokP c (2, 2)) ⊢
    iprop((iprop((∃ W, owes (c : Thread nD τ) (ow [bl c 0, bl c 1, bl c 2]) W) ∗ (xL c ↦{qxR} I.X c) ∗ cred (tallyAt (cell c (some (0, 0))) () (amt (some (0, 0)))) ∗ cred (tallyAt (cell c (some (0, 1))) () (amt (some (0, 1)))) ∗ cred (tallyAt (cell c (some (0, 2))) () (amt (some (0, 2)))) ∗ (∃ f : Buf (Elt F) (rcL (fw 0 c)), rcL (fw 0 c) ↦[s3s 0]{fullShare} f) ∗ (∃ f : Buf (Elt F) (rcL (fw 1 c)), rcL (fw 1 c) ↦[s3s 1]{fullShare} f) ∗ (∃ f : Buf (Elt F) (rcL (fw 2 c)), rcL (fw 2 c) ↦[s3s 2]{fullShare} f) ∗ semVal (cell c none) 0)
      -∗ wp frame (wpE (defs₀ (F := F)) 𝒱₀ (c : Thread nD τ) none) Set.univ (k ⟨⟩) Q) -∗ wp frame (wpE (defs₀ (F := F)) 𝒱₀ (c : Thread nD τ) none) Set.univ (preP c k) Q) := by
  unfold preP
  iintro ⟨#HR, #HL, HO, Hx, Hxr, Hrc, Hcr, Hat, T00, T01, T02, T10, T11, T12, T20, T21, T22⟩ K0
  ihave Hxr := (split3 (ℓ := xrL c) (xrs 0) (xrs 1) (xrs 2) xrs_cover xrs_d1 (xrs_disj (by decide))) $$ Hxr
  icases Hxr with ⟨X0, X1, X2⟩
  ihave Hrc := (split3 (ℓ := rcL c) (s3s 0) (s3s 1) (s3s 2) s3s_cover s3s_d1 (s3s_disj (by decide))) $$ Hrc
  icases Hrc with ⟨C0, C1, C2⟩
  iapply (wp_bar (vals I) K c 0 (dev1 c) rfl (ow [(cell (fw 1 c) none, 1), (cell (fw 2 c) none, 1), (cell (fw 0 c) (some (1, 0)), agN), (cell (fw 1 c) (some (1, 1)), agN), (cell (fw 2 c) (some (1, 2)), agN), bl c 0, bl c 1, bl c 2]) _) $$ [HO X0 C2 T00]
  · isplitl []; · iexact HR
    isplitl [X0]; · iexact X0
    isplitl [C2]; · iexact C2
    isplitl [HO]; · iexact HO
    iexact T00
  iintro HO
  iapply (wp_bar (vals I) K c 1 (dev2 c) rfl (ow [(cell (fw 2 c) none, 1), (cell (fw 0 c) (some (1, 0)), agN), (cell (fw 1 c) (some (1, 1)), agN), (cell (fw 2 c) (some (1, 2)), agN), bl c 0, bl c 1, bl c 2]) _) $$ [HO X1 C1 T01]
  · isplitl []; · iexact HR
    isplitl [X1]; · iexact X1
    isplitl [C1]; · iexact C1
    isplitl [HO]; · iexact HO
    iexact T01
  iintro HO
  iapply (wp_bar (vals I) K c 2 (dev3 c) rfl (ow [(cell (fw 0 c) (some (1, 0)), agN), (cell (fw 1 c) (some (1, 1)), agN), (cell (fw 2 c) (some (1, 2)), agN), bl c 0, bl c 1, bl c 2]) _) $$ [HO X2 C0 T02]
  · isplitl []; · iexact HR
    isplitl [X2]; · iexact X2
    isplitl [C0]; · iexact C0
    isplitl [HO]; · iexact HO
    iexact T02
  iintro HO
  iapply (wp_barwait (vals I) K c rfl (ow [(cell (fw 0 c) (some (1, 0)), agN), (cell (fw 1 c) (some (1, 1)), agN), (cell (fw 2 c) (some (1, 2)), agN), bl c 0, bl c 1, bl c 2]) _ (bar_lv c _ (after_lv c))) $$ [HO Hcr Hat]
  · isplitl []; · iexact HR
    isplitl []; · iexact HL
    isplitl [Hcr]; · iexact Hcr
    isplitl [HO]; · iexact HO
    iexact Hat
  iintro ⟨⟨%W1, HO⟩, ⟨B0, B1, B2⟩, Hb⟩
  ihave B0 := (Entails.of_eq (payK_none (vals I) c 0)) $$ B0
  ihave B1 := (Entails.of_eq (payK_none (vals I) c 1)) $$ B1
  ihave B2 := (Entails.of_eq (payK_none (vals I) c 2)) $$ B2
  icases B0 with ⟨Y2, R2⟩
  icases B1 with ⟨Y1, R1⟩
  icases B2 with ⟨Y0, R0⟩
  ihave Hx := x_four.1 $$ Hx
  icases Hx with ⟨S0, S1, S2, SR⟩
  iapply (wp_ag (vals I) K c 0 (dev4 c) rfl rfl sem9_0 sem10_0 (ow [(cell (fw 1 c) (some (1, 1)), agN), (cell (fw 2 c) (some (1, 2)), agN), bl c 0, bl c 1, bl c 2]) _) $$ [HO S0 Y0 T10 T20]
  · isplitl []; · iexact HR
    isplitl [S0]; · iexact S0
    isplitl [Y0]; · iexact Y0
    isplitl [HO]; · iexact HO
    isplitl [T10]; · iexact T10
    iexact T20
  iintro ⟨D0, HO⟩
  iapply (wp_ag (vals I) K c 1 (dev5 c) rfl rfl sem9_1 sem10_1 (ow [(cell (fw 2 c) (some (1, 2)), agN), bl c 0, bl c 1, bl c 2]) _) $$ [HO S1 Y1 T11 T21]
  · isplitl []; · iexact HR
    isplitl [S1]; · iexact S1
    isplitl [Y1]; · iexact Y1
    isplitl [HO]; · iexact HO
    isplitl [T11]; · iexact T11
    iexact T21
  iintro ⟨D1, HO⟩
  iapply (wp_ag (vals I) K c 2 (dev6 c) rfl rfl sem9_2 sem10_2 (ow [bl c 0, bl c 1, bl c 2]) _) $$ [HO S2 Y2 T12 T22]
  · isplitl []; · iexact HR
    isplitl [S2]; · iexact S2
    isplitl [Y2]; · iexact Y2
    isplitl [HO]; · iexact HO
    isplitl [T12]; · iexact T12
    iexact T22
  iintro ⟨D2, HO⟩
  iapply K0
  isplitl [HO]; · iexists _; iexact HO
  isplitl [SR]; · iexact SR
  isplitl [D0]; · iexact D0
  isplitl [D1]; · iexact D1
  isplitl [D2]; · iexact D2
  isplitl [R0]; · iexact R0
  isplitl [R1]; · iexact R1
  isplitl [R2]; · iexact R2
  iexact Hb

/-! ## The device's own block, and a block of another device -/

theorem wp_blk0 (I : Ins F) (c : Dev nD) {α : Type} {k : PUnit → Prog (TpuEff nD τ sig (Elt F) Λ₀ .tc) α} {Q : α → sProp 𝕄} (l : List (GSem nD τ sig × ℕ)) (hl : ∀ p ∈ l, p.1.1.2 = .tc ∧ 2 < lvS p.1.2) (W : Waits sig Unit) :
    iprop(levAts L lv ∗ owes (c : Thread nD τ) (ow l) W ∗ (xL c ↦{qxR} I.X c) ∗ (wqL c ↦{fullShare} I.Wq c) ∗ (woL c ↦{fullShare} I.Wo c)
      ∗ (∃ q, qL c ↦{fullShare} q) ∗ (∃ a, aL c ↦{fullShare} a) ∗ (∃ l, lL c ↦{fullShare} l) ∗ (∃ p, p0L c ↦{fullShare} p) ∗ slots c (I.Kc c) (I.Vc c) qkv) ⊢
    iprop((iprop((∃ W, owes (c : Thread nD τ) (ow l) W) ∗ (xL c ↦{qxR} I.X c) ∗ (wqL c ↦{fullShare} I.Wq c) ∗ (woL c ↦{fullShare} I.Wo c)
      ∗ (∃ q, qL c ↦{fullShare} q) ∗ (∃ a, aL c ↦{fullShare} a) ∗ (∃ l, lL c ↦{fullShare} l) ∗ (p0L c ↦{fullShare} partV I c c) ∗ slots c (I.Kc c) (I.Vc c) qkv)
      -∗ wp frame (wpE (defs₀ (F := F)) 𝒱₀ (c : Thread nD τ) none) Set.univ (k ⟨⟩) Q) -∗ wp frame (wpE (defs₀ (F := F)) 𝒱₀ (c : Thread nD τ) none) Set.univ (blk0P c k) Q) := by
  unfold blk0P
  iintro ⟨#HL, HO, Hx, Hwq, Hwo, Hq, Ha, Hl, Hp, HS⟩ K0
  iapply (wp_kv c (I.Kc c) (I.Vc c) qkv) $$ HS
  iintro HS
  iapply (wp_q0 c qxR (I.X c) (I.Wq c)) $$ [Hx Hwq Hq]
  · isplitl [Hx]; · iexact Hx
    isplitl [Hwq]; · iexact Hwq
    iexact Hq
  iintro ⟨Hx, Hwq, Hq⟩
  rw [pay112_eq]
  iapply (wp_core c (I.Kc c) (I.Vc c) (k0_pay126 (xflat (I.X c)) (I.Wq c)) qkv (ow l) (levAts L lv) (fun s => kv_lv hl _ (kSem_lv s)) (fun s => kv_lv hl _ (vSem_lv s)) _) $$ [HO Hq Ha Hl HS]
  · isplitl [HO]; · iexact HO
    isplitl []; · iexact HL
    isplitl [Hq]; · iexact Hq
    isplitl [Ha]; · iexact Ha
    isplitl [Hl]; · iexact Hl
    iexact HS
  iintro ⟨HO, Hq, Ha, Hl, HS⟩
  iapply (wp_p0 c (attn c (I.Kc c) (I.Vc c) (k0_pay126 (xflat (I.X c)) (I.Wq c))) (I.Wo c)) $$ [Ha Hwo Hp]
  · isplitl [Ha]; · iexact Ha
    isplitl [Hwo]; · iexact Hwo
    iexact Hp
  iintro ⟨Ha, Hwo, Hp⟩
  iapply K0
  isplitl [HO]; · iexact HO
  isplitl [Hx]; · iexact Hx
  isplitl [Hwq]; · iexact Hwq
  isplitl [Hwo]; · iexact Hwo
  isplitl [Hq]; · iexists _; iexact Hq
  isplitl [Ha]; · iexists _; iexact Ha
  isplitl [Hl]; · iexact Hl
  isplitl [Hp]; · iexact Hp
  iexact HS

theorem ag_lv (c : Dev nD) (i : Fin 3) (l : List (GSem nD τ sig × ℕ)) (hl : ∀ p ∈ l, p.1.1.2 = .tc ∧ 2 < lvS p.1.2) :
    (levAts L lv : sProp 𝕄) ⊢ MayWait (c : Thread nD τ) (semK (some (1, i))) () (ow l) :=
  mayWait c _ l fun p hp => ⟨(hl p hp).1, by rw [lvS_semK]; exact (hl p hp).2⟩

theorem wp_blk (I : Ins F) (K : Dev nD × Kd → ℕ) (c : Dev nD) {α : Type} {k : PUnit → Prog (TpuEff nD τ sig (Elt F) Λ₀ .tc) α} {Q : α → sProp 𝕄} (i : Fin 3) {n : Dev nD} (hn : n = fw i c) {o2 : Fin 2 → ℕ} (h2 : o2 = ![256 * i.val, 0]) (inb2)
    {o3 : Fin 3 → ℕ} (h3 : o3 = ![i.val, 0, 0]) (inb3) {sA sS sR : DmaSem sig} (hA : sA = dq 1 i.rev) (hS : sS = dq 2 i) (hR : sR = dq 3 i)
    (l : List (GSem nD τ sig × ℕ)) (hl : ∀ p ∈ l, p.1.1.2 = .tc ∧ 2 < lvS p.1.2) (W : Waits sig Unit) :
    iprop(records (vals I) K ∗ levAts L lv ∗ owes (c : Thread nD τ) (ow (bl c i :: l)) W ∗ (wqL c ↦{fullShare} I.Wq c) ∗ (woL c ↦{fullShare} I.Wo c)
      ∗ (∃ q, qL c ↦{fullShare} q) ∗ (∃ a, aL c ↦{fullShare} a) ∗ (∃ l, lL c ↦{fullShare} l) ∗ slots c (I.Kc c) (I.Vc c) qkv
      ∗ cred (tallyAt (cell c (some (1, i.rev))) () (amt (some (1, i.rev)))) ∗ atPos ER (cell c (some (1, i.rev))) 0 ∅ 0 ∗ (∃ f : Buf (Elt F) (roL c), roL c ↦[s3s i]{fullShare} f) ∗ (∃ f : Buf (Elt F) (rcL (fw i c)), rcL (fw i c) ↦[s3s i]{fullShare} f) ∗ tokP c (3, i) ∗ tokP c (4, i)) ⊢
    iprop((iprop((∃ W, owes (c : Thread nD τ) (ow l) W) ∗ (wqL c ↦{fullShare} I.Wq c) ∗ (woL c ↦{fullShare} I.Wo c)
      ∗ (∃ q, qL c ↦{fullShare} q) ∗ (∃ a, aL c ↦{fullShare} a) ∗ (∃ l, lL c ↦{fullShare} l) ∗ slots c (I.Kc c) (I.Vc c) qkv
      ∗ cred (tallyAt (cell c (some (2, i))) () (amt (some (2, i)))) ∗ (∃ f, xrL c ↦[xrs i]{fullShare} f) ∗ semVal (cell c (some (1, i.rev))) 0)
      -∗ wp frame (wpE (defs₀ (F := F)) 𝒱₀ (c : Thread nD τ) none) Set.univ (k ⟨⟩) Q) -∗ wp frame (wpE (defs₀ (F := F)) 𝒱₀ (c : Thread nD τ) none) Set.univ (blkP c n o2 inb2 o3 inb3 sA sS sR k) Q) := by
  unfold blkP
  iintro ⟨#HR, #HL, HO, Hwq, Hwo, Hq, Ha, Hl, HS, Hcr, Hat, Hro, Hrc, T3, T4⟩ K0
  have hl' : ∀ p ∈ bl c i :: l, p.1.1.2 = .tc ∧ 2 < lvS p.1.2 := fun p hp => by
    rcases List.mem_cons.mp hp with rfl | hp
    · exact bl_lv c i
    · exact hl p hp
  iapply (wp_kv c (I.Kc c) (I.Vc c) qkv) $$ HS
  iintro HS
  iapply (wp_dwait (vals I) K c 1 i.rev hA rfl (ow (bl c i :: l)) _ (ag_lv c _ _ hl')) $$ [HO Hcr Hat]
  · isplitl []; · iexact HR
    isplitl []; · iexact HL
    isplitl [Hcr]; · iexact Hcr
    isplitl [HO]; · iexact HO
    iexact Hat
  iintro ⟨⟨%W1, HO⟩, Hx, Hsv⟩
  ihave Hx := (Entails.of_eq (payK_1 (vals I) c i.rev 0)) $$ Hx
  rw [rev_rev]
  iapply (wp_qr c i (xflat (I.X (fw i c))) (I.Wq c) h2 inb2) $$ [Hx Hwq Hq]
  · isplitl [Hx]; · iexact Hx
    isplitl [Hwq]; · iexact Hwq
    iexact Hq
  iintro ⟨Hx, Hwq, Hq⟩
  iapply (wp_core c (I.Kc c) (I.Vc c) (k0_pay126 (xflat (I.X (fw i c))) (I.Wq c)) qkv (ow (bl c i :: l)) (levAts L lv) (fun s => kv_lv hl' _ (kSem_lv s)) (fun s => kv_lv hl' _ (vSem_lv s)) _) $$ [HO Hq Ha Hl HS]
  · isplitl [HO]; · iexact HO
    isplitl []; · iexact HL
    isplitl [Hq]; · iexact Hq
    isplitl [Ha]; · iexact Ha
    isplitl [Hl]; · iexact Hl
    iexact HS
  iintro ⟨⟨%W2, HO⟩, Hq, Ha, Hl, HS⟩
  iapply (wp_ro c i (attn c (I.Kc c) (I.Vc c) (k0_pay126 (xflat (I.X (fw i c))) (I.Wq c))) (I.Wo c) h3 inb3) $$ [Ha Hwo Hro]
  · isplitl [Ha]; · iexact Ha
    isplitl [Hwo]; · iexact Hwo
    iexact Hro
  iintro ⟨Ha, Hwo, Hro⟩
  iapply (wp_rs (vals I) K c i hn h3 h3 hS hR (ow l) _) $$ [HO Hro Hrc T3 T4]
  · isplitl []; · iexact HR
    isplitl [Hro]; · iexact Hro
    isplitl [Hrc]; · iexact Hrc
    isplitl [HO]; · iexact HO
    isplitl [T3]; · iexact T3
    iexact T4
  iintro ⟨D, HO⟩
  iapply K0
  isplitl [HO]; · iexists _; iexact HO
  isplitl [Hwq]; · iexact Hwq
  isplitl [Hwo]; · iexact Hwo
  isplitl [Hq]; · iexists _; iexact Hq
  isplitl [Ha]; · iexists _; iexact Ha
  isplitl [Hl]; · iexact Hl
  isplitl [HS]; · iexact HS
  isplitl [D]; · iexact D
  isplitl [Hx]; · iexists _; iexact Hx
  iexact Hsv

/-! ## The closing waits and the sum -/

theorem end_lv (c : Dev nD) (sm : SemLoc sig) : (levAts L lv : sProp 𝕄) ⊢ MayWait (c : Thread nD τ) sm () (ow []) :=
  mayWait c sm [] fun p hp => absurd hp List.not_mem_nil

theorem wp_waits (I : Ins F) (K : Dev nD × Kd → ℕ) (c : Dev nD) {α : Type} {k : PUnit → Prog (TpuEff nD τ sig (Elt F) Λ₀ .tc) α} {Q : α → sProp 𝕄} (W : Waits sig Unit) :
    iprop(records (vals I) K ∗ levAts L lv ∗ owes (c : Thread nD τ) (ow []) W ∗ cred (tallyAt (cell c (some (0, 0))) () (amt (some (0, 0)))) ∗ cred (tallyAt (cell c (some (0, 1))) () (amt (some (0, 1)))) ∗ cred (tallyAt (cell c (some (0, 2))) () (amt (some (0, 2)))) ∗ cred (tallyAt (cell c (some (2, 0))) () (amt (some (2, 0)))) ∗ cred (tallyAt (cell c (some (2, 1))) () (amt (some (2, 1)))) ∗ cred (tallyAt (cell c (some (2, 2))) () (amt (some (2, 2)))) ∗ cred (tallyAt (cell c (some (3, 0))) () (amt (some (3, 0)))) ∗ cred (tallyAt (cell c (some (3, 1))) () (amt (some (3, 1)))) ∗ cred (tallyAt (cell c (some (3, 2))) () (amt (some (3, 2)))) ∗ atPos ER (cell c (some (0, 0))) 0 ∅ 0 ∗ atPos ER (cell c (some (0, 1))) 0 ∅ 0 ∗ atPos ER (cell c (some (0, 2))) 0 ∅ 0 ∗ atPos ER (cell c (some (2, 0))) 0 ∅ 0 ∗ atPos ER (cell c (some (2, 1))) 0 ∅ 0 ∗ atPos ER (cell c (some (2, 2))) 0 ∅ 0 ∗ atPos ER (cell c (some (3, 0))) 0 ∅ 0 ∗ atPos ER (cell c (some (3, 1))) 0 ∅ 0 ∗ atPos ER (cell c (some (3, 2))) 0 ∅ 0) ⊢
    iprop((iprop((∃ W, owes (c : Thread nD τ) (ow []) W) ∗ (xL c ↦{qx 0} I.X c) ∗ (xL c ↦{qx 1} I.X c) ∗ (xL c ↦{qx 2} I.X c) ∗ (∃ f : Buf (Elt F) (roL c), roL c ↦[s3s 0]{fullShare} f) ∗ (∃ f : Buf (Elt F) (roL c), roL c ↦[s3s 1]{fullShare} f) ∗ (∃ f : Buf (Elt F) (roL c), roL c ↦[s3s 2]{fullShare} f) ∗ (rcL c ↦[s3s 0]{fullShare} s3Of (partV I (fw (Fin.rev 0) c) c)) ∗ (rcL c ↦[s3s 1]{fullShare} s3Of (partV I (fw (Fin.rev 1) c) c)) ∗ (rcL c ↦[s3s 2]{fullShare} s3Of (partV I (fw (Fin.rev 2) c) c))
      ∗ semVal (cell c (some (0, 0))) 0 ∗ semVal (cell c (some (0, 1))) 0 ∗ semVal (cell c (some (0, 2))) 0 ∗ semVal (cell c (some (2, 0))) 0 ∗ semVal (cell c (some (2, 1))) 0 ∗ semVal (cell c (some (2, 2))) 0 ∗ semVal (cell c (some (3, 0))) 0 ∗ semVal (cell c (some (3, 1))) 0 ∗ semVal (cell c (some (3, 2))) 0)
      -∗ wp frame (wpE (defs₀ (F := F)) 𝒱₀ (c : Thread nD τ) none) Set.univ (k ⟨⟩) Q) -∗ wp frame (wpE (defs₀ (F := F)) 𝒱₀ (c : Thread nD τ) none) Set.univ (waitsP k) Q) := by
  unfold waitsP
  iintro ⟨#HR, #HL, HO, D00, D01, D02, D20, D21, D22, D30, D31, D32, A00, A01, A02, A20, A21, A22, A30, A31, A32⟩ K0
  iapply (wp_dwait (vals I) K c 0 0 sem9_0 rfl (ow []) _ (end_lv c _)) $$ [HO D00 A00]
  · isplitl []; · iexact HR
    isplitl []; · iexact HL
    isplitl [D00]; · iexact D00
    isplitl [HO]; · iexact HO
    iexact A00
  iintro ⟨⟨%W00, HO⟩, P00, S00⟩
  iapply (wp_dwait (vals I) K c 0 1 sem9_1 rfl (ow []) _ (end_lv c _)) $$ [HO D01 A01]
  · isplitl []; · iexact HR
    isplitl []; · iexact HL
    isplitl [D01]; · iexact D01
    isplitl [HO]; · iexact HO
    iexact A01
  iintro ⟨⟨%W01, HO⟩, P01, S01⟩
  iapply (wp_dwait (vals I) K c 0 2 sem9_2 rfl (ow []) _ (end_lv c _)) $$ [HO D02 A02]
  · isplitl []; · iexact HR
    isplitl []; · iexact HL
    isplitl [D02]; · iexact D02
    isplitl [HO]; · iexact HO
    iexact A02
  iintro ⟨⟨%W02, HO⟩, P02, S02⟩
  iapply (wp_dwait (vals I) K c 2 0 sem11_0 rfl (ow []) _ (end_lv c _)) $$ [HO D20 A20]
  · isplitl []; · iexact HR
    isplitl []; · iexact HL
    isplitl [D20]; · iexact D20
    isplitl [HO]; · iexact HO
    iexact A20
  iintro ⟨⟨%W20, HO⟩, P20, S20⟩
  iapply (wp_dwait (vals I) K c 2 1 sem11_1 rfl (ow []) _ (end_lv c _)) $$ [HO D21 A21]
  · isplitl []; · iexact HR
    isplitl []; · iexact HL
    isplitl [D21]; · iexact D21
    isplitl [HO]; · iexact HO
    iexact A21
  iintro ⟨⟨%W21, HO⟩, P21, S21⟩
  iapply (wp_dwait (vals I) K c 2 2 sem11_2 rfl (ow []) _ (end_lv c _)) $$ [HO D22 A22]
  · isplitl []; · iexact HR
    isplitl []; · iexact HL
    isplitl [D22]; · iexact D22
    isplitl [HO]; · iexact HO
    iexact A22
  iintro ⟨⟨%W22, HO⟩, P22, S22⟩
  iapply (wp_dwait (vals I) K c 3 0 sem12_0 rfl (ow []) _ (end_lv c _)) $$ [HO D30 A30]
  · isplitl []; · iexact HR
    isplitl []; · iexact HL
    isplitl [D30]; · iexact D30
    isplitl [HO]; · iexact HO
    iexact A30
  iintro ⟨⟨%W30, HO⟩, P30, S30⟩
  iapply (wp_dwait (vals I) K c 3 1 sem12_1 rfl (ow []) _ (end_lv c _)) $$ [HO D31 A31]
  · isplitl []; · iexact HR
    isplitl []; · iexact HL
    isplitl [D31]; · iexact D31
    isplitl [HO]; · iexact HO
    iexact A31
  iintro ⟨⟨%W31, HO⟩, P31, S31⟩
  iapply (wp_dwait (vals I) K c 3 2 sem12_2 rfl (ow []) _ (end_lv c _)) $$ [HO D32 A32]
  · isplitl []; · iexact HR
    isplitl []; · iexact HL
    isplitl [D32]; · iexact D32
    isplitl [HO]; · iexact HO
    iexact A32
  iintro ⟨⟨%W32, HO⟩, P32, S32⟩
  iapply K0
  isplitl [HO]; · iexists _; iexact HO
  isplitl [P00]; · iapply (Entails.of_eq (payK_0 (vals I) c 0 0)) $$ P00
  isplitl [P01]; · iapply (Entails.of_eq (payK_0 (vals I) c 1 0)) $$ P01
  isplitl [P02]; · iapply (Entails.of_eq (payK_0 (vals I) c 2 0)) $$ P02
  isplitl [P20]; · iapply (Entails.of_eq (payK_2 (vals I) c 0 0)) $$ P20
  isplitl [P21]; · iapply (Entails.of_eq (payK_2 (vals I) c 1 0)) $$ P21
  isplitl [P22]; · iapply (Entails.of_eq (payK_2 (vals I) c 2 0)) $$ P22
  isplitl [P30]; · iapply (Entails.of_eq (payK_3 (vals I) c 0 0)) $$ P30
  isplitl [P31]; · iapply (Entails.of_eq (payK_3 (vals I) c 1 0)) $$ P31
  isplitl [P32]; · iapply (Entails.of_eq (payK_3 (vals I) c 2 0)) $$ P32
  isplitl [S00]; · iexact S00
  isplitl [S01]; · iexact S01
  isplitl [S02]; · iexact S02
  isplitl [S20]; · iexact S20
  isplitl [S21]; · iexact S21
  isplitl [S22]; · iexact S22
  isplitl [S30]; · iexact S30
  isplitl [S31]; · iexact S31
  iexact S32

theorem rc_read (i : Fin 3) (x : S256x1024.Idx → Elt F .f32) {o : Fin 3 → ℕ} (ho : o = ![i.val, 0, 0]) (inb) :
    rcM.view.readAt (Elt F) (Rect.unit (s := S3x256x1024) o S1x256x1024.size inb).toLoadRect (s3Of x) = s1Of x := by
  subst ho
  funext y
  show s3Of x _ = _
  unfold s3Of s1Of
  congr 1
  have h : ∀ n : ℕ, 0 + 1 * n = n := fun n => by omega
  show rix (0 + 1 * (y 1).val) (0 + 1 * (y 2).val) = _
  rw [h, h]
theorem rc_sub (i : Fin 3) {o : Fin 3 → ℕ} (ho : o = ![i.val, 0, 0]) (inb) :
    rcM.view.setOn (Rect.unit (s := S3x256x1024) o S1x256x1024.size inb).set ⊆ s3s i := by
  subst ho
  intro y hy
  obtain ⟨x, hx, rfl⟩ := Finset.mem_map.mp hy
  have h0 : i.val ≤ (x 0).val ∧ (x 0).val < i.val + 1 := Rect.mem_set_unit.mp hx 0
  refine Finset.mem_filter.mpr ⟨Finset.mem_univ _, ?_⟩
  show (x 0).val = i.val
  omega

theorem wp_sum (I : Ins F) (c : Dev nD) {α : Type} {k : PUnit → Prog (TpuEff nD τ sig (Elt F) Λ₀ .tc) α} {Q : α → sProp 𝕄} :
    iprop((p0L c ↦{fullShare} partV I c c) ∗ (rcL c ↦[s3s 0]{fullShare} s3Of (partV I (fw (Fin.rev 0) c) c)) ∗ (rcL c ↦[s3s 1]{fullShare} s3Of (partV I (fw (Fin.rev 1) c) c)) ∗ (rcL c ↦[s3s 2]{fullShare} s3Of (partV I (fw (Fin.rev 2) c) c)) ∗ (∃ o, oL c ↦{fullShare} o)) ⊢
    iprop((iprop((∃ p, p0L c ↦{fullShare} p) ∗ (∃ f, rcL c ↦{fullShare} f) ∗ (oL c ↦{fullShare} outV I c))
      -∗ wp frame (wpE (defs₀ (F := F)) 𝒱₀ (c : Thread nD τ) none) Set.univ (k ⟨⟩) Q) -∗ wp frame (wpE (defs₀ (F := F)) 𝒱₀ (c : Thread nD τ) none) Set.univ (sumP k) Q) := by
  unfold sumP
  iintro ⟨Hp, C0, C1, C2, ⟨%o, Ho⟩⟩ K0
  iapply (wp_load 𝒱₀ (c : Thread nD τ) none Set.univ (m := p0M) (Finset.subset_univ _)) $$ Hp
  iintro Hp
  rw [rd_p0]
  iapply (wp_load 𝒱₀ (c : Thread nD τ) none Set.univ (m := rcM) (rc_sub 0 rfl _)) $$ C0
  iintro C0
  rw [rc_read 0 _ rfl]
  iapply (wp_load 𝒱₀ (c : Thread nD τ) none Set.univ (m := rcM) (rc_sub 1 rfl _)) $$ C1
  iintro C1
  rw [rc_read 1 _ rfl]
  iapply (wp_load 𝒱₀ (c : Thread nD τ) none Set.univ (m := rcM) (rc_sub 2 rfl _)) $$ C2
  iintro C2
  rw [rc_read 2 _ rfl]
  iapply (wp_load 𝒱₀ (c : Thread nD τ) none Set.univ (m := oM) (Finset.subset_univ _)) $$ Ho
  iintro Ho
  iapply (wp_store 𝒱₀ (c : Thread nD τ) none Set.univ (m := oM) (r := Rect.unit (s := S1x256x1024) ![0, 0, 0] S1x256x1024.size inb_S1x256x1024_S1x256x1024_0_0_0) (Mk := Finset.univ) (S := Finset.univ) (Finset.subset_univ _)) $$ Ho
  iintro Ho
  rw [wr_o]
  iapply K0
  isplitl [Hp]; · iexists _; iexact Hp
  isplitl [C0 C1 C2]
  · iapply (join3 (ℓ := rcL c) (s3s 0) (s3s 1) (s3s 2) s3s_cover s3s_d1 (s3s_disj (by decide)))
    isplitl [C0]; · iexists _; iexact C0
    isplitl [C1]; · iexists _; iexact C1
    iexists _; iexact C2
  iexact Ho

/-! ## The kernel -/

/-- The scratch buffers, with any contents. -/
def scr (c : Dev nD) : sProp 𝕄 :=
  iprop((∃ f, xrL c ↦{fullShare} f) ∗ (∃ f, qL c ↦{fullShare} f) ∗ (∃ f, kL c ↦{fullShare} f) ∗ (∃ f, vL c ↦{fullShare} f) ∗ (∃ f, lL c ↦{fullShare} f) ∗ (∃ f, aL c ↦{fullShare} f) ∗ (∃ f, p0L c ↦{fullShare} f) ∗ (∃ f, roL c ↦{fullShare} f) ∗ (∃ f, rcL c ↦{fullShare} f))

/-- The duties device `c` pays. -/
def toks (c : Dev nD) : sProp 𝕄 :=
  iprop(tokP c (0, 0) ∗ tokP c (0, 1) ∗ tokP c (0, 2) ∗ tokP c (1, 0) ∗ tokP c (1, 1) ∗ tokP c (1, 2) ∗ tokP c (2, 0) ∗ tokP c (2, 1) ∗ tokP c (2, 2) ∗ tokP c (3, 0) ∗ tokP c (3, 1) ∗ tokP c (3, 2) ∗ tokP c (4, 0) ∗ tokP c (4, 1) ∗ tokP c (4, 2))

/-- Where device `c`'s cells stand at the start. -/
def poss (c : Dev nD) : sProp 𝕄 :=
  iprop(atPos ER (cell c none) 0 ∅ 0 ∗ atPos ER (cell c (some (0, 0))) 0 ∅ 0 ∗ atPos ER (cell c (some (0, 1))) 0 ∅ 0 ∗ atPos ER (cell c (some (0, 2))) 0 ∅ 0 ∗ atPos ER (cell c (some (1, 0))) 0 ∅ 0 ∗ atPos ER (cell c (some (1, 1))) 0 ∅ 0 ∗ atPos ER (cell c (some (1, 2))) 0 ∅ 0 ∗ atPos ER (cell c (some (2, 0))) 0 ∅ 0 ∗ atPos ER (cell c (some (2, 1))) 0 ∅ 0 ∗ atPos ER (cell c (some (2, 2))) 0 ∅ 0 ∗ atPos ER (cell c (some (3, 0))) 0 ∅ 0 ∗ atPos ER (cell c (some (3, 1))) 0 ∅ 0 ∗ atPos ER (cell c (some (3, 2))) 0 ∅ 0)

/-- The credits device `c` is born with. -/
def bornCr (c : Dev nD) : sProp 𝕄 :=
  iprop(cred (tallyAt (cell c none) () 3) ∗ cred (tallyAt (cell c (some (1, 0))) () (amt (some (1, 0)))) ∗ cred (tallyAt (cell c (some (1, 1))) () (amt (some (1, 1)))) ∗ cred (tallyAt (cell c (some (1, 2))) () (amt (some (1, 2)))) ∗ cred (tallyAt (cell c (some (3, 0))) () (amt (some (3, 0)))) ∗ cred (tallyAt (cell c (some (3, 1))) () (amt (some (3, 1)))) ∗ cred (tallyAt (cell c (some (3, 2))) () (amt (some (3, 2)))))

/-- The semaphores of the protocol, spent. -/
def spent (c : Dev nD) : sProp 𝕄 :=
  iprop(semVal (cell c none) 0 ∗ semVal (cell c (some (0, 0))) 0 ∗ semVal (cell c (some (0, 1))) 0 ∗ semVal (cell c (some (0, 2))) 0 ∗ semVal (cell c (some (1, 0))) 0 ∗ semVal (cell c (some (1, 1))) 0 ∗ semVal (cell c (some (1, 2))) 0 ∗ semVal (cell c (some (2, 0))) 0 ∗ semVal (cell c (some (2, 1))) 0 ∗ semVal (cell c (some (2, 2))) 0 ∗ semVal (cell c (some (3, 0))) 0 ∗ semVal (cell c (some (3, 1))) 0 ∗ semVal (cell c (some (3, 2))) 0)

/-- The inputs on the device. -/
def insP (I : Ins F) (c : Dev nD) : sProp 𝕄 :=
  iprop((xL c ↦{fullShare} I.X c) ∗ (wqL c ↦{fullShare} I.Wq c) ∗ (woL c ↦{fullShare} I.Wo c) ∗ (khL c ↦{fullShare} I.Kc c) ∗ (vhL c ↦{fullShare} I.Vc c))

theorem wp_kernel (I : Ins F) (K : Dev nD × Kd → ℕ) (c : Dev nD) (Q : PUnit → sProp 𝕄) (W : Waits sig Unit) :
    iprop(records (vals I) K ∗ levAts L lv ∗ owes (c : Thread nD τ) (ow (owedL c)) W ∗ insP I c ∗ (∃ o, oL c ↦{fullShare} o) ∗ scr c ∗ kvSem c ∗ bornCr c ∗ poss c ∗ toks c) ⊢
    iprop((iprop((∃ W, owes (c : Thread nD τ) (ow []) W) ∗ insP I c ∗ (oL c ↦{fullShare} outV I c) ∗ scr c ∗ kvSem c ∗ spent c) -∗ Q ⟨⟩) -∗ wp frame (wpE (defs₀ (F := F)) 𝒱₀ (c : Thread nD τ) none) Set.univ (kernelP c) Q) := by
  unfold insP scr bornCr poss toks spent kernelP
  iintro ⟨#HR, #HL, HO, ⟨Hx, Hwq, Hwo, HK, HV⟩, Ho, ⟨Hxr, Hq, Hk, Hv, Hl, Ha, Hp, Hro, Hrc⟩, HkvS,
    ⟨Hcb, D10, D11, D12, D30, D31, D32⟩,
    ⟨Hab, A00, A01, A02, A10, A11, A12, A20, A21, A22, A30, A31, A32⟩,
    T00, T01, T02, T10, T11, T12, T20, T21, T22, T30, T31, T32, T40, T41, T42⟩ K0
  iapply (wp_pad c) $$ Hv
  iintro ⟨%fv, %hv, Hv⟩
  iapply (wp_pre I K c W) $$ [HO Hx Hxr Hrc Hcb Hab T00 T01 T02 T10 T11 T12 T20 T21 T22]
  · isplitl []; · iexact HR
    isplitl []; · iexact HL
    isplitl [HO]; · iexact HO
    isplitl [Hx]; · iexact Hx
    isplitl [Hxr]; · iexact Hxr
    isplitl [Hrc]; · iexact Hrc
    isplitl [Hcb]; · iexact Hcb
    isplitl [Hab]; · iexact Hab
    isplitl [T00]; · iexact T00
    isplitl [T01]; · iexact T01
    isplitl [T02]; · iexact T02
    isplitl [T10]; · iexact T10
    isplitl [T11]; · iexact T11
    isplitl [T12]; · iexact T12
    isplitl [T20]; · iexact T20
    isplitl [T21]; · iexact T21
    iexact T22
  iintro ⟨⟨%W1, HO⟩, Hx, D00, D01, D02, R0, R1, R2, Hb⟩
  ihave HS := (slots_intro c (I.Kc c) (I.Vc c) fv hv) $$ [Hv Hk HK HV HkvS]
  · isplitl [Hv]; · iexact Hv
    isplitl [Hk]; · iexact Hk
    isplitl [HK]; · iexact HK
    isplitl [HV]; · iexact HV
    iexact HkvS
  have hl3 : ∀ l : List (Fin 3), ∀ p ∈ l.map (bl c), p.1.1.2 = .tc ∧ 2 < lvS p.1.2 := fun l p hp => by
    obtain ⟨i, -, rfl⟩ := List.mem_map.mp hp
    exact bl_lv c i
  iapply (wp_blk0 I c [bl c 0, bl c 1, bl c 2] (hl3 [0, 1, 2]) _) $$ [HO Hx Hwq Hwo Hq Ha Hl Hp HS]
  · isplitl []; · iexact HL
    isplitl [HO]; · iexact HO
    isplitl [Hx]; · iexact Hx
    isplitl [Hwq]; · iexact Hwq
    isplitl [Hwo]; · iexact Hwo
    isplitl [Hq]; · iexact Hq
    isplitl [Ha]; · iexact Ha
    isplitl [Hl]; · iexact Hl
    isplitl [Hp]; · iexact Hp
    iexact HS
  iintro ⟨⟨%W2, HO⟩, Hx, Hwq, Hwo, Hq, Ha, Hl, Hp, HS⟩
  ihave Hro := (split3 (ℓ := roL c) (s3s 0) (s3s 1) (s3s 2) s3s_cover s3s_d1 (s3s_disj (by decide))) $$ Hro
  icases Hro with ⟨O0, O1, O2⟩
  iapply (wp_blk I K c 0 (dev7 c) rfl _ rfl _ sem10_2 sem11_0 sem12_0 [bl c 1, bl c 2] (hl3 [1, 2]) _) $$ [HO Hwq Hwo Hq Ha Hl HS D12 A12 O0 R0 T30 T40]
  · isplitl []; · iexact HR
    isplitl []; · iexact HL
    isplitl [HO]; · iexact HO
    isplitl [Hwq]; · iexact Hwq
    isplitl [Hwo]; · iexact Hwo
    isplitl [Hq]; · iexact Hq
    isplitl [Ha]; · iexact Ha
    isplitl [Hl]; · iexact Hl
    isplitl [HS]; · iexact HS
    isplitl [D12]; · iexact D12
    isplitl [A12]; · iexact A12
    isplitl [O0]; · iexact O0
    isplitl [R0]; · iexact R0
    isplitl [T30]; · iexact T30
    iexact T40
  iintro ⟨⟨%V0, HO⟩, Hwq, Hwo, Hq, Ha, Hl, HS, D20, X0, S12⟩
  iapply (wp_blk I K c 1 (dev8 c) rfl _ rfl _ sem10_1 sem11_1 sem12_1 [bl c 2] (hl3 [2]) _) $$ [HO Hwq Hwo Hq Ha Hl HS D11 A11 O1 R1 T31 T41]
  · isplitl []; · iexact HR
    isplitl []; · iexact HL
    isplitl [HO]; · iexact HO
    isplitl [Hwq]; · iexact Hwq
    isplitl [Hwo]; · iexact Hwo
    isplitl [Hq]; · iexact Hq
    isplitl [Ha]; · iexact Ha
    isplitl [Hl]; · iexact Hl
    isplitl [HS]; · iexact HS
    isplitl [D11]; · iexact D11
    isplitl [A11]; · iexact A11
    isplitl [O1]; · iexact O1
    isplitl [R1]; · iexact R1
    isplitl [T31]; · iexact T31
    iexact T41
  iintro ⟨⟨%V1, HO⟩, Hwq, Hwo, Hq, Ha, Hl, HS, D21, X1, S11⟩
  iapply (wp_blk I K c 2 (dev9 c) rfl _ rfl _ sem10_0 sem11_2 sem12_2 [] (hl3 []) _) $$ [HO Hwq Hwo Hq Ha Hl HS D10 A10 O2 R2 T32 T42]
  · isplitl []; · iexact HR
    isplitl []; · iexact HL
    isplitl [HO]; · iexact HO
    isplitl [Hwq]; · iexact Hwq
    isplitl [Hwo]; · iexact Hwo
    isplitl [Hq]; · iexact Hq
    isplitl [Ha]; · iexact Ha
    isplitl [Hl]; · iexact Hl
    isplitl [HS]; · iexact HS
    isplitl [D10]; · iexact D10
    isplitl [A10]; · iexact A10
    isplitl [O2]; · iexact O2
    isplitl [R2]; · iexact R2
    isplitl [T32]; · iexact T32
    iexact T42
  iintro ⟨⟨%V2, HO⟩, Hwq, Hwo, Hq, Ha, Hl, HS, D22, X2, S10⟩
  iapply (wp_waits I K c _) $$ [HO D00 D01 D02 D20 D21 D22 D30 D31 D32 A00 A01 A02 A20 A21 A22 A30 A31 A32]
  · isplitl []; · iexact HR
    isplitl []; · iexact HL
    isplitl [HO]; · iexact HO
    isplitl [D00]; · iexact D00
    isplitl [D01]; · iexact D01
    isplitl [D02]; · iexact D02
    isplitl [D20]; · iexact D20
    isplitl [D21]; · iexact D21
    isplitl [D22]; · iexact D22
    isplitl [D30]; · iexact D30
    isplitl [D31]; · iexact D31
    isplitl [D32]; · iexact D32
    isplitl [A00]; · iexact A00
    isplitl [A01]; · iexact A01
    isplitl [A02]; · iexact A02
    isplitl [A20]; · iexact A20
    isplitl [A21]; · iexact A21
    isplitl [A22]; · iexact A22
    isplitl [A30]; · iexact A30
    isplitl [A31]; · iexact A31
    iexact A32
  iintro ⟨⟨%W3, HO⟩, Y0, Y1, Y2, O0, O1, O2, C0, C1, C2, S00, S01, S02, S20, S21, S22, S30, S31, S32⟩
  iapply (wp_sum I c) $$ [Hp C0 C1 C2 Ho]
  · isplitl [Hp]; · iexact Hp
    isplitl [C0]; · iexact C0
    isplitl [C1]; · iexact C1
    isplitl [C2]; · iexact C2
    iexact Ho
  iintro ⟨Hp, Hrc, Ho⟩
  ihave HS := (slots_exit c (I.Kc c) (I.Vc c)) $$ HS
  icases HS with ⟨Hv, Hk, HK, HV, HkvS⟩
  rw [wp_ret]
  imodintro
  iapply K0
  isplitl [HO]; · iexists _; iexact HO
  isplitl [Hx Hwq Hwo HK HV Y0 Y1 Y2]
  · isplitl [Hx Y0 Y1 Y2]
    · iapply (x_four (ℓ := xL c)).2
      isplitl [Y0]; · iexact Y0
      isplitl [Y1]; · iexact Y1
      isplitl [Y2]; · iexact Y2
      iexact Hx
    isplitl [Hwq]; · iexact Hwq
    isplitl [Hwo]; · iexact Hwo
    isplitl [HK]; · iexact HK
    iexact HV
  isplitl [Ho]; · iexact Ho
  isplitl [X0 X1 X2 Hq Hk Hv Hl Ha Hp O0 O1 O2 Hrc]
  · isplitl [X0 X1 X2]
    · iapply (join3 (ℓ := xrL c) (xrs 0) (xrs 1) (xrs 2) xrs_cover xrs_d1 (xrs_disj (by decide)))
      isplitl [X0]; · iexact X0
      isplitl [X1]; · iexact X1
      iexact X2
    isplitl [Hq]; · iexact Hq
    isplitl [Hk]; · iexact Hk
    isplitl [Hv]; · iexact Hv
    isplitl [Hl]; · iexact Hl
    isplitl [Ha]; · iexact Ha
    isplitl [Hp]; · iexact Hp
    isplitl [O0 O1 O2]
    · iapply (join3 (ℓ := roL c) (s3s 0) (s3s 1) (s3s 2) s3s_cover s3s_d1 (s3s_disj (by decide)))
      isplitl [O0]; · iexact O0
      isplitl [O1]; · iexact O1
      iexact O2
    iexact Hrc
  isplitl [HkvS]; · iexact HkvS
  isplitl [Hb]; · iexact Hb
  isplitl [S00]; · iexact S00
  isplitl [S01]; · iexact S01
  isplitl [S02]; · iexact S02
  isplitl [S10]; · iexact S10
  isplitl [S11]; · iexact S11
  isplitl [S12]; · iexact S12
  isplitl [S20]; · iexact S20
  isplitl [S21]; · iexact S21
  isplitl [S22]; · iexact S22
  isplitl [S30]; · iexact S30
  isplitl [S31]; · iexact S31
  iexact S32

end Cert.KProof
-- ==== Proof.Start.lean ====
module

public import proofs.«01_k».proof.Proof.Body
public import Idealize.ShloMosaic.Lib.Pipeline.Launch
public import Idealize.ShloMosaic.Lib.Pipeline.Kit
public import Idealize.ShloMosaic.Lib.Quiescent

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores -/

abbrev osem (k : Fin 16) : SemLoc sig := .dma ⟨4 + k.val, by have := k.isLt; show _ < 20; omega⟩

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (cell c (some (0, 0))) 0 ∗ semVal (cell c (some (0, 1))) 0 ∗ semVal (cell c (some (0, 2))) 0 ∗ semVal (cell c (some (1, 0))) 0 ∗ semVal (cell c (some (1, 1))) 0 ∗ semVal (cell c (some (1, 2))) 0 ∗ semVal (cell c (some (2, 0))) 0 ∗ semVal (cell c (some (2, 1))) 0 ∗ semVal (cell c (some (2, 2))) 0 ∗ semVal (cell c (some (3, 0))) 0 ∗ semVal (cell c (some (3, 1))) 0 ∗ semVal (cell c (some (3, 2))) 0 ∗ kvSem c) := by
  rw [Pipeline.ownSems0_eq_of_list c osem [0, 1, 2, 3, 4, 5, 6, 7, 8, 9, 10, 11, 12, 13, 14, 15] (by decide) (by decide)]; rfl
theorem unscopedSems0_eq (c : Dev nD) : (unscopedSems0 c : sProp 𝕄) = semVal (cell c none) 0 := by
  unfold unscopedSems0; rw [bigSep_eq_bigSepL_of_eq [SemLoc.reg barS] (by decide) (by decide)]; rfl

theorem bigSep_kd (Φ : Kd → sProp 𝕄) : bigSep Finset.univ Φ = iprop(Φ (none) ∗ Φ (some (0, 0)) ∗ Φ (some (0, 1)) ∗ Φ (some (0, 2)) ∗ Φ (some (1, 0)) ∗ Φ (some (1, 1)) ∗ Φ (some (1, 2)) ∗ Φ (some (2, 0)) ∗ Φ (some (2, 1)) ∗ Φ (some (2, 2)) ∗ Φ (some (3, 0)) ∗ Φ (some (3, 1)) ∗ Φ (some (3, 2))) :=
  bigSep_univ_eq_bigSepL [none, some (0, 0), some (0, 1), some (0, 2), some (1, 0), some (1, 1), some (1, 2), some (2, 0), some (2, 1), some (2, 2), some (3, 0), some (3, 1), some (3, 2)] (by decide) (by decide) Φ
theorem bigSep_duty (Φ : Fin 5 × Fin 3 → sProp 𝕄) : bigSep Finset.univ Φ = iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2) ∗ Φ (4, 0) ∗ Φ (4, 1) ∗ Φ (4, 2)) :=
  bigSep_univ_eq_bigSepL [(0, 0), (0, 1), (0, 2), (1, 0), (1, 1), (1, 2), (2, 0), (2, 1), (2, 2), (3, 0), (3, 1), (3, 2), (4, 0), (4, 1), (4, 2)] (by decide) (by decide) Φ

theorem sems_in (c : Dev nD) :
    iprop(Pipeline.ownSems0 (Ix := Unit) (Name := ℕ) (U := UU) (Lvl := ℕ) (Val := Elt F) (τ := τ) osem c ∗ unscopedSems0 c)
      ⊢ (iprop((bigSep Finset.univ fun k : Kd => semVal (cell c k) 0) ∗ kvSem c) : sProp 𝕄) := by
  rw [ownSems0_eq, unscopedSems0_eq, bigSep_kd]
  iintro ⟨⟨S00, S01, S02, S10, S11, S12, S20, S21, S22, S30, S31, S32, H⟩, HB⟩
  isplitl [S00 S01 S02 S10 S11 S12 S20 S21 S22 S30 S31 S32 HB]
  · isplitl [HB]; · iexact HB
    isplitl [S00]; · iexact S00
    isplitl [S01]; · iexact S01
    isplitl [S02]; · iexact S02
    isplitl [S10]; · iexact S10
    isplitl [S11]; · iexact S11
    isplitl [S12]; · iexact S12
    isplitl [S20]; · iexact S20
    isplitl [S21]; · iexact S21
    isplitl [S22]; · iexact S22
    isplitl [S30]; · iexact S30
    isplitl [S31]; · iexact S31
    iexact S32
  iexact H

theorem sems_out (c : Dev nD) :
    (iprop(spent c ∗ kvSem c) : sProp 𝕄) ⊢ iprop(unscopedSems0 c ∗ Pipeline.ownSems0 (Ix := Unit) (Name := ℕ) (U := UU) (Lvl := ℕ) (Val := Elt F) (τ := τ) osem c) := by
  rw [ownSems0_eq, unscopedSems0_eq]
  unfold spent
  iintro ⟨⟨HB, S00, S01, S02, S10, S11, S12, S20, S21, S22, S30, S31, S32⟩, H⟩
  isplitl [HB]; · iexact HB
  isplitl [S00]; · iexact S00
  isplitl [S01]; · iexact S01
  isplitl [S02]; · iexact S02
  isplitl [S10]; · iexact S10
  isplitl [S11]; · iexact S11
  isplitl [S12]; · iexact S12
  isplitl [S20]; · iexact S20
  isplitl [S21]; · iexact S21
  isplitl [S22]; · iexact S22
  isplitl [S30]; · iexact S30
  isplitl [S31]; · iexact S31
  isplitl [S32]; · iexact S32
  iexact H

/-! ## The cells and the tokens at the launch -/

theorem cell_inj {p p' : Dev nD × Kd} (h : cell p.1 p.2 = cell p'.1 p'.2) : p = p' := by
  have h1 : p.1 = p'.1 := congrArg (fun g : GSem nD τ sig => g.1.1) h
  have h2 : p.2 = p'.2 := semK_injective (congrArg Prod.snd h)
  exact Prod.ext h1 h2
def kcells : Finset (GSem nD τ sig) := Finset.univ.map ⟨fun p : Dev nD × Kd => cell p.1 p.2, fun _ _ => cell_inj⟩

/-- The cell's kind and the duty of each token of a device's own cells. -/
def tokK : Fin 5 × Fin 3 → Kd × Fin 3
  | (0, i) => (none, i)
  | (1, i) => (some (0, i), 0)
  | (2, i) => (some (1, i), 0)
  | (3, i) => (some (2, i), 0)
  | (4, i) => (some (3, i), 0)
theorem tokK_inj : Function.Injective tokK := by decide
abbrev tokOf (p : Dev nD × (Fin 5 × Fin 3)) : GSem nD τ sig × ℕ × Fin 3 := (cell p.1 (tokK p.2).1, 0, (tokK p.2).2)
theorem tokOf_inj : Function.Injective tokOf := by
  intro p p' h
  have h1 : cell p.1 (tokK p.2).1 = cell p'.1 (tokK p'.2).1 := congrArg Prod.fst h
  have h2 : (tokK p.2).2 = (tokK p'.2).2 := congrArg (fun x : GSem nD τ sig × ℕ × Fin 3 => x.2.2) h
  have h3 := cell_inj (p := (p.1, (tokK p.2).1)) (p' := (p'.1, (tokK p'.2).1)) h1
  exact Prod.ext (Prod.mk.inj h3).1 (tokK_inj (Prod.ext (Prod.mk.inj h3).2 h2))
def ktoks : Finset (GSem nD τ sig × ℕ × Fin 3) := Finset.univ.map ⟨tokOf, tokOf_inj⟩

/-- Whether the payer of a token is another device. -/
def far (f : Fin 5) : Bool := f.val % 2 == 0

/-- The device whose cell a payer's token belongs to. -/
def deal : Dev nD × (Fin 5 × Fin 3) ≃ Dev nD × (Fin 5 × Fin 3) where
  toFun p := (cond (far p.2.1) (fw p.2.2 p.1) p.1, p.2)
  invFun p := (cond (far p.2.1) (fw p.2.2.rev p.1) p.1, p.2)
  left_inv p := by
    dsimp only
    cases far p.2.1
    · rfl
    · exact Prod.ext (fw_rev _ _) rfl
  right_inv p := by
    dsimp only
    cases far p.2.1
    · rfl
    · exact Prod.ext (rev_fw _ _) rfl

theorem deal_far (c : Dev nD) (f : Fin 5) (i : Fin 3) (h : far f = true) : deal (c, (f, i)) = (fw i c, (f, i)) := by
  show (cond (far f) (fw i c) c, (f, i)) = _
  rw [h]; rfl
theorem deal_near (c : Dev nD) (f : Fin 5) (i : Fin 3) (h : far f = false) : deal (c, (f, i)) = (c, (f, i)) := by
  show (cond (far f) (fw i c) c, (f, i)) = _
  rw [h]; rfl
theorem deal_tok (c : Dev nD) : ∀ j : Fin 5 × Fin 3, tokOf (deal (c, j)) = payCell c j
  | (0, i) => by rw [deal_far c 0 i rfl]; rfl
  | (1, i) => by rw [deal_near c 1 i rfl]; rfl
  | (2, i) => by rw [deal_far c 2 i rfl]; rfl
  | (3, i) => by rw [deal_near c 3 i rfl]; rfl
  | (4, i) => by rw [deal_far c 4 i rfl]; rfl

def u₀ : UU :=
  (initOf (Pipeline.cells cfgs cellOf_inj) (Pipeline.launchToks cfgs cellOf_inj), (initOf kcells ktoks, 1))

section Ghost
variable (v : Vals F)

def G (c : Dev nD) : sProp 𝕄 :=
  iprop((bigSep Finset.univ fun k : Kd => roundState ER (Rd v) (cell c k) 0)
    ∗ (bigSep Finset.univ fun k : Kd => iprop(atPos ER (cell c k) 0 ∅ 0 ∗ reached ER (cell c k) 0)) ∗ bigSep Finset.univ fun j => tokP c j)

/-- What each device holds of the protocol at the start. -/
def G' (c : Dev nD) : sProp 𝕄 := iprop(∃ K, records v K ∗ poss c ∗ toks c ∗ kvSem c)

theorem fund_ring : BI.own (ER (initOf kcells ktoks)) ⊢ (|==> bigSep Finset.univ (G v) : sProp 𝕄) := by
  have hX (Φ : GSem nD τ sig → sProp 𝕄) : bigSep kcells Φ = bigSep Finset.univ fun c : Dev nD => bigSep Finset.univ fun k : Kd => Φ (cell c k) := by
    unfold kcells; rw [bigSep_map, bigSep_univ_prod]; rfl
  have hT : bigSep ktoks (fun x => (dutyTok ER x.1 x.2.1 x.2.2 : sProp 𝕄)) = bigSep Finset.univ fun c : Dev nD => bigSep Finset.univ fun j => tokP c j := by
    unfold ktoks
    rw [bigSep_map]
    rw [bigSep_univ_equiv deal]
    rw [bigSep_univ_prod]
    exact bigSep_congr fun c _ => bigSep_congr fun j _ => by
      show (dutyTok ER (tokOf (deal (c, j))).1 (tokOf (deal (c, j))).2.1 (tokOf (deal (c, j))).2.2 : sProp 𝕄) = _
      rw [deal_tok]
  iintro HX
  imod (Rounds.fund ER (Rd v) kcells ktoks) $$ HX with ⟨Hst, Hr, Hat, Htok⟩
  imodintro
  ihave Hst' := (Entails.of_eq (hX fun g => roundState ER (Rd v) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G v c)
      ⊢ |={Set.univ}=> iprop((bigSep Finset.univ fun k => iprop(∃ κ : ℕ, cellInv ER (Rd v) κ (cell c k)))
          ∗ (bigSep Finset.univ fun k => iprop(atPos ER (cell c k) 0 ∅ 0 ∗ reached ER (cell c k) 0)) ∗ (bigSep Finset.univ fun j => tokP c j) ∗ kvSem c) := by
  unfold G
  iintro ⟨Hos, Hus, Hst, Hat, Htok⟩
  ihave Hv := (sems_in (F := F) c) $$ [Hos Hus]
  · isplitl [Hos] <;> iassumption
  icases Hv with ⟨Hv, Hkv⟩
  imod (show iprop((bigSep Finset.univ fun k : Kd => semVal (cell c k) 0) ∗ bigSep Finset.univ fun k : Kd => roundState ER (Rd v) (cell c k) 0)
      ⊢ (|={Set.univ}=> bigSep Finset.univ fun k => iprop(∃ κ : ℕ, cellInv ER (Rd v) κ (cell c k)) : sProp 𝕄) from by
        rw [← bigSep_sep']
        exact (bigSep_mono fun k _ => (Rounds.body_intro ER (Rd v) (cell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hkv

theorem ghost_intro (K : Dev nD × Kd → ℕ) (c : Dev nD) :
    iprop(records v K ∗ (bigSep Finset.univ fun k : Kd => atPos ER (cell c k) 0 ∅ 0) ∗ (bigSep Finset.univ fun j => tokP c j) ∗ kvSem c) ⊢ G' v c := by
  rw [bigSep_kd, bigSep_duty]
  unfold G' poss toks
  iintro ⟨HR, Hp, Ht, Hk⟩
  iexists K
  isplitl [HR]; · iexact HR
  isplitl [Hp]; · iexact Hp
  isplitl [Ht]; · iexact Ht
  iexact Hk

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd v) κ (cell c k)))
          ∗ (bigSep Finset.univ fun k => iprop(atPos ER (cell c k) 0 ∅ 0 ∗ reached ER (cell c k) 0)) ∗ (bigSep Finset.univ fun j => tokP c j) ∗ kvSem c) : sProp 𝕄)
      ⊢ bigSep Finset.univ (G' v) := by
  rw [bigSep_sep', bigSep_sep', ← bigSep_univ_prod (fun p : Dev nD × Kd => iprop(∃ κ : ℕ, cellInv ER (Rd v) κ (cell p.1 p.2))),
    bigSep_congr (s := Finset.univ) (fun (c : Dev nD) _ => bigSep_sep' Finset.univ (fun k : Kd => (atPos ER (cell c k) 0 ∅ 0 : sProp 𝕄)) (fun k => reached ER (cell c k) 0)),
    bigSep_sep', ← bigSep_univ_prod (fun p : Dev nD × Kd => (reached ER (cell p.1 p.2) 0 : sProp 𝕄))]
  iintro ⟨HI, ⟨Hat, #HR⟩, Htok⟩
  ihave HK := (BI.bigSep_exists_pi Finset.univ (fun (p : Dev nD × Kd) (κ : ℕ) => (cellInv ER (Rd v) κ (cell p.1 p.2) : sProp 𝕄))) $$ HI
  icases HK with ⟨%K, #HI⟩
  iapply (bigSep_beside (R := records v K) fun c _ => ghost_intro v K c)
  isplitr
  · unfold records
    rw [bigSep_sep']
    isplitl; · iexact HI
    iexact HR
  · iapply (Entails.of_eq (bigSep_sep' Finset.univ (fun c : Dev nD => bigSep Finset.univ fun k : Kd => (atPos ER (cell c k) 0 ∅ 0 : sProp 𝕄))
      (fun c => iprop((bigSep Finset.univ fun j => tokP c j) ∗ kvSem c))).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G v c) : sProp 𝕄)
    ⊢ |={Set.univ}=> bigSep Finset.univ (G' v) :=
  ((bigSep_mono fun c _ => core_alloc v c).trans (bigSep_fupd _ _)).trans (BI.fupd_mono (regroup v))

end Ghost

/-! ## The launch credit -/

theorem ow_apply : ∀ (l : List (GSem nD τ sig × ℕ)) (g : GSem nD τ sig), ow l g () = (l.map fun p => if g = p.1 then p.2 else 0).sum
  | [], g => rfl
  | (g', n) :: l, g => by
    unfold ow
    rw [Pi.add_apply, Finsupp.add_apply, tallyAt_apply, ow_apply l g, List.map_cons, List.sum_cons, Nat.add_comm]
    congr 1
    by_cases h : g = g'
    · rw [if_pos ⟨h, rfl⟩, if_pos h]
    · rw [if_neg (fun h' => h h'.1), if_neg h]

theorem cell_eq_fw {c d : Dev nD} {k k' : Kd} {i : Fin 3} : Iff (cell c k = cell (fw i d) k') (d = fw i.rev c ∧ k = k') := by
  constructor
  · intro h
    have h' := cell_inj (p := (c, k)) (p' := (fw i d, k')) h
    have h1 : c = fw i d := congrArg Prod.fst h'
    exact ⟨by rw [h1, fw_rev], congrArg Prod.snd h'⟩
  · rintro ⟨rfl, rfl⟩
    rw [rev_fw]

theorem sum_one (c : Dev nD) (k k' : Kd) (i : Fin 3) (n : ℕ) :
    (∑ d : Dev nD, if cell c k = cell (fw i d) k' then n else 0) = if k = k' then n else 0 := by
  rw [Finset.sum_congr rfl fun d _ => if_congr (cell_eq_fw (c := c) (d := d) (k := k) (k' := k') (i := i)) rfl rfl]
  by_cases h : k = k'
  · rw [if_pos h, Finset.sum_congr rfl fun d _ => if_congr (and_iff_left h) rfl rfl, Finset.sum_ite_eq' Finset.univ (fw i.rev c) fun _ => n, if_pos (Finset.mem_univ _)]
  · rw [if_neg h]
    exact Finset.sum_eq_zero fun d _ => if_neg fun h' => h h'.2

/-- All that is owed to a cell. -/
def bornN : Kd → ℕ
  | none => 3
  | some (f, i) => if f.val % 2 = 1 then amt (some (f, i)) else 0

theorem sum_owed (c : Dev nD) (k : Kd) : (∑ d : Dev nD, ow (owedL d) (cell c k) ()) = bornN k := by
  rw [Finset.sum_congr rfl fun d _ => ow_apply (owedL d) (cell c k)]
  simp only [owedL, List.map_cons, List.map_nil, List.sum_cons, List.sum_nil, Finset.sum_add_distrib, sum_one]
  rcases k with _ | ⟨f, i⟩
  · rfl
  · fin_cases f <;> fin_cases i <;> simp [bornN, amt]

theorem launch_at (c : Dev nD) (k : Kd) :
    tallyOn (cell c k) (launchCredit (Pipeline.owing fun d => ow (owedL d)) 0 (cell c k)) = (tallyAt (cell c k) () (bornN k) : CellTallies nD τ sig Unit) := by
  unfold tallyAt; refine congrArg _ (Finsupp.ext fun u => ?_); cases u
  rw [Pipeline.launchCredit_owing, Finsupp.single_eq_same, sum_owed]

theorem creds (c : Dev nD) : (Pipeline.launchCred (fun d => ow (owedL d)) c : sProp 𝕄) ⊢ bornCr c := by
  unfold Pipeline.launchCred bornCr
  refine (bigSep_subset (Finset.subset_univ (Finset.univ.map ⟨semK, semK_injective⟩))).trans ?_
  rw [bigSep_map, bigSep_kd]
  show (_ : sProp 𝕄) ⊢ _
  iintro ⟨HB, S00, S01, S02, S10, S11, S12, S20, S21, S22, S30, S31, S32⟩
  isplitl [HB]; · iapply (Entails.of_eq (congrArg cred (launch_at c none))) $$ HB
  isplitl [S10]; · iapply (Entails.of_eq (congrArg cred (launch_at c (some (1, 0))))) $$ S10
  isplitl [S11]; · iapply (Entails.of_eq (congrArg cred (launch_at c (some (1, 1))))) $$ S11
  isplitl [S12]; · iapply (Entails.of_eq (congrArg cred (launch_at c (some (1, 2))))) $$ S12
  isplitl [S30]; · iapply (Entails.of_eq (congrArg cred (launch_at c (some (3, 0))))) $$ S30
  isplitl [S31]; · iapply (Entails.of_eq (congrArg cred (launch_at c (some (3, 1))))) $$ S31
  iapply (Entails.of_eq (congrArg cred (launch_at c (some (3, 2))))) $$ S32

end Cert.KProof
-- ==== Proof.Run.lean ====
module

public import proofs.«01_k».proof.Proof.Start
public import Idealize.ShloMosaic.Lib.Pipeline.CollectiveSegs

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

def s₀ : MemSt nD τ sig (Elt F) := ⟨m, fun _ => 0, ρ⟩

/-- The inputs of the run: the staged blocks of `x`, `Wq` and `Wo`, and the key and value arrays. -/
def ins : Ins F where
  X c := (win0_0.blk (0 : Fin 1)).view.read (Elt F) ((s₀ m ρ).mem ((c : Thread nD τ).loc main_arg0))
  Wq c := (win0_1.blk (0 : Fin 1)).view.read (Elt F) ((s₀ m ρ).mem ((c : Thread nD τ).loc main_arg1))
  Wo c := (win0_2.blk (0 : Fin 1)).view.read (Elt F) ((s₀ m ρ).mem ((c : Thread nD τ).loc main_arg2))
  Kc c := m (khL c)
  Vc c := m (vhL c)

/-- What a device enters with beside its scratch. -/
def start (c : Dev nD) : sProp 𝕄 :=
  iprop(G' (vals (ins m ρ)) c ∗ bornCr c ∗ levAts L lv ∗ (khL c ↦{fullShare} (ins m ρ).Kc c) ∗ (vhL c ↦{fullShare} (ins m ρ).Vc c))
def Φ₀ (c : Dev nD) : sProp 𝕄 := iprop(start m ρ c ∗ scr c)
def Φ₁ (c : Dev nD) : sProp 𝕄 :=
  iprop(scr c ∗ kvSem c ∗ spent c ∗ (khL c ↦{fullShare} (ins m ρ).Kc c) ∗ (vhL c ↦{fullShare} (ins m ρ).Vc c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ).X c
    | ⟨1, _⟩ => (ins m ρ).Wq c
    | ⟨2, _⟩ => (ins m ρ).Wo c
    | ⟨3, _⟩ => outV (ins m ρ) c
  Φ t := match t with
    | ⟨0, _⟩ => Φ₀ m ρ c
    | ⟨_ + 1, _⟩ => Φ₁ m ρ c
  q _ := fullShare
  owed t := match t with
    | ⟨0, _⟩ => ow (owedL c)
    | ⟨_ + 1, _⟩ => 0

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body at the one grid point -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ m ρ c ∗ (dats m ρ 0 c).owesAt () t₀.succ ∗ stg c cc0_stg0_0 ((ins m ρ).X c) ∗ stg c cc0_stg1_0 ((ins m ρ).Wq c)
    ∗ stg c cc0_stg2_0 ((ins m ρ).Wo c) ∗ stg c cc0_stg3_0 (outV (ins m ρ) c))

set_option maxRecDepth 4000 in
theorem body_ok (c : Dev nD) :
    bodyPre m ρ c ⊢ wp frame (wpE (defs₀ (F := F)) 𝒱₀ (c : Thread nD τ) none) Set.univ (.op .deviceId kernelP) (fun _ => bodyPost m ρ c) := by
  rw [wp_deviceId]
  unfold bodyPre Φ₀ start G'
  iintro ⟨⟨⟨⟨%K, HR, Hp, Ht, Hkv⟩, Hcr, Hlev, HKh, HVh⟩, Hscr⟩, Ho, ⟨%d0, %g0, %hg0, Hx⟩, ⟨%d1, %g1, %hg1, Hwq⟩, ⟨%d2, %g2, %hg2, Hwo⟩, ⟨%d3, %g3, %hg3, Hout⟩⟩
  have h0 : g0 = (ins m ρ).X c := by rw [hg0]; unfold Dat.before; rw [if_pos (fetch0_0 t₀)]; rfl
  have h1 : g1 = (ins m ρ).Wq c := by rw [hg1]; unfold Dat.before; rw [if_pos (fetch0_1 t₀)]; rfl
  have h2 : g2 = (ins m ρ).Wo c := by rw [hg2]; unfold Dat.before; rw [if_pos (fetch0_2 t₀)]; rfl
  subst h0 h1 h2
  unfold Dat.owesAt Pipeline.owesWithin
  icases Ho with ⟨%W, %hW, HO⟩
  rw [show (dats m ρ 0 c).owed t₀.castSucc = ow (owedL c) from rfl]
  iapply (wp_kernel (ins m ρ) K c (fun _ => bodyPost m ρ c) W) $$ [HR Hlev HO Hx Hwq Hwo HKh HVh Hout Hscr Hkv Hcr Hp Ht]
  · isplitl [HR]; · iexact HR
    isplitl [Hlev]; · iexact Hlev
    isplitl [HO]; · iexact HO
    isplitl [Hx Hwq Hwo HKh HVh]
    · unfold insP
      isplitl [Hx]; · iexact Hx
      isplitl [Hwq]; · iexact Hwq
      isplitl [Hwo]; · iexact Hwo
      isplitl [HKh]; · iexact HKh
      iexact HVh
    isplitl [Hout]; · iexists g3; iexact Hout
    isplitl [Hscr]; · iexact Hscr
    isplitl [Hkv]; · iexact Hkv
    isplitl [Hcr]; · iexact Hcr
    isplitl [Hp]; · iexact Hp
    iexact Ht
  unfold insP bodyPost Φ₁ Dat.owesAt Pipeline.owesWithin
  rw [show (dats m ρ 0 c).owed t₀.succ = 0 from rfl]
  iintro ⟨⟨%W', HO⟩, ⟨Hx, Hwq, Hwo, HKh, HVh⟩, Hout, Hscr, Hkv, Hsp⟩
  isplitl [Hscr Hkv Hsp HKh HVh]
  · isplitl [Hscr]; · iexact Hscr
    isplitl [Hkv]; · iexact Hkv
    isplitl [Hsp]; · iexact Hsp
    isplitl [HKh]; · iexact HKh
    iexact HVh
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 8000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body xM (Memref.isWhole_whole _) wqM (Memref.isWhole_whole _) woM (Memref.isWhole_whole _) khM (Memref.isWhole_whole _) vhM (Memref.isWhole_whole _) oM (Memref.isWhole_whole _) xrM (Memref.isWhole_whole _) qM (Memref.isWhole_whole _) kM (Memref.isWhole_whole _) vM (Memref.isWhole_whole _) lM (Memref.isWhole_whole _) aM (Memref.isWhole_whole _) p0M (Memref.isWhole_whole _) roM (Memref.isWhole_whole _) rcM (Memref.isWhole_whole _) cc0_scratch9 cc0_scratch10 cc0_scratch11 cc0_scratch12 cc0_scratch13 cc0_scratch14)
    (fun _ => bodyPost m ρ c)
  rw [cc0_body_eq]
  exact body_ok m ρ c

/-! ## The launch -/

theorem share_eq (c : Dev nD) (w : Fin cfg0.W) : (dats m ρ 0 c).share w = fullShare := by
  unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => ow (owedL d)) c ∗ prngReg c (ρ c) ∗ G' (vals (ins m ρ)) c)
      ⊢ |={Set.univ}=> iprop(start m ρ c ∗ emp) := by
  rw [Pipeline.unscopedRestP_none, unscopedRest0_eq]
  iintro ⟨⟨HK, HV⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [HK]; · iexact HK
    iexact HV
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

/-- What a device hands back for its final state to be read from. -/
def fin (c : Dev nD) : sProp 𝕄 := iprop(unscopedSems0 c ∗ (khL c ↦{fullShare} m (khL c)) ∗ (vhL c ↦{fullShare} m (vhL c)))

theorem phi1_exit (c : Dev nD) :
    (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m ρ c from rfl, scopedRest0_eq]
  unfold Φ₁ fin scr
  iintro ⟨Hr, Hkv, Hsp, HK, HV⟩
  ihave Hs := (sems_out (F := F) c) $$ [Hsp Hkv]
  · isplitl [Hsp] <;> iassumption
  icases Hs with ⟨Hu, Ho⟩
  isplitl [Hu HK HV]
  · isplitl [Hu]; · iexact Hu
    isplitl [HK]; · iexact HK
    iexact HV
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    have h0 : lvS (.dma ((cfg0.win w).sem s)) = 0 := by fin_cases w <;> fin_cases s <;> decide
    rcases t with ⟨_ | _, ht⟩
    · exact mayWait c _ (owedL c) fun p hp => ⟨(owedL_lv c p hp).1, by rw [h0]; exact (owedL_lv c p hp).2⟩
    · exact mayWait c _ [] fun p hp => absurd hp List.not_mem_nil

/-! ## The run -/

def finalA (c : Dev nD) (w : Fin cfg0.W) : Buf (Elt F) ((cfg0.win w).arr.view.loc (c : Thread nD τ)) := (dats m ρ 0 c).arrAt w cfg0.N

/-- What a final state holds: each window's array, and the key and value arrays. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem (khL c) = m (khL c) ∧ r.2.mem (vhL c) = m (vhL c)

set_option maxRecDepth 8000 in
/-- On four devices, for any float values, from any memory with zero counters, every run ends, each array holding the
    computed contents, the key and value arrays what they held, and every semaphore counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => ow (owedL d)) (howed₀ := fun _ => rfl) (howedN := fun _ => rfl)
    (L := L) (lv := lv) (hL := L_of_ne) (hwaits := waits m ρ)
    (G := G (vals (ins m ρ))) (G' := G' (vals (ins m ρ))) (u₀ := u₀)
    (hu₀ := by
      unfold u₀
      iintro Hu
      ihave H := (ownU_pair _ _) $$ Hu
      icases H with ⟨HP, HX⟩
      ihave H2 := (own_pair_emb _ _ _) $$ HX
      icases H2 with ⟨HX, -⟩
      imod (show BI.own ((Emb.inl.trans embR) (initOf kcells ktoks)) ⊢ (|==> bigSep Finset.univ (G (vals (ins m ρ))) : sProp 𝕄) from fund_ring (vals (ins m ρ))) $$ HX with HG
      imodintro
      isplitl [HP] <;> iassumption)
    (hglob := glob (vals (ins m ρ)))
    (hA := fun _ _ => rfl) (hpf := fun _ k => k.elim0)
    (X := start m ρ) (Y := fin m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem (khL c) = m (khL c) ∧ s.mem (vhL c) = m (vhL c))
    (hY := fun c s' => by
      unfold fin
      iintro ⟨⟨Hu, HK, HV⟩, -, HSI⟩
      imod (Pipeline.unscopedSems0_read (X := unscopedSems0 c) (c := c) fupd_intro s') $$ [Hu HSI] with ⟨%hs, HSI⟩
      · isplitl [Hu] <;> iassumption
      ihave %hk := (SI_pointsTo_agree (st := s') (ℓ := khL c) (I := Finset.univ) (q := fullShare) (f := m (khL c))) $$ [HSI HK]
      · isplitl [HSI] <;> iassumption
      ihave %hv := (SI_pointsTo_agree (st := s') (ℓ := vhL c) (I := Finset.univ) (q := fullShare) (f := m (vhL c))) $$ [HSI HV]
      · isplitl [HSI] <;> iassumption
      imodintro
      isplitr
      · ipureintro
        exact ⟨hs, Buf.eq_of_forall_mem_univ hk, Buf.eq_of_forall_mem_univ hv⟩
      iexact HSI)
    (hQ := fun _ h hs => ⟨fun c => ⟨fun w => (h c).1 w, (h c).2.2.2⟩, sem_eq_zero hs fun c => (h c).2.2.1⟩)

end Cert.KProof
-- ==== Proof.Frames.lean ====
module

public import proofs.«01_k».proof.Proof.Run
public import proofs.«01_k».proof.Defs
public import proofs.«01_k».proof.Proof.Gen.Kernel
public import proofs.«01_k».proof.Proof.Gen.KernelIdeal

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arrays after the run -/

theorem finalA_in0 (c : Dev nD) : finalA m ρ c (0 : Fin 4) = m ((c : Thread nD τ).loc main_arg0) := (dats (F := F) m ρ 0 c).arrAt_in (0 : Fin 4) rfl _
theorem finalA_in1 (c : Dev nD) : finalA m ρ c (1 : Fin 4) = m ((c : Thread nD τ).loc main_arg1) := (dats (F := F) m ρ 0 c).arrAt_in (1 : Fin 4) rfl _
theorem finalA_in2 (c : Dev nD) : finalA m ρ c (2 : Fin 4) = m ((c : Thread nD τ).loc main_arg2) := (dats (F := F) m ρ 0 c).arrAt_in (2 : Fin 4) rfl _

theorem finalA_blk (c : Dev nD) : (win0_3.blk (0 : Fin 1)).view.read (Elt F) (finalA m ρ c (3 : Fin 4)) = outV (ins m ρ) c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

theorem finalA_out (c : Dev nD) : finalA m ρ c (3 : Fin 4) = outV (ins m ρ) c := by
  have hz : (fun a => (win0_3.index (0 : Fin 1)) a * main_v1.ty.shape.size a) = fun _ => 0 := funext fun a => by fin_cases a <;> decide
  have h := finalA_blk m ρ c
  exact (Memref.read_access_unit_zero (Elt F) main_v1 hz (fun a => by fin_cases a <;> decide) _).symm.trans h

theorem ins_X (c : Dev nD) : (ins m ρ).X c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem ins_Wq (c : Dev nD) : (ins m ρ).Wq c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem ins_Wo (c : Dev nD) : (ins m ρ).Wo c = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _

/-- What the final state holds of the program's arrays. -/
def Ends (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
  ∧ r.2.sem = fun _ => 0

theorem ends (r : PUnit × MemSt nD τ sig (Elt F)) (h : QC m ρ r ∧ r.2.sem = fun _ => 0) : Ends m r :=
  ⟨fun c => ⟨((h.1 c).1 (0 : Fin 4)).trans (finalA_in0 m ρ c), ((h.1 c).1 (1 : Fin 4)).trans (finalA_in1 m ρ c),
    ((h.1 c).1 (2 : Fin 4)).trans (finalA_in2 m ρ c), (h.1 c).2.1, (h.1 c).2.2⟩, h.2⟩

/-! ## The frame claims -/

theorem frame_kernelIdeal : Cert.quiescent_KernelIdeal (hKernelIdeal := Cert.KernelIdeal.Gen.facts) := fun m ρ _ =>
  (θ_run defs _ _).mono (fun r h => ends m ρ r h) (run_main (F := Ideal) m ρ)

end Cert.KProof
-- ==== Proof.Same.lean ====
module

public import proofs.«01_k».proof.Proof.Frames
public import proofs.«01_k».proof.Kernel

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The program as printed is the same program -/

theorem main_same : Cert.Kernel.main (F := F) = main (F := F) := rfl
theorem body_same : Cert.Kernel.cc0_body (F := F) = cc0_body (F := F) := rfl
theorem cfgs_same : Cert.Kernel.cfgs = cfgs := rfl
theorem defs₀_same : Cert.Kernel.defs₀ (F := F) = defs₀ (F := F) := by
  unfold Cert.Kernel.defs₀ defs₀
  refine congrArg Defs.onTc ?_
  funext i x
  match i, x with
  | 0, (t, s) => rfl
  | ⟨_ + 1, h⟩, _ => exact absurd h (Nat.not_lt.2 (Nat.le_add_left _ _))
theorem defs_same : Cert.Kernel.defs (F := F) = defs (F := F) := by
  unfold Cert.Kernel.defs defs
  rw [defs₀_same]
  rfl

/-! ## Its frame claim -/

theorem frame_kernel : Cert.quiescent_Kernel (hKernel := Cert.Kernel.Gen.facts) := fun m ρ _ => by
  have h := (θ_run (defs (F := Bits)) _ _).mono (fun r h => ends (F := Bits) m ρ r h) (run_main (F := Bits) m ρ)
  rw [← defs_same] at h
  exact h

end Cert.KProof
-- ==== Proof.Soft.lean ====
module

public import Idealize.ShloMosaic.PureOps.Ideal.Laws

@[expose] public section

noncomputable section

namespace Cert.KProof

open Idealize.ShloMosaic
open scoped BigOperators

/-! ## Sums of weighted values, and the running maximum

Weights are exponentials of real scores, so they are positive reals and distribute over every sum. Values may be
infinite. -/

/-- A real number among the extended ones. -/
def IsReal (x : EReal) : Prop := ∃ r : ℝ, x = (r : EReal)

theorem isReal_of_ne {x : EReal} (h : x ≠ ⊤) (h' : x ≠ ⊥) : IsReal x := ⟨x.toReal, (EReal.coe_toReal h h').symm⟩
theorem isReal_zero : IsReal 0 := ⟨0, rfl⟩
theorem isReal_add {x y : EReal} (hx : IsReal x) (hy : IsReal y) : IsReal (x + y) := by
  obtain ⟨a, rfl⟩ := hx; obtain ⟨b, rfl⟩ := hy
  exact ⟨a + b, (EReal.coe_add a b).symm⟩
theorem isReal_mul {x y : EReal} (hx : IsReal x) (hy : IsReal y) : IsReal (x * y) := by
  obtain ⟨a, rfl⟩ := hx; obtain ⟨b, rfl⟩ := hy
  exact ⟨a * b, (EReal.coe_mul a b).symm⟩
theorem isReal_max {x y : EReal} (hx : IsReal x) (hy : IsReal y) : IsReal (max x y) := by
  rcases max_choice x y with h | h <;> rw [h] <;> assumption
theorem isReal_sum (n : ℕ) (f : ℕ → EReal) (h : ∀ k, k < n → IsReal (f k)) : IsReal (∑ k ∈ Finset.range n, f k) := by
  induction n with
  | zero => simpa using isReal_zero
  | succ n ih =>
    rw [Finset.sum_range_succ]
    exact isReal_add (ih fun k hk => h k (by omega)) (h n (by omega))

/-- A real factor that is not negative goes into a sum. -/
theorem sum_mul_real (n : ℕ) (f : ℕ → EReal) {a : EReal} (h0 : 0 ≤ a) (ht : a ≠ ⊤) :
    (∑ k ∈ Finset.range n, f k) * a = ∑ k ∈ Finset.range n, f k * a := by
  induction n with
  | zero => simp
  | succ n ih => rw [Finset.sum_range_succ, Finset.sum_range_succ, EReal.right_distrib_of_nonneg_of_ne_top h0 ht, ih]

theorem exp_coe (r : ℝ) : Ideal.exp (r : EReal) = (Real.exp r : EReal) := rfl
theorem exp_nonneg (x : EReal) : 0 ≤ Ideal.exp x := by
  induction x with
  | bot => exact le_refl _
  | top => exact le_top
  | coe r => exact EReal.coe_nonneg.mpr (Real.exp_pos r).le
theorem exp_ne_top {x : EReal} (h : IsReal x) : Ideal.exp x ≠ ⊤ := by
  obtain ⟨r, rfl⟩ := h; exact EReal.coe_ne_top _
theorem exp_ne_zero {x : EReal} (h : IsReal x) : Ideal.exp x ≠ 0 := by
  obtain ⟨r, rfl⟩ := h
  exact fun e => (Real.exp_pos r).ne' (EReal.coe_eq_zero.mp e)

/-- Taking a real `m'` off the exponent and multiplying it back. -/
theorem exp_sub_mul {m m' : EReal} (hm : m = ⊥ ∨ IsReal m) (hm' : IsReal m') :
    Ideal.exp (m - m') * Ideal.exp m' = Ideal.exp m := by
  obtain ⟨b, rfl⟩ := hm'
  rcases hm with rfl | ⟨a, rfl⟩
  · rw [show (⊥ : EReal) - (b : EReal) = ⊥ from rfl]
    show (0 : EReal) * _ = 0
    rw [zero_mul]
  · rw [← EReal.coe_sub, exp_coe, exp_coe, exp_coe, ← EReal.coe_mul, ← Real.exp_add, sub_add_cancel]

/-- One block of the running sum: with the old sum scaled to the new maximum, what is held is the whole sum over `exp`
    of the maximum. -/
theorem run_step {m m' o : EReal} (hm : m = ⊥ ∨ IsReal m) (hm' : IsReal m') (s w : ℕ → EReal) (hs : ∀ k, IsReal (s k)) (n L : ℕ)
    (ho : o * Ideal.exp m = ∑ k ∈ Finset.range n, Ideal.exp (s k) * w k) :
    (o * Ideal.exp (m - m') + ∑ k ∈ Finset.range L, Ideal.exp (s (n + k) - m') * w (n + k)) * Ideal.exp m'
      = ∑ k ∈ Finset.range (n + L), Ideal.exp (s k) * w k := by
  rw [EReal.right_distrib_of_nonneg_of_ne_top (exp_nonneg _) (exp_ne_top hm'), sum_mul_real L _ (exp_nonneg _) (exp_ne_top hm'),
    mul_assoc, exp_sub_mul hm hm', ho, Finset.sum_range_add]
  refine congrArg _ (Finset.sum_congr rfl fun k _ => ?_)
  rw [mul_right_comm, exp_sub_mul (Or.inr (hs _)) hm']

/-- A common positive real factor cancels in a quotient. -/
theorem div_cancel {o l e : EReal} (h0 : 0 ≤ e) (ht : e ≠ ⊤) (hz : e ≠ 0) : Ideal.div (o * e) (l * e) = Ideal.div o l := by
  have he : e ≠ ⊥ := fun h => by rw [h] at h0; exact absurd h0 (by simp)
  obtain ⟨r, rfl⟩ := isReal_of_ne ht he
  have hr0 : r ≠ 0 := fun h => hz (by rw [h]; rfl)
  have hrp : 0 < (r : EReal) := lt_of_le_of_ne h0 (Ne.symm hz)
  unfold Ideal.div
  by_cases hl : l = 0
  · rw [hl, zero_mul, if_pos rfl, if_pos rfl]
    have : (0 < o * (r : EReal)) ↔ 0 < o := by
      constructor
      · intro h
        by_contra hn
        exact absurd h (not_lt.mpr (EReal.mul_nonpos_iff.mpr (Or.inr ⟨not_lt.mp hn, h0⟩)))
      · intro h
        exact EReal.mul_pos h hrp
    simp only [this]
  · have hle : l * (r : EReal) ≠ 0 := mul_ne_zero hl hz
    rw [if_neg hl, if_neg hle, EReal.mul_inv, mul_mul_mul_comm]
    rw [show (r : EReal) * (r : EReal)⁻¹ = 1 from by rw [← EReal.coe_inv, ← EReal.coe_mul, mul_inv_cancel₀ hr0]; rfl, mul_one]

/-! ## The reference's four blocks -/

/-- The running maximum, sum of weights and sum of weighted values, one block of `L` keys further. -/
def onStep (L : ℕ) (s w : ℕ → EReal) (n : ℕ) (M : EReal) (st : EReal × EReal × EReal) : EReal × EReal × EReal :=
  (max st.1 M,
   st.2.1 * Ideal.exp (st.1 - max st.1 M) + ∑ k ∈ Finset.range L, Ideal.exp (s (n + k) - max st.1 M),
   st.2.2 * Ideal.exp (st.1 - max st.1 M) + ∑ k ∈ Finset.range L, Ideal.exp (s (n + k) - max st.1 M) * w (n + k))

/-- What holds after `n` keys. -/
structure OnInv (s w : ℕ → EReal) (n : ℕ) (st : EReal × EReal × EReal) : Prop where
  hm : st.1 = ⊥ ∨ IsReal st.1
  hl : st.2.1 * Ideal.exp st.1 = ∑ k ∈ Finset.range n, Ideal.exp (s k)
  ho : st.2.2 * Ideal.exp st.1 = ∑ k ∈ Finset.range n, Ideal.exp (s k) * w k

theorem onInv_zero (s w : ℕ → EReal) : OnInv s w 0 (⊥, 0, 0) where
  hm := Or.inl rfl
  hl := by simp
  ho := by simp

theorem isReal_max_bot {a b : EReal} (ha : a = ⊥ ∨ IsReal a) (hb : IsReal b) : IsReal (max a b) := by
  rcases ha with rfl | ha
  · rwa [max_eq_right bot_le]
  · exact isReal_max ha hb

theorem onInv_step {s w : ℕ → EReal} (hs : ∀ k, IsReal (s k)) {n : ℕ} {st : EReal × EReal × EReal} (h : OnInv s w n st) (L : ℕ) {M : EReal}
    (hM : IsReal M) : OnInv s w (n + L) (onStep L s w n M st) where
  hm := Or.inr (isReal_max_bot h.hm hM)
  hl := by
    have := run_step h.hm (isReal_max_bot h.hm hM) s (fun _ => 1) hs n L (by simpa using h.hl)
    simp only [mul_one] at this
    exact this
  ho := run_step h.hm (isReal_max_bot h.hm hM) s w hs n L h.ho

/-- The quotient at the end is that of the plain sums. -/
theorem onInv_div {s w : ℕ → EReal} {n : ℕ} {st : EReal × EReal × EReal} (h : OnInv s w n st) (hm : IsReal st.1) :
    Ideal.div st.2.2 st.2.1 = Ideal.div (∑ k ∈ Finset.range n, Ideal.exp (s k) * w k) (∑ k ∈ Finset.range n, Ideal.exp (s k)) := by
  rw [← h.hl, ← h.ho, div_cancel (exp_nonneg _) (exp_ne_top hm) (exp_ne_zero hm)]

/-- The four blocks of 1024 keys, from nothing. -/
def onFour (s w : ℕ → EReal) (M : ℕ → EReal) : EReal × EReal × EReal :=
  onStep 1024 s w 3072 (M 3) (onStep 1024 s w 2048 (M 2) (onStep 1024 s w 1024 (M 1) (onStep 1024 s w 0 (M 0) (⊥, 0, 0))))

theorem onFour_div (s w : ℕ → EReal) (hs : ∀ k, IsReal (s k)) (M : ℕ → EReal) (hM : ∀ j, IsReal (M j)) :
    Ideal.div (onFour s w M).2.2 (onFour s w M).2.1
      = Ideal.div (∑ k ∈ Finset.range 4096, Ideal.exp (s k) * w k) (∑ k ∈ Finset.range 4096, Ideal.exp (s k)) := by
  have h1 := onInv_step hs (onInv_zero s w) 1024 (hM 0)
  have h2 := onInv_step hs h1 1024 (hM 1)
  have h3 := onInv_step hs h2 1024 (hM 2)
  have h4 := onInv_step hs h3 1024 (hM 3)
  exact onInv_div h4 (isReal_max_bot h3.hm (hM 3))

end Cert.KProof
-- ==== Proof.Val.lean ====
module

public import Idealize.ShloMosaic.Lib.MatmulPlain
public import Idealize.ShloMosaic.Lib.IdealHost
public import proofs.«01_k».proof.Proof.Pads
public import proofs.«01_k».proof.Proof.Soft

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open scoped BigOperators
open Idealize.ShloMosaic.ValueIdx

/-! ## The kernel's results, entry by entry, over the extended reals -/

theorem pay11_apply (a : Vec Ideal S256x128 .f32) (b : Vec Ideal S1x512x1x128 .f32) (v : Vec Ideal S1x512x1x256 .f32) (r : Fin 256) (l : Fin 256) :
    k0_pay11 a b v (ix2 r l) = ∑ k : Fin 512, Ideal.exp (∑ d : Fin 128, a (ix2 r d) * b (ix4 (0 : Fin 1) k (0 : Fin 1) d)) * v (ix4 (0 : Fin 1) k (0 : Fin 1) l) := by
  unfold k0_pay11
  refine (Ideal.matmul_plain_apply (M := 256) (K := 512) (N := 256) none _ _ _ r l).trans ?_
  have h0 : (constant S256x256 .f32 0x00000000#32 : FVec Ideal S256x256 .f32) (ix2 r l) = 0 := Ideal.ofBits_zero_f32
  rw [h0, zero_add]
  refine Finset.sum_congr rfl fun k _ => ?_
  have e1 : shapeCast S512x256 v shapeCasts_S1x512x1x256_S512x256 (ix2 k l) = v (ix4 (0 : Fin 1) k (0 : Fin 1) l) :=
    shapeCast_apply _ _ _ _ (by rw [Shape.rowMajor_val_four, Shape.rowMajor_val_two]; show ((0 * 512 + k.val) * 1 + 0) * 256 + l.val = k.val * 256 + l.val; omega)
  rw [e1]
  congr 1
  show Ideal.exp _ = Ideal.exp _
  congr 1
  refine (Ideal.matmul_transposedRhs_apply (M := 256) (K := 128) (N := 512) none _ _ _ r k).trans ?_
  have h0 : (constant S256x512 .f32 0x00000000#32 : FVec Ideal S256x512 .f32) (ix2 r k) = 0 := Ideal.ofBits_zero_f32
  rw [h0, zero_add]
  refine Finset.sum_congr rfl fun d _ => ?_
  have e2 : shapeCast S512x128 b shapeCasts_S1x512x1x128_S512x128 (ix2 k d) = b (ix4 (0 : Fin 1) k (0 : Fin 1) d) :=
    shapeCast_apply _ _ _ _ (by rw [Shape.rowMajor_val_four, Shape.rowMajor_val_two]; show ((0 * 512 + k.val) * 1 + 0) * 128 + d.val = k.val * 128 + d.val; omega)
  rw [e2]

theorem pay12_apply (a : Vec Ideal S256x128 .f32) (b : Vec Ideal S1x512x1x128 .f32) (v : Vec Ideal S1x512x1x256 .f32) (x : Vec Ideal S256x128 .f32) (r : Fin 256) (l : Fin 128) :
    k0_pay12 a b v x (ix2 r l) = x (ix2 r l) + k0_pay11 a b v (ix2 r (⟨l.val, by have := l.isLt; omega⟩ : Fin 256)) := by
  unfold k0_pay12
  generalize k0_pay11 a b v = P
  rw [Idealize.ShloMosaic.shapeCast_self]
  refine congrArg (fun z : EReal => (x (ix2 r l) : EReal) + z) (?_ : extractStridedSlice _ _ P _ _ = P _)
  refine extractStridedSlice_apply _ _ _ _ _ fun ax => ?_
  match ax with
  | ⟨0, _⟩ => show r.val = 0 + r.val; omega
  | ⟨1, _⟩ => show l.val = 0 + l.val; omega

theorem pay13_apply (a : Vec Ideal S256x128 .f32) (b : Vec Ideal S1x512x1x128 .f32) (v : Vec Ideal S1x512x1x256 .f32) (x : Vec Ideal S256x1 .f32) (r : Fin 256) (l : Fin 1) :
    k0_pay13 a b v x (ix2 r l) = x (ix2 r l) + k0_pay11 a b v (ix2 r (128 : Fin 256)) := by
  unfold k0_pay13
  generalize k0_pay11 a b v = P
  rw [Idealize.ShloMosaic.shapeCast_self]
  refine congrArg (fun z : EReal => (x (ix2 r l) : EReal) + z) (?_ : extractStridedSlice _ _ P _ _ = P _)
  refine extractStridedSlice_apply _ _ _ _ _ fun ax => ?_
  have := l.isLt
  match ax with
  | ⟨0, _⟩ => show r.val = 0 + r.val; omega
  | ⟨1, _⟩ => show 128 = 128 + l.val; omega

theorem pay118_apply (a : Vec Ideal S256x128 .f32) (b : Vec Ideal S256x1 .f32) (r : Fin 256) (l : Fin 128) :
    k0_pay118 a b (ix2 r l) = Ideal.div (a (ix2 r l)) (b (ix2 r (0 : Fin 1))) := by
  unfold k0_pay118
  rw [Idealize.ShloMosaic.shapeCast_self]
  show Ideal.div (a (ix2 r l)) _ = _
  congr 1
  refine broadcastTo_apply _ _ _ _ fun ax => ?_
  match ax with
  | ⟨0, _⟩ => rfl
  | ⟨1, _⟩ => rfl

theorem pay125_apply (a : Vec Ideal S256x1024 .f32) (w : Vec Ideal S1024x1024 .f32) (r : Fin 256) (n : Fin 1024) :
    k0_pay125 a w (ix2 r n) = ∑ l : Fin 1024, a (ix2 r l) * w (ix2 l n) := by
  unfold k0_pay125
  rw [Idealize.ShloMosaic.shapeCast_self, Idealize.ShloMosaic.shapeCast_self]
  refine (Ideal.matmul_plain_apply (M := 256) (K := 1024) (N := 1024) none _ _ _ r n).trans ?_
  have h0 : (constant S256x1024 .f32 0x00000000#32 : FVec Ideal S256x1024 .f32) (ix2 r n) = 0 := Ideal.ofBits_zero_f32
  rw [h0, zero_add]

/-- The scale of the scores. -/
def scl : EReal := Ideal.ofBits .f32 0x3DB504F3#32

theorem pay126_apply (a : Vec Ideal S256x1024 .f32) (w : Vec Ideal S1024x1024 .f32) (r : Fin 256) (n : Fin 1024) :
    k0_pay126 a w (ix2 r n) = (∑ l : Fin 1024, a (ix2 r l) * w (ix2 l n)) * scl := by
  unfold k0_pay126
  rw [Idealize.ShloMosaic.shapeCast_self, Idealize.ShloMosaic.shapeCast_self]
  show _ * scl = _
  congr 1
  refine (Ideal.matmul_plain_apply (M := 256) (K := 1024) (N := 1024) none _ _ _ r n).trans ?_
  have h0 : (constant S256x1024 .f32 0x00000000#32 : FVec Ideal S256x1024 .f32) (ix2 r n) = 0 := Ideal.ofBits_zero_f32
  rw [h0, zero_add]

/-! ### The running sums -/

/-- The score of row `r` and key `k` at head `h` of device `c`. -/
def sc (c : Dev nD) (K : Kix → Elt Ideal .f32) (q : S256x1024.Idx → Elt Ideal .f32) (r h k : ℕ) : EReal :=
  ∑ d ∈ Finset.range 128, q (rix r (128 * h + d)) * K (kix k (8 * c.val + h) d)

theorem kv_apply (c : Dev nD) (j : ℕ) (K V : Kix → Elt Ideal .f32) (q : S256x1024.Idx → Elt Ideal .f32) (h : Fin 8) (r : Fin 256) (l : Fin 256) :
    k0_pay11 (cols q h) (kw c j K h) (vw c j V h) (ix2 r l)
      = ∑ k ∈ Finset.range 512, Ideal.exp (sc c K q r.val h.val (512 * j + k)) * (if l.val < 128 then V (kix (512 * j + k) (8 * c.val + h.val) l.val) else if l.val = 128 then 1 else 0) := by
  rw [pay11_apply, Finset.sum_range]
  refine Finset.sum_congr rfl fun k _ => ?_
  congr 1
  · congr 1
    unfold sc
    rw [Finset.sum_range]
    refine Finset.sum_congr rfl fun d _ => ?_
    congr 1
    show q _ = q _
    congr 1
    have h0 := r.isLt
    have h1 := d.isLt
    have h2 := h.isLt
    exact (rix_self _ _ _ (by show r.val % 256 = 0 + 1 * r.val; omega) (by show (128 * h.val + d.val) % 1024 = 128 * h.val + 1 * d.val; omega)).symm
  · show (if l.val < 128 then _ else if l.val = 128 then Ideal.ofBits .f32 0x3F800000#32 else Ideal.ofBits .f32 0x00000000#32) = _
    rw [Ideal.ofBits_one_f32, Ideal.ofBits_zero_f32]

/-- What chunk `j` adds to the weighted values at lane `i`, and to the weights of head `h`. -/
def dA (c : Dev nD) (j : ℕ) (K V : Kix → Elt Ideal .f32) (q : S256x1024.Idx → Elt Ideal .f32) (r l : ℕ) : EReal :=
  ∑ k ∈ Finset.range 512, Ideal.exp (sc c K q r (l / 128) (512 * j + k)) * V (kix (512 * j + k) (8 * c.val + l / 128) (l % 128))
def dL (c : Dev nD) (j : ℕ) (K : Kix → Elt Ideal .f32) (q : S256x1024.Idx → Elt Ideal .f32) (r h : ℕ) : EReal :=
  ∑ k ∈ Finset.range 512, Ideal.exp (sc c K q r h (512 * j + k))

theorem stepH_fst (c : Dev nD) (j : ℕ) (K V : Kix → Elt Ideal .f32) (q : S256x1024.Idx → Elt Ideal .f32) (h : Fin 8) (al : AL Ideal) (r : Fin 256) (l : Fin 1024) :
    (stepH c j K V q h al).1 (ix2 r l) = if l.val / 128 = h.val then al.1 (ix2 r l) + dA c j K V q r.val l.val else al.1 (ix2 r l) := by
  have h0 := r.isLt
  have h1 := l.isLt
  have h2 := h.isLt
  unfold stepH
  dsimp only
  unfold VecWindow.put
  by_cases hl : l.val / 128 = h.val
  · have hin : ∀ a, (![0, 128 * h.val] : Fin 2 → ℕ) a ≤ ((ix2 r l : S256x1024.Idx) a).val ∧ ((ix2 r l : S256x1024.Idx) a).val < (![0, 128 * h.val] : Fin 2 → ℕ) a + S256x128.size a := by
      intro a
      match a with
      | ⟨0, _⟩ => exact ⟨Nat.zero_le _, by show r.val < 0 + 256; omega⟩
      | ⟨1, _⟩ => exact ⟨by show 128 * h.val ≤ l.val; omega, by show l.val < 128 * h.val + 128; omega⟩
    refine (dif_pos hin).trans ?_
    rw [if_pos hl]
    have e : Rect.unitLocal (ix2 r l : S256x1024.Idx) hin = (ix2 r (⟨l.val - 128 * h.val, by omega⟩ : Fin 128) : S256x128.Idx) := by
      funext a
      apply Fin.ext
      match a with
      | ⟨0, _⟩ => rfl
      | ⟨1, _⟩ => rfl
    refine (congrArg _ e).trans ?_
    rw [pay12_apply, kv_apply]
    congr 1
    · show al.1 _ = al.1 _
      refine congrArg _ (funext fun a => Fin.ext ?_)
      match a with
      | ⟨0, _⟩ => show 0 + 1 * r.val = r.val; omega
      | ⟨1, _⟩ => show 128 * h.val + 1 * (l.val - 128 * h.val) = l.val; omega
    · unfold dA
      refine Finset.sum_congr rfl fun k _ => ?_
      have hlt : l.val - 128 * h.val < 128 := by omega
      have hm : l.val - 128 * h.val = l.val % 128 := by omega
      show Ideal.exp _ * (if l.val - 128 * h.val < 128 then _ else _) = _
      rw [if_pos hlt, hl]
      show _ * V (kix _ _ (l.val - 128 * h.val)) = _
      rw [hm]
  · refine (dif_neg fun hin => hl ?_).trans ?_
    · have := hin 1
      have a1 : 128 * h.val ≤ l.val := this.1
      have a2 : l.val < 128 * h.val + 128 := this.2
      omega
    · rw [if_neg hl]

theorem stepH_snd (c : Dev nD) (j : ℕ) (K V : Kix → Elt Ideal .f32) (q : S256x1024.Idx → Elt Ideal .f32) (h : Fin 8) (al : AL Ideal) (r : Fin 256) (l : Fin 8) :
    (stepH c j K V q h al).2 (ix2 r l) = if l.val = h.val then al.2 (ix2 r l) + dL c j K q r.val l.val else al.2 (ix2 r l) := by
  have h0 := r.isLt
  have h1 := l.isLt
  have h2 := h.isLt
  unfold stepH
  dsimp only
  unfold VecWindow.put
  by_cases hl : l.val = h.val
  · have hin : ∀ a, (![0, h.val] : Fin 2 → ℕ) a ≤ ((ix2 r l : S256x8.Idx) a).val ∧ ((ix2 r l : S256x8.Idx) a).val < (![0, h.val] : Fin 2 → ℕ) a + S256x1.size a := by
      intro a
      match a with
      | ⟨0, _⟩ => exact ⟨Nat.zero_le _, by show r.val < 0 + 256; omega⟩
      | ⟨1, _⟩ => exact ⟨by show h.val ≤ l.val; omega, by show l.val < h.val + 1; omega⟩
    refine (dif_pos hin).trans ?_
    rw [if_pos hl]
    have e : Rect.unitLocal (ix2 r l : S256x8.Idx) hin = (ix2 r (⟨l.val - h.val, by omega⟩ : Fin 1) : S256x1.Idx) := by
      funext a
      apply Fin.ext
      match a with
      | ⟨0, _⟩ => rfl
      | ⟨1, _⟩ => rfl
    refine (congrArg _ e).trans ?_
    rw [pay13_apply, kv_apply]
    congr 1
    · show al.2 _ = al.2 _
      refine congrArg _ (funext fun a => Fin.ext ?_)
      match a with
      | ⟨0, _⟩ => show 0 + 1 * r.val = r.val; omega
      | ⟨1, _⟩ => show h.val + 1 * (l.val - h.val) = l.val; omega
    · unfold dL
      refine Finset.sum_congr rfl fun k _ => ?_
      show _ * (if (128 : ℕ) < 128 then _ else if (128 : ℕ) = 128 then (1 : EReal) else 0) = _
      rw [if_neg (by omega), if_pos rfl, mul_one, hl]
  · refine (dif_neg fun hin => hl ?_).trans ?_
    · have := hin 1
      have a1 : h.val ≤ l.val := this.1
      have a2 : l.val < h.val + 1 := this.2
      omega
    · rw [if_neg hl]

theorem stepC_fst (c : Dev nD) (j : ℕ) (K V : Kix → Elt Ideal .f32) (q : S256x1024.Idx → Elt Ideal .f32) (al : AL Ideal) (r : Fin 256) (l : Fin 1024) :
    (stepC c K V q j al).1 (ix2 r l) = al.1 (ix2 r l) + dA c j K V q r.val l.val := by
  have h1 := l.isLt
  have hq : l.val / 128 < 8 := by omega
  unfold stepC
  simp only [List.foldl_cons, List.foldl_nil, stepH_fst]
  generalize l.val / 128 = n at hq
  interval_cases n <;> rfl

theorem stepC_snd (c : Dev nD) (j : ℕ) (K V : Kix → Elt Ideal .f32) (q : S256x1024.Idx → Elt Ideal .f32) (al : AL Ideal) (r : Fin 256) (l : Fin 8) :
    (stepC c K V q j al).2 (ix2 r l) = al.2 (ix2 r l) + dL c j K q r.val l.val := by
  unfold stepC
  simp only [List.foldl_cons, List.foldl_nil, stepH_snd]
  match l with
  | 0 => rfl
  | 1 => rfl
  | 2 => rfl
  | 3 => rfl
  | 4 => rfl
  | 5 => rfl
  | 6 => rfl
  | 7 => rfl

theorem sums_fst (c : Dev nD) (K V : Kix → Elt Ideal .f32) (q : S256x1024.Idx → Elt Ideal .f32) (r : Fin 256) (l : Fin 1024) (n : ℕ) :
    (sums c K V q n).1 (ix2 r l) = ∑ k ∈ Finset.range (512 * n), Ideal.exp (sc c K q r.val (l.val / 128) k) * V (kix k (8 * c.val + l.val / 128) (l.val % 128)) := by
  induction n with
  | zero =>
    show k0_pay114 (ix2 r l) = _
    unfold k0_pay114
    rw [Idealize.ShloMosaic.shapeCast_self, Nat.mul_zero, Finset.sum_range_zero]
    exact Ideal.ofBits_zero_f32
  | succ n ih =>
    show (stepC c K V q n (sums c K V q n)).1 _ = _
    rw [stepC_fst, ih, Nat.mul_succ, Finset.sum_range_add]
    rfl

theorem sums_snd (c : Dev nD) (K V : Kix → Elt Ideal .f32) (q : S256x1024.Idx → Elt Ideal .f32) (r : Fin 256) (l : Fin 8) (n : ℕ) :
    (sums c K V q n).2 (ix2 r l) = ∑ k ∈ Finset.range (512 * n), Ideal.exp (sc c K q r.val l.val k) := by
  induction n with
  | zero =>
    show k0_pay113 (ix2 r l) = _
    unfold k0_pay113
    rw [Idealize.ShloMosaic.shapeCast_self, Nat.mul_zero, Finset.sum_range_zero]
    exact Ideal.ofBits_zero_f32
  | succ n ih =>
    show (stepC c K V q n (sums c K V q n)).2 _ = _
    rw [stepC_snd, ih, Nat.mul_succ, Finset.sum_range_add]
    rfl

/-! ### The quotients -/

theorem divH_snd (al : AL Ideal) (h : Fin 8) : (divH al h).2 = al.2 := rfl

theorem divH_fst (h : Fin 8) (al : AL Ideal) (r : Fin 256) (l : Fin 1024) :
    (divH al h).1 (ix2 r l) = if l.val / 128 = h.val then Ideal.div (al.1 (ix2 r l)) (al.2 (ix2 r h)) else al.1 (ix2 r l) := by
  have h0 := r.isLt
  have h1 := l.isLt
  have h2 := h.isLt
  unfold divH
  dsimp only
  unfold VecWindow.put
  by_cases hl : l.val / 128 = h.val
  · have hin : ∀ a, (![0, 128 * h.val] : Fin 2 → ℕ) a ≤ ((ix2 r l : S256x1024.Idx) a).val ∧ ((ix2 r l : S256x1024.Idx) a).val < (![0, 128 * h.val] : Fin 2 → ℕ) a + S256x128.size a := by
      intro a
      match a with
      | ⟨0, _⟩ => exact ⟨Nat.zero_le _, by show r.val < 0 + 256; omega⟩
      | ⟨1, _⟩ => exact ⟨by show 128 * h.val ≤ l.val; omega, by show l.val < 128 * h.val + 128; omega⟩
    refine (dif_pos hin).trans ?_
    rw [if_pos hl]
    have e : Rect.unitLocal (ix2 r l : S256x1024.Idx) hin = (ix2 r (⟨l.val - 128 * h.val, by omega⟩ : Fin 128) : S256x128.Idx) := by
      funext a
      apply Fin.ext
      match a with
      | ⟨0, _⟩ => rfl
      | ⟨1, _⟩ => rfl
    refine (congrArg _ e).trans ?_
    rw [pay118_apply]
    congr 1
    · show al.1 _ = al.1 _
      refine congrArg _ (funext fun a => Fin.ext ?_)
      match a with
      | ⟨0, _⟩ => show 0 + 1 * r.val = r.val; omega
      | ⟨1, _⟩ => show 128 * h.val + 1 * (l.val - 128 * h.val) = l.val; omega
    · show al.2 _ = al.2 _
      refine congrArg _ (funext fun a => Fin.ext ?_)
      match a with
      | ⟨0, _⟩ => show 0 + 1 * r.val = r.val; omega
      | ⟨1, _⟩ => show h.val + 1 * 0 = h.val; omega
  · refine (dif_neg fun hin => hl ?_).trans ?_
    · have := hin 1
      have a1 : 128 * h.val ≤ l.val := this.1
      have a2 : l.val < 128 * h.val + 128 := this.2
      omega
    · rw [if_neg hl]

theorem divs_off (r : Fin 256) (l : Fin 1024) (L : List (Fin 8)) (hL : ∀ h ∈ L, l.val / 128 ≠ h.val) (al : AL Ideal) :
    (L.foldl divH al).1 (ix2 r l) = al.1 (ix2 r l) := by
  induction L generalizing al with
  | nil => rfl
  | cons h L ih =>
    rw [List.foldl_cons, ih (fun h' hm => hL h' (List.mem_cons_of_mem _ hm)), divH_fst, if_neg (hL h List.mem_cons_self)]

theorem divs_on (r : Fin 256) (l : Fin 1024) (g : Fin 8) (hg : l.val / 128 = g.val) (L : List (Fin 8)) (hn : L.Nodup) (hL : g ∈ L) (al : AL Ideal) :
    (L.foldl divH al).1 (ix2 r l) = Ideal.div (al.1 (ix2 r l)) (al.2 (ix2 r g)) := by
  induction L generalizing al with
  | nil => exact absurd hL List.not_mem_nil
  | cons h L ih =>
    have hn' := List.nodup_cons.mp hn
    rw [List.foldl_cons]
    by_cases e : g = h
    · subst e
      rw [divs_off r l L (fun h' hm he => hn'.1 (by have : g = h' := Fin.ext (hg.symm.trans he); rw [this]; exact hm)), divH_fst, if_pos hg]
    · have hm : g ∈ L := (List.mem_cons.mp hL).resolve_left e
      rw [ih hn'.2 hm, divH_snd, divH_fst, if_neg (fun he => e (Fin.ext (hg.symm.trans he)))]

theorem divs_fst (al : AL Ideal) (r : Fin 256) (l : Fin 1024) :
    (([0, 1, 2, 3, 4, 5, 6, 7] : List (Fin 8)).foldl divH al).1 (ix2 r l)
      = Ideal.div (al.1 (ix2 r l)) (al.2 (ix2 r (⟨l.val / 128, by have := l.isLt; omega⟩ : Fin 8))) :=
  divs_on r l ⟨l.val / 128, by have := l.isLt; omega⟩ rfl _ (by decide) (by generalize (⟨l.val / 128, by have := l.isLt; omega⟩ : Fin 8) = g; revert g; decide) al

/-- The attention of row `r` at lane `l`. -/
theorem attn_apply (c : Dev nD) (K V : Kix → Elt Ideal .f32) (q : S256x1024.Idx → Elt Ideal .f32) (r : Fin 256) (l : Fin 1024) :
    attn c K V q (ix2 r l) = Ideal.div
      (∑ k ∈ Finset.range 4096, Ideal.exp (sc c K q r.val (l.val / 128) k) * V (kix k (8 * c.val + l.val / 128) (l.val % 128)))
      (∑ k ∈ Finset.range 4096, Ideal.exp (sc c K q r.val (l.val / 128) k)) := by
  unfold attn
  rw [divs_fst, sums_fst, sums_snd]

end Cert.KProof
-- ==== Proof.Ref.lean ====
module

public import Idealize.ShloMosaic.Lib.IdealHost
public import Idealize.ShloMosaic.Lib.KernelVsHost
public import Idealize.ShloMosaic.Lib.Pipeline.Value
public import proofs.«01_k».proof.Proof.Gen.ReferenceIdeal.Run
public import proofs.«01_k».proof.Proof.Soft

@[expose] public section

set_option maxRecDepth 16384

noncomputable section

namespace Cert.KProof.Ref

open Cert.ReferenceIdeal Cert.ReferenceIdeal.Gen
open Idealize.ShloMosaic
open Idealize.ShloMosaic.TcCoe
open Idealize.ShloMosaic.ValueIdx
open Cert.KProof
open scoped BigOperators

/-! ## The reference's result, entry by entry, over the extended reals -/

abbrev QV := FVec Ideal S1x1024x32x128 .f32
abbrev SV := FVec Ideal S1x32x1024x1024 .f32
abbrev MV := FVec Ideal S1x32x1024x1 .f32

/-- The queries, split into heads. -/
def rQ (x : FVec Ideal S1x1024x1024 .f32) (w : FVec Ideal S1024x4096 .f32) : QV :=
  shapeCast S1x1024x32x128 (Host.dotGeneral dot_S1x1024x1024_S1024x4096_S1x1024x4096_2_0_01_1_n_n none x w) shapeCasts_S1x1024x4096_S1x1024x32x128
/-- The scores against one block of keys, and their largest. -/
def rS (Q Kj : QV) : SV :=
  mulf (Host.dotGeneral dot_S1x1024x32x128_S1x1024x32x128_S1x32x1024x1024_3_3_1_1_02_02 none Q Kj) (broadcastInDim S1x32x1024x1024 ![] bcast_S_S1x32x1024x1024 (constant S_ .f32 0x3DB504F3#32))
def rMx (s : SV) : FVec Ideal S1x32x1024 .f32 :=
  Host.reduce FloatOps.maximumf s (constant S_ .f32 0xFF800000#32) reducesTo_S1x32x1024x1024_S1x32x1024_d3 h_S_
def rM (m : MV) (s : SV) : MV :=
  maximumf m (broadcastInDim S1x32x1024x1 ![0, 1, 2] bcast_S1x32x1024_S1x32x1024x1_0_1_2 (rMx s))
def rA (m m' : MV) : MV := Host.exp (subf m m')
def rP (s : SV) (m' : MV) : SV :=
  Host.exp (subf s (broadcastInDim S1x32x1024x1024 ![0, 1, 2, 3] bcast_S1x32x1024x1_S1x32x1024x1024_0_1_2_3 m'))
def rL (l a : MV) (p : SV) : MV :=
  addf (mulf l a) (broadcastInDim S1x32x1024x1 ![0, 1, 2] bcast_S1x32x1024_S1x32x1024x1_0_1_2 (Host.reduceAdd p (constant S_ .f32 0x00000000#32) reducesTo_S1x32x1024x1024_S1x32x1024_d3 h_S_))
def rT (a : MV) : QV :=
  broadcastInDim S1x1024x32x128 ![0, 1, 2, 3] bcast_S1x1024x32x1_S1x1024x32x128_0_1_2_3 (transpose S1x1024x32x1 [0, 2, 1, 3] a transposes_S1x32x1024x1_S1x1024x32x1_0_2_1_3)
def rO (o : QV) (a : MV) (Vj : QV) (p : SV) : QV :=
  addf (mulf o (rT a)) (transpose S1x1024x32x128 [0, 3, 1, 2] (Host.dotGeneral dot_S1x1024x32x128_S1x32x1024x1024_S1x32x128x1024_1_3_3_2_02_01 none Vj p) transposes_S1x32x128x1024_S1x1024x32x128_0_3_1_2)

/-- One block: the running maximum, the sum of weights and the sum of weighted values. -/
def rStep (Q Kj Vj : QV) (st : MV × MV × QV) : MV × MV × QV :=
  (rM st.1 (rS Q Kj),
   rL st.2.1 (rA st.1 (rM st.1 (rS Q Kj))) (rP (rS Q Kj) (rM st.1 (rS Q Kj))),
   rO st.2.2 (rA st.1 (rM st.1 (rS Q Kj))) Vj (rP (rS Q Kj) (rM st.1 (rS Q Kj))))
def rZero : MV × MV × QV :=
  (broadcastInDim S1x32x1024x1 ![] bcast_S_S1x32x1024x1 (constant S_ .f32 0xFF800000#32),
   broadcastInDim S1x32x1024x1 ![] bcast_S_S1x32x1024x1 (constant S_ .f32 0x00000000#32),
   broadcastInDim S1x1024x32x128 ![] bcast_S_S1x1024x32x128 (constant S_ .f32 0x00000000#32))
abbrev KV := FVec Ideal S1x4096x32x128 .f32
def k0 (K : KV) : QV := extractStridedSlice S1x1024x32x128 ![0, 0, 0, 0] K slices_S1x4096x32x128_S1x1024x32x128_0_0_0_0
def k1 (K : KV) : QV := extractStridedSlice S1x1024x32x128 ![0, 1024, 0, 0] K slices_S1x4096x32x128_S1x1024x32x128_0_1024_0_0
def k2 (K : KV) : QV := extractStridedSlice S1x1024x32x128 ![0, 2048, 0, 0] K slices_S1x4096x32x128_S1x1024x32x128_0_2048_0_0
def k3 (K : KV) : QV := extractStridedSlice S1x1024x32x128 ![0, 3072, 0, 0] K slices_S1x4096x32x128_S1x1024x32x128_0_3072_0_0
def rFour (Q : QV) (K V : KV) : MV × MV × QV :=
  rStep Q (k3 K) (k3 V) (rStep Q (k2 K) (k2 V) (rStep Q (k1 K) (k1 V) (rStep Q (k0 K) (k0 V) rZero)))
def rOut (st : MV × MV × QV) (Wo : FVec Ideal S4096x1024 .f32) : FVec Ideal S1x1024x1024 .f32 :=
  Host.dotGeneral dot_S1x1024x4096_S4096x1024_S1x1024x1024_2_0_01_1_n_n none (shapeCast S1x1024x4096 (Host.divf st.2.2 (rT st.2.1)) shapeCasts_S1x1024x32x128_S1x1024x4096) Wo

theorem res_eq (m : (ℓ : Loc nD τ sig) → Buf (Elt Ideal) ℓ) (c : Dev nD) :
    Cert.ReferenceIdeal.Value.res_main_v101 m c
      = rOut (rFour (rQ (m ((c.tc : Thread nD τ).loc main_arg0)) (m ((c.tc : Thread nD τ).loc main_arg1))) (m ((c.tc : Thread nD τ).loc main_arg3)) (m ((c.tc : Thread nD τ).loc main_arg4)))
          (m ((c.tc : Thread nD τ).loc main_arg2)) := by
  unfold Cert.ReferenceIdeal.Value.res_main_v101
  rfl

/-! ### Products -/

theorem dotQ_apply (x : FVec Ideal S1x1024x1024 .f32) (w : FVec Ideal S1024x4096 .f32) (i : Fin 1024) (n : Fin 4096) :
    Host.dotGeneral dot_S1x1024x1024_S1024x4096_S1x1024x4096_2_0_01_1_n_n none x w (ix3 (0 : Fin 1) i n)
      = ∑ a : Fin 1024, x (ix3 (0 : Fin 1) i a) * w (ix2 a n) := by
  simp only [Host.dotGeneral]
  let D := dot_S1x1024x1024_S1024x4096_S1x1024x4096_2_0_01_1_n_n
  have hr : D.contr.rank = 1 := rfl
  have hs : D.contr.size ⟨0, by rw [hr]; exact Nat.one_pos⟩ = 1024 := rfl
  rw [Ideal.dotGeneral_apply, ← Equiv.sum_comp (contrEquiv1 D 1024 hr hs).symm]
  refine Finset.sum_congr rfl fun k _ => ?_
  have hk := contrEquiv1_symm_val D 1024 hr hs k
  have e1 : D.lhsIdx (ix3 (0 : Fin 1) i n) ((contrEquiv1 D 1024 hr hs).symm k) = ix3 (0 : Fin 1) i k := by
    funext a; apply Fin.ext
    match a with
    | ⟨0, _⟩ => rfl
    | ⟨1, _⟩ => rfl
    | ⟨2, _⟩ => exact hk
  have e2 : D.rhsIdx (ix3 (0 : Fin 1) i n) ((contrEquiv1 D 1024 hr hs).symm k) = ix2 k n := by
    funext a; apply Fin.ext
    match a with
    | ⟨0, _⟩ => exact hk
    | ⟨1, _⟩ => rfl
  exact congrArg₂ (fun p q : EReal => p * q) (congrArg x e1) (congrArg w e2)

theorem dotO_apply (x : FVec Ideal S1x1024x4096 .f32) (w : FVec Ideal S4096x1024 .f32) (i : Fin 1024) (n : Fin 1024) :
    Host.dotGeneral dot_S1x1024x4096_S4096x1024_S1x1024x1024_2_0_01_1_n_n none x w (ix3 (0 : Fin 1) i n)
      = ∑ a : Fin 4096, x (ix3 (0 : Fin 1) i a) * w (ix2 a n) := by
  simp only [Host.dotGeneral]
  let D := dot_S1x1024x4096_S4096x1024_S1x1024x1024_2_0_01_1_n_n
  have hr : D.contr.rank = 1 := rfl
  have hs : D.contr.size ⟨0, by rw [hr]; exact Nat.one_pos⟩ = 4096 := rfl
  rw [Ideal.dotGeneral_apply, ← Equiv.sum_comp (contrEquiv1 D 4096 hr hs).symm]
  refine Finset.sum_congr rfl fun k _ => ?_
  have hk := contrEquiv1_symm_val D 4096 hr hs k
  have e1 : D.lhsIdx (ix3 (0 : Fin 1) i n) ((contrEquiv1 D 4096 hr hs).symm k) = ix3 (0 : Fin 1) i k := by
    funext a; apply Fin.ext
    match a with
    | ⟨0, _⟩ => rfl
    | ⟨1, _⟩ => rfl
    | ⟨2, _⟩ => exact hk
  have e2 : D.rhsIdx (ix3 (0 : Fin 1) i n) ((contrEquiv1 D 4096 hr hs).symm k) = ix2 k n := by
    funext a; apply Fin.ext
    match a with
    | ⟨0, _⟩ => exact hk
    | ⟨1, _⟩ => rfl
  exact congrArg₂ (fun p q : EReal => p * q) (congrArg x e1) (congrArg w e2)

theorem dotS_apply (Q Kj : QV) (H : Fin 32) (i k : Fin 1024) :
    Host.dotGeneral dot_S1x1024x32x128_S1x1024x32x128_S1x32x1024x1024_3_3_1_1_02_02 none Q Kj (ix4 (0 : Fin 1) H i k)
      = ∑ d : Fin 128, Q (ix4 (0 : Fin 1) i H d) * Kj (ix4 (0 : Fin 1) k H d) := by
  simp only [Host.dotGeneral]
  let D := dot_S1x1024x32x128_S1x1024x32x128_S1x32x1024x1024_3_3_1_1_02_02
  have hr : D.contr.rank = 1 := rfl
  have hs : D.contr.size ⟨0, by rw [hr]; exact Nat.one_pos⟩ = 128 := rfl
  rw [Ideal.dotGeneral_apply, ← Equiv.sum_comp (contrEquiv1 D 128 hr hs).symm]
  refine Finset.sum_congr rfl fun d _ => ?_
  have hk := contrEquiv1_symm_val D 128 hr hs d
  have e1 : D.lhsIdx (ix4 (0 : Fin 1) H i k) ((contrEquiv1 D 128 hr hs).symm d) = ix4 (0 : Fin 1) i H d := by
    funext a; apply Fin.ext
    match a with
    | ⟨0, _⟩ => rfl
    | ⟨1, _⟩ => rfl
    | ⟨2, _⟩ => rfl
    | ⟨3, _⟩ => exact hk
  have e2 : D.rhsIdx (ix4 (0 : Fin 1) H i k) ((contrEquiv1 D 128 hr hs).symm d) = ix4 (0 : Fin 1) k H d := by
    funext a; apply Fin.ext
    match a with
    | ⟨0, _⟩ => rfl
    | ⟨1, _⟩ => rfl
    | ⟨2, _⟩ => rfl
    | ⟨3, _⟩ => exact hk
  exact congrArg₂ (fun p q : EReal => p * q) (congrArg Q e1) (congrArg Kj e2)

theorem dotV_apply (Vj : QV) (p : SV) (H : Fin 32) (d : Fin 128) (i : Fin 1024) :
    Host.dotGeneral dot_S1x1024x32x128_S1x32x1024x1024_S1x32x128x1024_1_3_3_2_02_01 none Vj p (ix4 (0 : Fin 1) H d i)
      = ∑ k : Fin 1024, Vj (ix4 (0 : Fin 1) k H d) * p (ix4 (0 : Fin 1) H i k) := by
  simp only [Host.dotGeneral]
  let D := dot_S1x1024x32x128_S1x32x1024x1024_S1x32x128x1024_1_3_3_2_02_01
  have hr : D.contr.rank = 1 := rfl
  have hs : D.contr.size ⟨0, by rw [hr]; exact Nat.one_pos⟩ = 1024 := rfl
  rw [Ideal.dotGeneral_apply, ← Equiv.sum_comp (contrEquiv1 D 1024 hr hs).symm]
  refine Finset.sum_congr rfl fun k _ => ?_
  have hk := contrEquiv1_symm_val D 1024 hr hs k
  have e1 : D.lhsIdx (ix4 (0 : Fin 1) H d i) ((contrEquiv1 D 1024 hr hs).symm k) = ix4 (0 : Fin 1) k H d := by
    funext a; apply Fin.ext
    match a with
    | ⟨0, _⟩ => rfl
    | ⟨1, _⟩ => exact hk
    | ⟨2, _⟩ => rfl
    | ⟨3, _⟩ => rfl
  have e2 : D.rhsIdx (ix4 (0 : Fin 1) H d i) ((contrEquiv1 D 1024 hr hs).symm k) = ix4 (0 : Fin 1) H i k := by
    funext a; apply Fin.ext
    match a with
    | ⟨0, _⟩ => rfl
    | ⟨1, _⟩ => rfl
    | ⟨2, _⟩ => rfl
    | ⟨3, _⟩ => exact hk
  exact congrArg₂ (fun p q : EReal => p * q) (congrArg Vj e1) (congrArg p e2)

/-! ### The pieces of a block -/

/-- The scale of the scores. -/
def scl : EReal := Ideal.ofBits .f32 0x3DB504F3#32

theorem rQ_apply (x : FVec Ideal S1x1024x1024 .f32) (w : FVec Ideal S1024x4096 .f32) (i : Fin 1024) (H : Fin 32) (d : Fin 128) :
    rQ x w (ix4 (0 : Fin 1) i H d) = ∑ a : Fin 1024, x (ix3 (0 : Fin 1) i a) * w (ix2 a (⟨128 * H.val + d.val, by have := H.isLt; have := d.isLt; omega⟩ : Fin 4096)) := by
  rw [← dotQ_apply]
  unfold rQ
  generalize Host.dotGeneral dot_S1x1024x1024_S1024x4096_S1x1024x4096_2_0_01_1_n_n none x w = P
  refine shapeCast_apply _ _ _ _ ?_
  rw [Shape.rowMajor_val_three, Shape.rowMajor_val_four]
  show (0 * 1024 + i.val) * 4096 + (128 * H.val + d.val) = ((0 * 1024 + i.val) * 32 + H.val) * 128 + d.val
  omega

theorem rS_apply (Q Kj : QV) (H : Fin 32) (i k : Fin 1024) :
    rS Q Kj (ix4 (0 : Fin 1) H i k) = (∑ d : Fin 128, Q (ix4 (0 : Fin 1) i H d) * Kj (ix4 (0 : Fin 1) k H d)) * scl := by
  rw [← dotS_apply]
  unfold rS
  generalize Host.dotGeneral dot_S1x1024x32x128_S1x1024x32x128_S1x32x1024x1024_3_3_1_1_02_02 none Q Kj = P
  rfl

theorem fold_max_real (n : ℕ) (f : Fin (n + 1) → EReal) (hf : ∀ k, IsReal (f k)) : IsReal ((Finset.univ : Finset (Fin (n + 1))).fold max ⊥ f) := by
  have key : ∀ S : Finset (Fin (n + 1)), S.fold max ⊥ f = ⊥ ∨ IsReal (S.fold max ⊥ f) := by
    intro S
    induction S using Finset.induction_on with
    | empty => exact Or.inl Finset.fold_empty
    | insert a S ha ih =>
      rw [Finset.fold_insert ha, max_comm]
      exact Or.inr (isReal_max_bot ih (hf a))
  have h0 : (Finset.univ : Finset (Fin (n + 1))) = insert 0 (Finset.univ.erase 0) := (Finset.insert_erase (Finset.mem_univ _)).symm
  rw [h0, Finset.fold_insert (Finset.notMem_erase _ _), max_comm]
  exact isReal_max_bot (key _) (hf 0)

theorem rMx_real (s : SV) (H : Fin 32) (i : Fin 1024) (hs : ∀ k : Fin 1024, IsReal (s (ix4 (0 : Fin 1) H i k))) :
    IsReal (rMx s (ix3 (0 : Fin 1) H i)) := by
  have hR : S1x32x1024x1024.Reduces [3] S1x32x1024 := by decide
  unfold rMx
  have e := (congrFun (hostReduce_maximumf_eq_multiReduction s 0xFF800000#32 reducesTo_S1x32x1024x1024_S1x32x1024_d3 h_S_ hR (.inl rfl) rfl) (ix3 (0 : Fin 1) H i)).trans
    (Ideal.multiReduction_maximumf_single s 0xFF800000#32 hR (.inl rfl) rfl (ix3 (0 : Fin 1) H i))
  rw [e]
  have h0 : (FloatOps.ofBits .f32 0xFF800000#32 : Ideal .f32) = (⊥ : EReal) := by
    show Ideal.ofBits .f32 0xFF800000#32 = _
    simp [Ideal.ofBits, Ideal.ieee]
  rw [h0]
  refine fold_max_real 1023 _ fun k => ?_
  have e : hR.lift (ix3 (0 : Fin 1) H i) k = (ix4 (0 : Fin 1) H i k : S1x32x1024x1024.Idx) := by
    funext a; apply Fin.ext
    match a with
    | ⟨0, _⟩ => rfl
    | ⟨1, _⟩ => rfl
    | ⟨2, _⟩ => rfl
    | ⟨3, _⟩ => rfl
  show IsReal (s (hR.lift (ix3 (0 : Fin 1) H i) k))
  rw [e]
  exact hs k

theorem unit3_apply (x : FVec Ideal S1x32x1024 .f32) (H : Fin 32) (i : Fin 1024) :
    broadcastInDim S1x32x1024x1 ![0, 1, 2] bcast_S1x32x1024_S1x32x1024x1_0_1_2 x (ix4 (0 : Fin 1) H i (0 : Fin 1)) = x (ix3 (0 : Fin 1) H i) := by
  refine broadcastInDim_apply _ _ _ _ _ fun a => ?_
  match a with
  | ⟨0, _⟩ => rfl
  | ⟨1, _⟩ => rfl
  | ⟨2, _⟩ => rfl

theorem rM_apply (m : MV) (s : SV) (H : Fin 32) (i : Fin 1024) :
    rM m s (ix4 (0 : Fin 1) H i (0 : Fin 1)) = max (m (ix4 (0 : Fin 1) H i (0 : Fin 1)) : EReal) (rMx s (ix3 (0 : Fin 1) H i)) := by
  rw [← unit3_apply (rMx s) H i]
  unfold rM
  generalize broadcastInDim S1x32x1024x1 ![0, 1, 2] bcast_S1x32x1024_S1x32x1024x1_0_1_2 (rMx s) = P
  rfl

theorem rA_apply (m m' : MV) (j : S1x32x1024x1.Idx) : rA m m' j = Ideal.exp ((m j : EReal) - m' j) := rfl

theorem rP_apply (s : SV) (m' : MV) (H : Fin 32) (i k : Fin 1024) :
    rP s m' (ix4 (0 : Fin 1) H i k) = Ideal.exp ((s (ix4 (0 : Fin 1) H i k) : EReal) - m' (ix4 (0 : Fin 1) H i (0 : Fin 1))) := by
  have e : broadcastInDim S1x32x1024x1024 ![0, 1, 2, 3] bcast_S1x32x1024x1_S1x32x1024x1024_0_1_2_3 m' (ix4 (0 : Fin 1) H i k) = m' (ix4 (0 : Fin 1) H i (0 : Fin 1)) := by
    refine broadcastInDim_apply _ _ _ _ _ fun a => ?_
    match a with
    | ⟨0, _⟩ => rfl
    | ⟨1, _⟩ => rfl
    | ⟨2, _⟩ => rfl
    | ⟨3, _⟩ => rfl
  rw [← e]
  rfl

theorem rL_apply (l a : MV) (p : SV) (H : Fin 32) (i : Fin 1024) :
    rL l a p (ix4 (0 : Fin 1) H i (0 : Fin 1))
      = (l (ix4 (0 : Fin 1) H i (0 : Fin 1)) : EReal) * a (ix4 (0 : Fin 1) H i (0 : Fin 1)) + ∑ k : Fin 1024, p (ix4 (0 : Fin 1) H i k) := by
  have hR : S1x32x1024x1024.Reduces [3] S1x32x1024 := by decide
  have e : (∑ k : Fin 1024, p (ix4 (0 : Fin 1) H i k)) = Host.reduceAdd p (constant S_ .f32 0x00000000#32) reducesTo_S1x32x1024x1024_S1x32x1024_d3 h_S_ (ix3 (0 : Fin 1) H i) := by
    rw [hostReduceAdd_apply, Ideal.hostReduceAdd_single _ hR]
    have h0 : ((constant S_ .f32 0x00000000#32 : FVec Ideal S_ .f32) (Shape.Idx.first h_S_) : EReal) = 0 := Ideal.ofBits_zero_f32
    rw [h0, zero_add]
    refine Finset.sum_congr rfl fun k _ => congrArg p ?_
    funext a; apply Fin.ext
    match a with
    | ⟨0, _⟩ => rfl
    | ⟨1, _⟩ => rfl
    | ⟨2, _⟩ => rfl
    | ⟨3, _⟩ => rfl
  rw [e, ← unit3_apply (Host.reduceAdd p (constant S_ .f32 0x00000000#32) reducesTo_S1x32x1024x1024_S1x32x1024_d3 h_S_) H i]
  unfold rL
  generalize broadcastInDim S1x32x1024x1 ![0, 1, 2] bcast_S1x32x1024_S1x32x1024x1_0_1_2 (Host.reduceAdd p (constant S_ .f32 0x00000000#32) reducesTo_S1x32x1024x1024_S1x32x1024_d3 h_S_) = P
  rfl

theorem rT_apply (a : MV) (i : Fin 1024) (H : Fin 32) (d : Fin 128) :
    rT a (ix4 (0 : Fin 1) i H d) = a (ix4 (0 : Fin 1) H i (0 : Fin 1)) := by
  unfold rT
  refine (broadcastInDim_apply _ _ _ _ (ix4 (0 : Fin 1) i H (0 : Fin 1)) fun a => ?_).trans ?_
  · match a with
    | ⟨0, _⟩ => rfl
    | ⟨1, _⟩ => rfl
    | ⟨2, _⟩ => rfl
    | ⟨3, _⟩ => rfl
  · refine transpose_apply _ _ _ _ _ fun b => ?_
    match b with
    | ⟨0, _⟩ => rfl
    | ⟨1, _⟩ => rfl
    | ⟨2, _⟩ => rfl
    | ⟨3, _⟩ => rfl

theorem rO_apply (o : QV) (a : MV) (Vj : QV) (p : SV) (i : Fin 1024) (H : Fin 32) (d : Fin 128) :
    rO o a Vj p (ix4 (0 : Fin 1) i H d)
      = (o (ix4 (0 : Fin 1) i H d) : EReal) * a (ix4 (0 : Fin 1) H i (0 : Fin 1)) + ∑ k : Fin 1024, Vj (ix4 (0 : Fin 1) k H d) * p (ix4 (0 : Fin 1) H i k) := by
  rw [← dotV_apply, ← rT_apply a i H d]
  unfold rO
  generalize Host.dotGeneral dot_S1x1024x32x128_S1x32x1024x1024_S1x32x128x1024_1_3_3_2_02_01 none Vj p = P
  generalize rT a = T
  have e : transpose S1x1024x32x128 [0, 3, 1, 2] P transposes_S1x32x128x1024_S1x1024x32x128_0_3_1_2 (ix4 (0 : Fin 1) i H d) = P (ix4 (0 : Fin 1) H d i) := by
    refine transpose_apply _ _ _ _ _ fun b => ?_
    match b with
    | ⟨0, _⟩ => rfl
    | ⟨1, _⟩ => rfl
    | ⟨2, _⟩ => rfl
    | ⟨3, _⟩ => rfl
  rw [← e]
  rfl

/-! ### The four blocks -/

/-- The index of key `k`, head `h`, lane `d` of a cached array. -/
def cix (k h d : ℕ) : S1x4096x32x128.Idx :=
  ix4 (0 : Fin 1) (⟨k % 4096, Nat.mod_lt _ (by decide)⟩ : Fin 4096) (⟨h % 32, Nat.mod_lt _ (by decide)⟩ : Fin 32) (⟨d % 128, Nat.mod_lt _ (by decide)⟩ : Fin 128)

/-- The score of query row `i` and key `k` at head `H`. -/
def sR (Q : QV) (K : KV) (H : Fin 32) (i : Fin 1024) (k : ℕ) : EReal :=
  (∑ d : Fin 128, Q (ix4 (0 : Fin 1) i H d) * K (cix k H.val d.val)) * scl
def wR (V : KV) (H : Fin 32) (d : Fin 128) (k : ℕ) : EReal := V (cix k H.val d.val)

/-- What a block's state holds for one row, head and lane. -/
def tri (st : MV × MV × QV) (H : Fin 32) (i : Fin 1024) (d : Fin 128) : EReal × EReal × EReal :=
  (st.1 (ix4 (0 : Fin 1) H i (0 : Fin 1)), st.2.1 (ix4 (0 : Fin 1) H i (0 : Fin 1)), st.2.2 (ix4 (0 : Fin 1) i H d))

theorem tri_step (Q : QV) (K V : KV) (Kj Vj : QV) (n : ℕ) (st : MV × MV × QV)
    (hK : ∀ (k : Fin 1024) (H : Fin 32) (d : Fin 128), Kj (ix4 (0 : Fin 1) k H d) = K (cix (n + k.val) H.val d.val))
    (hV : ∀ (k : Fin 1024) (H : Fin 32) (d : Fin 128), Vj (ix4 (0 : Fin 1) k H d) = V (cix (n + k.val) H.val d.val))
    (H : Fin 32) (i : Fin 1024) (d : Fin 128) :
    tri (rStep Q Kj Vj st) H i d = onStep 1024 (sR Q K H i) (wR V H d) n (rMx (rS Q Kj) (ix3 (0 : Fin 1) H i)) (tri st H i d) := by
  have hs : ∀ k : Fin 1024, rS Q Kj (ix4 (0 : Fin 1) H i k) = sR Q K H i (n + k.val) := fun k => by
    rw [rS_apply]
    exact congrArg (fun z : EReal => z * scl) (Finset.sum_congr rfl fun d _ => by rw [hK])
  have hp : ∀ k : Fin 1024, rP (rS Q Kj) (rM st.1 (rS Q Kj)) (ix4 (0 : Fin 1) H i k)
      = Ideal.exp (sR Q K H i (n + k.val) - max (st.1 (ix4 (0 : Fin 1) H i (0 : Fin 1)) : EReal) (rMx (rS Q Kj) (ix3 (0 : Fin 1) H i))) := fun k => by
    rw [rP_apply, rM_apply, hs]
  refine Prod.ext ?_ (Prod.ext ?_ ?_)
  · exact rM_apply _ _ _ _
  · show rL _ _ _ (ix4 (0 : Fin 1) H i (0 : Fin 1)) = _
    rw [rL_apply, rA_apply, rM_apply]
    refine congrArg₂ (fun y z : EReal => y + z) rfl ?_
    rw [Finset.sum_range]
    exact Finset.sum_congr rfl fun k _ => hp k
  · show rO _ _ _ _ (ix4 (0 : Fin 1) i H d) = _
    rw [rO_apply, rA_apply, rM_apply]
    refine congrArg₂ (fun y z : EReal => y + z) rfl ?_
    rw [Finset.sum_range]
    refine Finset.sum_congr rfl fun k _ => ?_
    rw [hp k, hV, mul_comm]
    rfl

theorem slice_apply (n : ℕ) (hn : n + 1024 ≤ 4096) (K : KV) (h : S1x4096x32x128.Slices ![0, n, 0, 0] S1x1024x32x128) (k : Fin 1024) (H : Fin 32) (d : Fin 128) :
    extractStridedSlice S1x1024x32x128 ![0, n, 0, 0] K h (ix4 (0 : Fin 1) k H d) = K (cix (n + k.val) H.val d.val) := by
  refine extractStridedSlice_apply _ _ _ _ _ fun a => ?_
  have h0 := k.isLt
  have h1 := H.isLt
  have h2 := d.isLt
  match a with
  | ⟨0, _⟩ => rfl
  | ⟨1, _⟩ => show (n + k.val) % 4096 = n + k.val; omega
  | ⟨2, _⟩ => show H.val % 32 = 0 + H.val; omega
  | ⟨3, _⟩ => show d.val % 128 = 0 + d.val; omega

theorem sR_real (Q : QV) (K : KV) (H : Fin 32) (i : Fin 1024) (hQ : ∀ d : Fin 128, IsReal (Q (ix4 (0 : Fin 1) i H d))) (hK : ∀ j, IsReal (K j)) (k : ℕ) :
    IsReal (sR Q K H i k) := by
  have hc : IsReal scl := by
    unfold scl
    refine isReal_of_ne ?_ ?_ <;> simp [Ideal.ofBits, Ideal.ieee, -EReal.coe_mul]
  refine isReal_mul ?_ hc
  rw [← Fin.sum_univ_eq_sum_range (fun d => Q (ix4 (0 : Fin 1) i H (⟨d % 128, Nat.mod_lt _ (by decide)⟩ : Fin 128)) * K (cix k H.val d)) 128 |>.symm.trans (Finset.sum_congr rfl fun d _ => by
    rw [show (⟨d.val % 128, Nat.mod_lt _ (by decide)⟩ : Fin 128) = d from Fin.ext (Nat.mod_eq_of_lt d.isLt)])]
  exact isReal_sum _ _ fun k _ => isReal_mul (hQ _) (hK _)

theorem rMx_rS_real (Q : QV) (K : KV) (Kj : QV) (n : ℕ) (hKj : ∀ (k : Fin 1024) (H : Fin 32) (d : Fin 128), Kj (ix4 (0 : Fin 1) k H d) = K (cix (n + k.val) H.val d.val))
    (H : Fin 32) (i : Fin 1024) (hQ : ∀ d : Fin 128, IsReal (Q (ix4 (0 : Fin 1) i H d))) (hK : ∀ j, IsReal (K j)) :
    IsReal (rMx (rS Q Kj) (ix3 (0 : Fin 1) H i)) := by
  refine rMx_real _ H i fun k => ?_
  have hs : rS Q Kj (ix4 (0 : Fin 1) H i k) = sR Q K H i (n + k.val) := by
    rw [rS_apply]
    exact congrArg (fun z : EReal => z * scl) (Finset.sum_congr rfl fun d _ => by rw [hKj])
  rw [hs]
  exact sR_real Q K H i hQ hK _

theorem tri_zero (H : Fin 32) (i : Fin 1024) (d : Fin 128) : tri rZero H i d = (⊥, 0, 0) := by
  refine Prod.ext ?_ (Prod.ext ?_ ?_)
  · show Ideal.ofBits .f32 0xFF800000#32 = ⊥
    simp [Ideal.ofBits, Ideal.ieee]
  · exact Ideal.ofBits_zero_f32
  · exact Ideal.ofBits_zero_f32

/-- The quotient after the four blocks is that of the plain sums over all the keys. -/
theorem rFour_div (Q : QV) (K V : KV) (H : Fin 32) (i : Fin 1024) (d : Fin 128) (hQ : ∀ d : Fin 128, IsReal (Q (ix4 (0 : Fin 1) i H d))) (hK : ∀ j, IsReal (K j)) :
    Ideal.div ((rFour Q K V).2.2 (ix4 (0 : Fin 1) i H d)) ((rFour Q K V).2.1 (ix4 (0 : Fin 1) H i (0 : Fin 1)))
      = Ideal.div (∑ k ∈ Finset.range 4096, Ideal.exp (sR Q K H i k) * wR V H d k) (∑ k ∈ Finset.range 4096, Ideal.exp (sR Q K H i k)) := by
  have a0 := slice_apply 0 (by decide)
  have a1 := slice_apply 1024 (by decide)
  have a2 := slice_apply 2048 (by decide)
  have a3 := slice_apply 3072 (by decide)
  have e : tri (rFour Q K V) H i d = onFour (sR Q K H i) (wR V H d) (fun j => if j = 0 then rMx (rS Q (k0 K)) (ix3 (0 : Fin 1) H i) else if j = 1 then rMx (rS Q (k1 K)) (ix3 (0 : Fin 1) H i)
      else if j = 2 then rMx (rS Q (k2 K)) (ix3 (0 : Fin 1) H i) else rMx (rS Q (k3 K)) (ix3 (0 : Fin 1) H i)) := by
    unfold rFour onFour
    rw [tri_step Q K V (k3 K) (k3 V) 3072 _ (a3 K _) (a3 V _), tri_step Q K V (k2 K) (k2 V) 2048 _ (a2 K _) (a2 V _),
      tri_step Q K V (k1 K) (k1 V) 1024 _ (a1 K _) (a1 V _), tri_step Q K V (k0 K) (k0 V) 0 _ (a0 K _) (a0 V _), tri_zero]
    rfl
  have := onFour_div (sR Q K H i) (wR V H d) (sR_real Q K H i hQ hK) _ (fun j => by
    show IsReal (ite (j = 0) (rMx (rS Q (k0 K)) (ix3 (0 : Fin 1) H i)) (ite (j = 1) (rMx (rS Q (k1 K)) (ix3 (0 : Fin 1) H i))
      (ite (j = 2) (rMx (rS Q (k2 K)) (ix3 (0 : Fin 1) H i)) (rMx (rS Q (k3 K)) (ix3 (0 : Fin 1) H i)))))
    by_cases h0 : j = 0
    · rw [if_pos h0]; exact rMx_rS_real Q K _ 0 (a0 K _) H i hQ hK
    · rw [if_neg h0]
      by_cases h1 : j = 1
      · rw [if_pos h1]; exact rMx_rS_real Q K _ 1024 (a1 K _) H i hQ hK
      · rw [if_neg h1]
        by_cases h2 : j = 2
        · rw [if_pos h2]; exact rMx_rS_real Q K _ 2048 (a2 K _) H i hQ hK
        · rw [if_neg h2]; exact rMx_rS_real Q K _ 3072 (a3 K _) H i hQ hK)
  rw [← e] at this
  exact this

theorem rOut_apply (st : MV × MV × QV) (Wo : FVec Ideal S4096x1024 .f32) (i : Fin 1024) (n : Fin 1024) :
    rOut st Wo (ix3 (0 : Fin 1) i n) = ∑ l : Fin 4096,
      Ideal.div (st.2.2 (ix4 (0 : Fin 1) i (⟨l.val / 128, by have := l.isLt; omega⟩ : Fin 32) (⟨l.val % 128, Nat.mod_lt _ (by decide)⟩ : Fin 128)))
        (st.2.1 (ix4 (0 : Fin 1) (⟨l.val / 128, by have := l.isLt; omega⟩ : Fin 32) i (0 : Fin 1))) * Wo (ix2 l n) := by
  unfold rOut
  rw [dotO_apply]
  refine Finset.sum_congr rfl fun l _ => ?_
  refine congrArg (fun z : EReal => z * Wo (ix2 l n)) ?_
  rw [← rT_apply st.2.1 i (⟨l.val / 128, by have := l.isLt; omega⟩ : Fin 32) (⟨l.val % 128, Nat.mod_lt _ (by decide)⟩ : Fin 128)]
  generalize rT st.2.1 = T
  refine (shapeCast_apply _ _ _ (ix4 (0 : Fin 1) i (⟨l.val / 128, by have := l.isLt; omega⟩ : Fin 32) (⟨l.val % 128, Nat.mod_lt _ (by decide)⟩ : Fin 128)) ?_).trans rfl
  rw [Shape.rowMajor_val_three, Shape.rowMajor_val_four]
  show ((0 * 1024 + i.val) * 32 + l.val / 128) * 128 + l.val % 128 = (0 * 1024 + i.val) * 4096 + l.val
  omega

end Cert.KProof.Ref
-- ==== Proof.Alg.lean ====
module

public import Idealize.ShloMosaic.Lib.Layout
public import proofs.«01_k».proof.Proof.Val
public import proofs.«01_k».proof.Proof.Ref

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open scoped BigOperators
open Idealize.ShloMosaic.ValueIdx

/-! ## The kernel's result is the reference's, block by block -/

/-- The whole arrays the devices' blocks are cut from. -/
structure Whole where
  X : FVec Ideal ⟨3, ![1, 1024, 1024]⟩ .f32
  W : FVec Ideal ⟨2, ![1024, 4096]⟩ .f32
  O : FVec Ideal ⟨2, ![4096, 1024]⟩ .f32
  K : FVec Ideal ⟨4, ![1, 4096, 32, 128]⟩ .f32
  V : FVec Ideal ⟨4, ![1, 4096, 32, 128]⟩ .f32

/-- The inputs `I` are the blocks of `G`. -/
structure Cut (G : Whole) (I : Ins Ideal) : Prop where
  X : ∀ c : Dev nD, I.X c = Layout.block ⟨3, ![1, 256, 1024]⟩ ⟨3, ![1, 1024, 1024]⟩ 1 4 c G.X
  W : ∀ c : Dev nD, I.Wq c = Layout.block ⟨2, ![1024, 1024]⟩ ⟨2, ![1024, 4096]⟩ 1 4 c G.W
  O : ∀ c : Dev nD, I.Wo c = Layout.block ⟨2, ![1024, 1024]⟩ ⟨2, ![4096, 1024]⟩ 0 4 c G.O
  K : ∀ c : Dev nD, I.Kc c = G.K
  V : ∀ c : Dev nD, I.Vc c = G.V

/-- What the scores are made of is real. -/
structure Reals (G : Whole) : Prop where
  X : ∀ j, IsReal (G.X j)
  W : ∀ j, IsReal (G.W j)
  K : ∀ j, IsReal (G.K j)

/-- Row `r` of device `c`'s rows, and lane `l` of device `p`'s columns, in the whole arrays. -/
def gi (c : Dev nD) (r : Fin 256) : Fin 1024 := ⟨256 * c.val + r.val, by have : c.val < 4 := c.isLt; have := r.isLt; omega⟩
def gl (p : Dev nD) (l : Fin 1024) : Fin 4096 := ⟨1024 * p.val + l.val, by have : p.val < 4 := p.isLt; have := l.isLt; omega⟩
def gh (l : Fin 4096) : Fin 32 := ⟨l.val / 128, by have := l.isLt; omega⟩
def gd (l : Fin 4096) : Fin 128 := ⟨l.val % 128, Nat.mod_lt _ (by decide)⟩

variable {G : Whole} {I : Ins Ideal}

theorem x_at (hC : Cut G I) (c : Dev nD) (r : Fin 256) (a : Fin 1024) : xflat (I.X c) (ix2 r a) = G.X (ix3 (0 : Fin 1) (gi c r) a) := by
  show I.X c _ = _
  rw [hC.X]
  refine congrArg G.X (funext fun b => Fin.ext ?_)
  match b with
  | ⟨0, _⟩ => rfl
  | ⟨1, _⟩ => show c.val * 256 + r.val = 256 * c.val + r.val; omega
  | ⟨2, _⟩ => rfl
theorem w_at (hC : Cut G I) (p : Dev nD) (a l : Fin 1024) : I.Wq p (ix2 a l) = G.W (ix2 a (gl p l)) := by
  rw [hC.W]
  refine congrArg G.W (funext fun b => Fin.ext ?_)
  match b with
  | ⟨0, _⟩ => rfl
  | ⟨1, _⟩ => show p.val * 1024 + l.val = 1024 * p.val + l.val; omega
theorem o_at (hC : Cut G I) (p : Dev nD) (l n : Fin 1024) : I.Wo p (ix2 l n) = G.O (ix2 (gl p l) n) := by
  rw [hC.O]
  refine congrArg G.O (funext fun b => Fin.ext ?_)
  match b with
  | ⟨0, _⟩ => show p.val * 1024 + l.val = 1024 * p.val + l.val; omega
  | ⟨1, _⟩ => rfl

theorem q_at (hC : Cut G I) (p e : Dev nD) (r : Fin 256) (l : Fin 1024) (H : Fin 32) (d : Fin 128) (hl : 1024 * p.val + l.val = 128 * H.val + d.val) :
    k0_pay126 (xflat (I.X e)) (I.Wq p) (ix2 r l) = Ref.rQ G.X G.W (ix4 (0 : Fin 1) (gi e r) H d) * scl := by
  rw [pay126_apply, Ref.rQ_apply]
  refine congrArg (fun z : EReal => z * scl) (Finset.sum_congr rfl fun a _ => ?_)
  rw [x_at hC, w_at hC]
  have : gl p l = (⟨128 * H.val + d.val, by have := H.isLt; have := d.isLt; omega⟩ : Fin 4096) := Fin.ext hl
  rw [this]

theorem kix_cix (k h d : ℕ) : kix k h d = Ref.cix k h d := by
  funext a
  apply Fin.ext
  match a with
  | ⟨0, _⟩ => rfl
  | ⟨1, _⟩ => rfl
  | ⟨2, _⟩ => rfl
  | ⟨3, _⟩ => rfl

theorem scl_nonneg : 0 ≤ scl := by
  unfold scl
  simp [Ideal.ofBits, Ideal.ieee, -EReal.coe_mul]
theorem scl_ne_top : scl ≠ ⊤ := by
  unfold scl
  simp [Ideal.ofBits, Ideal.ieee, -EReal.coe_mul]

/-- Scaling the queries or the scores is the same. -/
theorem sc_eq (hC : Cut G I) (p e : Dev nD) (r : Fin 256) (l : Fin 1024) (k : ℕ) :
    sc p (I.Kc p) (k0_pay126 (xflat (I.X e)) (I.Wq p)) r.val (l.val / 128) k = Ref.sR (Ref.rQ G.X G.W) G.K (gh (gl p l)) (gi e r) k := by
  have h0 := r.isLt
  have h1 := l.isLt
  have h2 : p.val < 4 := p.isLt
  have hH : (gh (gl p l)).val = 8 * p.val + l.val / 128 := by show (1024 * p.val + l.val) / 128 = _; omega
  unfold sc Ref.sR
  have hf : ∀ d : Fin 128, k0_pay126 (xflat (I.X e)) (I.Wq p) (rix r.val (128 * (l.val / 128) + d.val)) * I.Kc p (kix k (8 * p.val + l.val / 128) d.val)
      = (Ref.rQ G.X G.W (ix4 (0 : Fin 1) (gi e r) (gh (gl p l)) d) * G.K (Ref.cix k (gh (gl p l)).val d.val)) * scl := fun d => by
    have h3 := d.isLt
    rw [rix_self (ix2 r (⟨128 * (l.val / 128) + d.val, by omega⟩ : Fin 1024)) _ _ (Nat.mod_eq_of_lt h0)
      (by show _ % 1024 = 128 * (l.val / 128) + d.val; omega)]
    rw [q_at hC p e r _ (gh (gl p l)) d (by rw [hH]; show 1024 * p.val + (128 * (l.val / 128) + d.val) = _; omega), hC.K, kix_cix, hH, mul_right_comm]
  rw [Finset.sum_range, Finset.sum_congr rfl fun d _ => hf d]
  have hs : ∀ f : Fin 128 → EReal, ∑ d : Fin 128, f d * scl = (∑ d : Fin 128, f d) * scl := fun f => by
    have e1 : ∀ g : Fin 128 → EReal, ∑ d : Fin 128, g d = ∑ d ∈ Finset.range 128, g ⟨d % 128, Nat.mod_lt _ (by decide)⟩ := fun g => by
      rw [Finset.sum_range]
      exact Finset.sum_congr rfl fun d _ => congrArg g (Fin.ext (Nat.mod_eq_of_lt d.isLt).symm)
    rw [e1, e1, sum_mul_real _ _ scl_nonneg scl_ne_top]
  exact hs _

/-- The reference's weighted mean at row `i` and column `l`, times `Wo`'s entry. -/
def term (G : Whole) (i n : Fin 1024) (l : Fin 4096) : EReal :=
  Ideal.div ((Ref.rFour (Ref.rQ G.X G.W) G.K G.V).2.2 (ix4 (0 : Fin 1) i (gh l) (gd l)))
    ((Ref.rFour (Ref.rQ G.X G.W) G.K G.V).2.1 (ix4 (0 : Fin 1) (gh l) i (0 : Fin 1))) * G.O (ix2 l n)

theorem attn_eq (hC : Cut G I) (hR : Reals G) (p e : Dev nD) (r : Fin 256) (l : Fin 1024) :
    attn p (I.Kc p) (I.Vc p) (k0_pay126 (xflat (I.X e)) (I.Wq p)) (ix2 r l)
      = Ideal.div ((Ref.rFour (Ref.rQ G.X G.W) G.K G.V).2.2 (ix4 (0 : Fin 1) (gi e r) (gh (gl p l)) (gd (gl p l))))
          ((Ref.rFour (Ref.rQ G.X G.W) G.K G.V).2.1 (ix4 (0 : Fin 1) (gh (gl p l)) (gi e r) (0 : Fin 1))) := by
  have h1 := l.isLt
  have h2 : p.val < 4 := p.isLt
  have hH : (gh (gl p l)).val = 8 * p.val + l.val / 128 := by show (1024 * p.val + l.val) / 128 = _; omega
  have hD : (gd (gl p l)).val = l.val % 128 := by show (1024 * p.val + l.val) % 128 = _; omega
  have hQ : ∀ d : Fin 128, IsReal (Ref.rQ G.X G.W (ix4 (0 : Fin 1) (gi e r) (gh (gl p l)) d)) := fun d => by
    rw [Ref.rQ_apply]
    have e1 : ∀ g : Fin 1024 → EReal, (∀ a, IsReal (g a)) → IsReal (∑ a : Fin 1024, g a) := fun g hg => by
      have : ∑ a : Fin 1024, g a = ∑ a ∈ Finset.range 1024, g ⟨a % 1024, Nat.mod_lt _ (by decide)⟩ := by
        rw [Finset.sum_range]
        exact Finset.sum_congr rfl fun a _ => congrArg g (Fin.ext (Nat.mod_eq_of_lt a.isLt).symm)
      rw [this]
      exact isReal_sum _ _ fun _ _ => hg _
    exact e1 _ fun a => isReal_mul (hR.X _) (hR.W _)
  rw [Ref.rFour_div _ _ _ _ _ _ hQ hR.K, attn_apply]
  have hw : ∀ k, I.Vc p (kix k (8 * p.val + l.val / 128) (l.val % 128)) = Ref.wR G.V (gh (gl p l)) (gd (gl p l)) k := fun k => by
    unfold Ref.wR
    rw [hC.V, kix_cix, hH, hD]
  simp only [sc_eq hC, hw]

theorem part_eq (hC : Cut G I) (hR : Reals G) (p e : Dev nD) (r : Fin 256) (n : Fin 1024) :
    partV I p e (ix2 r n) = ∑ l : Fin 1024, term G (gi e r) n (gl p l) := by
  unfold partV
  rw [pay125_apply]
  refine Finset.sum_congr rfl fun l _ => ?_
  rw [attn_eq hC hR, o_at hC]
  rfl

theorem ref_eq (i n : Fin 1024) :
    Ref.rOut (Ref.rFour (Ref.rQ G.X G.W) G.K G.V) G.O (ix3 (0 : Fin 1) i n)
      = ((∑ l : Fin 1024, term G i n (gl 0 l) + ∑ l : Fin 1024, term G i n (gl 1 l)) + ∑ l : Fin 1024, term G i n (gl 2 l)) + ∑ l : Fin 1024, term G i n (gl 3 l) := by
  rw [Ref.rOut_apply]
  have e1 : ∀ g : Fin 4096 → EReal, ∑ a : Fin 4096, g a = ∑ a ∈ Finset.range (1024 + 1024 + 1024 + 1024), g ⟨a % 4096, Nat.mod_lt _ (by decide)⟩ := fun g => by
    rw [show 1024 + 1024 + 1024 + 1024 = 4096 from rfl, Finset.sum_range]
    exact Finset.sum_congr rfl fun a _ => congrArg g (Fin.ext (Nat.mod_eq_of_lt a.isLt).symm)
  refine (e1 (term G i n)).trans ?_
  rw [Finset.sum_range_add, Finset.sum_range_add, Finset.sum_range_add, Finset.sum_range, Finset.sum_range, Finset.sum_range, Finset.sum_range]
  refine congrArg₂ (fun y z : EReal => y + z) (congrArg₂ (fun y z : EReal => y + z) (congrArg₂ (fun y z : EReal => y + z) ?_ ?_) ?_) ?_
  · exact Finset.sum_congr rfl fun l _ => congrArg (term G i n) (Fin.ext (by show l.val % 4096 = 1024 * 0 + l.val; have := l.isLt; omega))
  · exact Finset.sum_congr rfl fun l _ => congrArg (term G i n) (Fin.ext (by show (1024 + l.val) % 4096 = 1024 * 1 + l.val; have := l.isLt; omega))
  · exact Finset.sum_congr rfl fun l _ => congrArg (term G i n) (Fin.ext (by show (1024 + 1024 + l.val) % 4096 = 1024 * 2 + l.val; have := l.isLt; omega))
  · exact Finset.sum_congr rfl fun l _ => congrArg (term G i n) (Fin.ext (by show (1024 + 1024 + 1024 + l.val) % 4096 = 1024 * 3 + l.val; have := l.isLt; omega))

theorem out_apply (I : Ins Ideal) (c : Dev nD) (r : Fin 256) (n : Fin 1024) :
    outV I c (ix3 (0 : Fin 1) r n)
      = ((partV I c c (ix2 r n) + partV I (fw (Fin.rev 0) c) c (ix2 r n) : EReal) + partV I (fw (Fin.rev 1) c) c (ix2 r n)) + partV I (fw (Fin.rev 2) c) c (ix2 r n) := by
  unfold outV k0_pay1
  rw [Idealize.ShloMosaic.shapeCast_addUnit_apply (d := ![256, 1024])]
  have hx : ∀ x : S256x1024.Idx → Elt Ideal .f32, shapeCast S256x1024 (s1Of x) shapeCasts_S1x256x1024_S256x1024 = x := fun x => by
    funext y
    rw [Idealize.ShloMosaic.shapeCast_dropUnit_apply (d := ![256, 1024])]
    have h0 : (y 0).val < 256 := (y 0).isLt
    have h1 : (y 1).val < 1024 := (y 1).isLt
    exact congrArg x (rix_self y _ _ (Nat.mod_eq_of_lt h0) (Nat.mod_eq_of_lt h1))
  rw [hx, hx, hx]
  have hj : @Eq S256x1024.Idx (fun a : Fin 2 => (ix3 (0 : Fin 1) r n : S1x256x1024.Idx) a.succ) (ix2 r n) := by
    funext a
    match a with
    | ⟨0, _⟩ => rfl
    | ⟨1, _⟩ => rfl
  generalize partV I c c = A0
  generalize partV I (fw (Fin.rev 0) c) c = A1
  generalize partV I (fw (Fin.rev 1) c) c = A2
  generalize partV I (fw (Fin.rev 2) c) c = A3
  exact congrArg (addf (addf (addf (A0 : FVec Ideal S256x1024 .f32) A1) A2) A3 : S256x1024.Idx → Ideal .f32) hj

/-- Around the ring from any device, the four shares are the same four. -/
theorem ring_sum (S : Dev nD → EReal) (c : Dev nD) :
    ((S c + S (fw (Fin.rev 0) c)) + S (fw (Fin.rev 1) c)) + S (fw (Fin.rev 2) c) = ((S 0 + S 1) + S 2) + S 3 := by
  have hc : c = 0 ∨ c = 1 ∨ c = 2 ∨ c = 3 := by revert c; decide
  rcases hc with rfl | rfl | rfl | rfl
  · rw [show fw (Fin.rev 0) (0 : Dev nD) = 3 from by decide, show fw (Fin.rev 1) (0 : Dev nD) = 2 from by decide, show fw (Fin.rev 2) (0 : Dev nD) = 1 from by decide]
    abel
  · rw [show fw (Fin.rev 0) (1 : Dev nD) = 0 from by decide, show fw (Fin.rev 1) (1 : Dev nD) = 3 from by decide, show fw (Fin.rev 2) (1 : Dev nD) = 2 from by decide]
    abel
  · rw [show fw (Fin.rev 0) (2 : Dev nD) = 1 from by decide, show fw (Fin.rev 1) (2 : Dev nD) = 0 from by decide, show fw (Fin.rev 2) (2 : Dev nD) = 3 from by decide]
    abel
  · rw [show fw (Fin.rev 0) (3 : Dev nD) = 2 from by decide, show fw (Fin.rev 1) (3 : Dev nD) = 1 from by decide, show fw (Fin.rev 2) (3 : Dev nD) = 0 from by decide]
    abel

theorem out_eq (hC : Cut G I) (hR : Reals G) (c : Dev nD) :
    outV I c = Layout.block ⟨3, ![1, 256, 1024]⟩ ⟨3, ![1, 1024, 1024]⟩ 1 4 c (Ref.rOut (Ref.rFour (Ref.rQ G.X G.W) G.K G.V) G.O) := by
  funext y
  obtain ⟨z, r, n, rfl⟩ : ∃ (z : Fin 1) (r : Fin 256) (n : Fin 1024), y = ix3 z r n := ⟨y 0, y 1, y 2, eq_ix3 y⟩
  obtain rfl : z = 0 := Subsingleton.elim _ _
  have hb : Layout.block ⟨3, ![1, 256, 1024]⟩ ⟨3, ![1, 1024, 1024]⟩ 1 4 c (Ref.rOut (Ref.rFour (Ref.rQ G.X G.W) G.K G.V) G.O) (by decide) (ix3 (0 : Fin 1) r n)
      = Ref.rOut (Ref.rFour (Ref.rQ G.X G.W) G.K G.V) G.O (ix3 (0 : Fin 1) (gi c r) n) := by
    refine congrArg (Ref.rOut (Ref.rFour (Ref.rQ G.X G.W) G.K G.V) G.O) (funext fun b => Fin.ext ?_)
    match b with
    | ⟨0, _⟩ => rfl
    | ⟨1, _⟩ => show c.val * 256 + r.val = 256 * c.val + r.val; omega
    | ⟨2, _⟩ => rfl
  refine Eq.trans ?_ hb.symm
  rw [out_apply, ref_eq, part_eq hC hR, part_eq hC hR, part_eq hC hR, part_eq hC hR]
  exact ring_sum (fun p => ∑ l : Fin 1024, term G (gi c r) n (gl p l)) c

end Cert.KProof
-- ==== Proof.Agree.lean ====
module

public import proofs.«01_k».proof.Defs
public import proofs.«01_k».proof.Proof.Frames
public import proofs.«01_k».proof.Proof.Alg

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

/-! ## The two programs agree -/

theorem preK : Cert.Pre_finite_scores_KernelIdeal.Facts := ⟨by decide, by decide, by decide⟩
theorem preR : Cert.Pre_finite_scores_ReferenceIdeal.Facts := ⟨by decide, by decide, by decide⟩

/-- A value whose magnitude is below the infinity is real. -/
theorem isReal_of_olt (x : Ideal .f32) (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  refine isReal_of_ne ?_ ?_ <;> rintro rfl <;> simp at h'

/-- The whole arrays, from the reference's memory. -/
def whole (m' : (ℓ : Loc Cert.ReferenceIdeal.nD Cert.ReferenceIdeal.τ Cert.ReferenceIdeal.sig) → Buf (Elt Ideal) ℓ) : Whole where
  X := m' (((0 : Dev Cert.ReferenceIdeal.nD).tc : Thread Cert.ReferenceIdeal.nD Cert.ReferenceIdeal.τ).loc Cert.ReferenceIdeal.main_arg0)
  W := m' (((0 : Dev Cert.ReferenceIdeal.nD).tc : Thread Cert.ReferenceIdeal.nD Cert.ReferenceIdeal.τ).loc Cert.ReferenceIdeal.main_arg1)
  O := m' (((0 : Dev Cert.ReferenceIdeal.nD).tc : Thread Cert.ReferenceIdeal.nD Cert.ReferenceIdeal.τ).loc Cert.ReferenceIdeal.main_arg2)
  K := m' (((0 : Dev Cert.ReferenceIdeal.nD).tc : Thread Cert.ReferenceIdeal.nD Cert.ReferenceIdeal.τ).loc Cert.ReferenceIdeal.main_arg3)
  V := m' (((0 : Dev Cert.ReferenceIdeal.nD).tc : Thread Cert.ReferenceIdeal.nD Cert.ReferenceIdeal.τ).loc Cert.ReferenceIdeal.main_arg4)

theorem reals {G : Whole} {I : Ins Ideal} (hC : Cut G I) (hX : ∀ (c : Dev nD) j, IsReal (I.X c j)) (hW : ∀ (c : Dev nD) j, IsReal (I.Wq c j))
    (hK : ∀ (c : Dev nD) j, IsReal (I.Kc c j)) : Reals G where
  X := fun j => by
    obtain ⟨z, i, a, rfl⟩ : ∃ (z : Fin 1) (i : Fin 1024) (a : Fin 1024), j = ix3 z i a := ⟨j 0, j 1, j 2, eq_ix3 j⟩
    obtain rfl : z = 0 := Subsingleton.elim _ _
    have hi := i.isLt
    have e : i = gi (⟨i.val / 256, by show _ < 4; omega⟩ : Dev nD) ⟨i.val % 256, Nat.mod_lt _ (by decide)⟩ := Fin.ext (by show i.val = 256 * (i.val / 256) + i.val % 256; omega)
    rw [e, ← x_at hC]
    exact hX _ _
  W := fun j => by
    obtain ⟨a, l, rfl⟩ : ∃ (a : Fin 1024) (l : Fin 4096), j = ix2 a l := ⟨j 0, j 1, eq_ix2 j⟩
    have hl := l.isLt
    have e : l = gl (⟨l.val / 1024, by show _ < 4; omega⟩ : Dev nD) ⟨l.val % 1024, Nat.mod_lt _ (by decide)⟩ := Fin.ext (by show l.val = 1024 * (l.val / 1024) + l.val % 1024; omega)
    rw [e, ← w_at hC]
    exact hW _ _
  K := fun j => by
    rw [← hC.K (0 : Dev nD)]
    exact hK _ _

theorem agree : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := preK) := by
  intro m ρ m' ρ' hpre hin
  have hC : Cut (whole m') (ins m ρ) :=
    { X := fun c => (ins_X m ρ c).trans (hin c).1
      W := fun c => (ins_Wq m ρ c).trans (hin c).2.1
      O := fun c => (ins_Wo m ρ c).trans (hin c).2.2.1
      K := fun c => (hin c).2.2.2.1
      V := fun c => (hin c).2.2.2.2 }
  have hR : Reals (whole m') := reals hC
    (fun c j => by rw [ins_X]; exact isReal_of_olt _ (congrFun (hpre c).1 j))
    (fun c j => by rw [ins_Wq]; exact isReal_of_olt _ (congrFun (hpre c).2.1 j))
    (fun c j => isReal_of_olt _ (congrFun (hpre c).2.2 j))
  refine ⟨Cert.ReferenceIdeal.Value.res_main_v101 m' (0 : Dev Cert.ReferenceIdeal.nD), ?_, ?_⟩
  · refine (θ_run defs _ _).mono (fun r h c => ?_) (run_main (F := Ideal) m ρ)
    have hE := (ends m ρ r h).1 c
    refine ⟨?_, hE⟩
    refine (((h.1 c).1 (3 : Fin 4)).trans (finalA_out m ρ c)).trans ?_
    rw [out_eq hC hR c, Ref.res_eq]
    rfl
  · exact (θ_run Cert.ReferenceIdeal.defs _ _).mono (fun r h => h (0 : Dev Cert.ReferenceIdeal.nD)) (Cert.ReferenceIdeal.Value.run (F := Ideal) m' ρ')

end Cert.KProof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Agree

@[expose] public section

noncomputable section

namespace Cert.Proof

open Idealize.ShloMosaic Idealize.SL.Sem Cert.Kernel

theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.KProof.preK, Cert.KProof.preR,
  Cert.KProof.frame_kernel, Cert.KProof.frame_kernelIdeal, fun m ρ _ => Cert.KProof.frame_kernelIdeal m ρ trivial,
  frame_reference, fun m ρ _ => frame_reference m ρ trivial, trivial, Cert.KProof.agree⟩

end Cert.Proof

end
